-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_padded [hPre_finite_and_padded : Cert.Pre_finite_and_padded.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_padded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_and_padded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_and_padded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_and_padded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_padded [hPre_finite_and_padded : Cert.Pre_finite_and_padded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_padded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_and_padded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_and_padded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_and_padded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_and_padded [hKernelIdeal : Cert.KernelIdeal.Facts] [hPre_finite_and_padded : Cert.Pre_finite_and_padded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_padded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_and_padded [hReferenceIdeal : Cert.ReferenceIdeal.Facts] [hPre_finite_and_padded : Cert.Pre_finite_and_padded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_padded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_and_padded [hKernelIdeal : Cert.KernelIdeal.Facts] [hReferenceIdeal : Cert.ReferenceIdeal.Facts] [hPre_finite_and_padded : Cert.Pre_finite_and_padded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_padded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v200) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_v201) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_and_padded : Cert.Pre_finite_and_padded.Facts),
    quiescent_Kernel (hKernel := hKernel)
    ∧ quiescent_KernelIdeal (hKernelIdeal := hKernelIdeal)
    ∧ quiescent_KernelIdeal_pre_finite_and_padded (hKernelIdeal := hKernelIdeal) (hPre_finite_and_padded := hPre_finite_and_padded)
    ∧ quiescent_ReferenceIdeal (hReferenceIdeal := hReferenceIdeal)
    ∧ quiescent_ReferenceIdeal_pre_finite_and_padded (hReferenceIdeal := hReferenceIdeal) (hPre_finite_and_padded := hPre_finite_and_padded)
    ∧ preserves_Kernel_KernelIdeal
    ∧ algebraic_KernelIdeal_ReferenceIdeal_pre_finite_and_padded (hKernelIdeal := hKernelIdeal) (hReferenceIdeal := hReferenceIdeal) (hPre_finite_and_padded := hPre_finite_and_padded)
-- ==== Pre_finite_and_padded.lean ====
abbrev S64x512x1024 : Shape := ⟨3, ![64, 512, 1024]⟩
abbrev S1024x4 : Shape := ⟨2, ![1024, 4]⟩
abbrev S4 : Shape := ⟨1, ![4]⟩
abbrev S64x20 : Shape := ⟨2, ![64, 20]⟩
abbrev S64 : Shape := ⟨1, ![64]⟩
abbrev S64x512 : Shape := ⟨2, ![64, 512]⟩
abbrev S_ : Shape := ⟨0, ![]⟩
abbrev S64x1 : Shape := ⟨2, ![64, 1]⟩

class Facts : Prop where
  bcast_S_S64x512x1024 : S_.BroadcastsInDim S64x512x1024 (![] : Fin 0 → Fin S64x512x1024.rank)
  bcast_S_S1024x4 : S_.BroadcastsInDim S1024x4 (![] : Fin 0 → Fin S1024x4.rank)
  bcast_S_S4 : S_.BroadcastsInDim S4 (![] : Fin 0 → Fin S4.rank)
  slices_S64x20_S64x1_0_0 : S64x20.Slices ![0, 0] S64x1
  bcast_S_S64x1 : S_.BroadcastsInDim S64x1 (![] : Fin 0 → Fin S64x1.rank)
  bcast_S_S64x20 : S_.BroadcastsInDim S64x20 (![] : Fin 0 → Fin S64x20.rank)
  bcast_S64x1_S64x20_0_1 : S64x1.BroadcastsInDim S64x20 (![0, 1] : Fin 2 → Fin S64x20.rank)

variable [Facts]

def fn {F : FTy → Type} [FloatOps F] (main_arg0 : FVec F S64x512x1024 .f32) (main_arg1 : FVec F S1024x4 .f32) (main_arg2 : FVec F S4 .f32) (main_arg3 : IVec S64x20 32) (main_arg4 : IVec S64 32) (main_arg5 : FVec F S64x512 .f32) (main_arg6 : FVec F S64x512 .f32) (main_arg7 : FVec F S64x512 .f32) (main_arg8 : FVec F S64x512 .f32) : IVec S64x512x1024 1 × IVec S1024x4 1 × IVec S4 1 × IVec S64x20 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_v3 : FVec F S1024x4 .f32 := Host.absf main_arg1
  let main_cst_0 : FVec F S_ .f32 := constant S_ .f32 0x7F800000#32
  let main_v4 : FVec F S1024x4 .f32 := broadcastInDim S1024x4 ![] bcast_S_S1024x4 main_cst_0
  let main_v5 : IVec S1024x4 1 := cmpf .olt main_v3 main_v4
  let main_v6 : FVec F S4 .f32 := Host.absf main_arg2
  let main_cst_1 : FVec F S_ .f32 := constant S_ .f32 0x7F800000#32
  let main_v7 : FVec F S4 .f32 := broadcastInDim S4 ![] bcast_S_S4 main_cst_1
  let main_v8 : IVec S4 1 := cmpf .olt main_v6 main_v7
  let main_v9 : IVec S64x1 32 := (extractStridedSlice S64x1 ![0, 0] · slices_S64x20_S64x1_0_0) main_arg3
  let main_c : IVec S_ 32 := constantI S_ 32 0#32
  let main_v10 : IVec S64x1 32 := broadcastInDim S64x1 ![] bcast_S_S64x1 main_c
  let main_v11 : IVec S64x1 1 := cmpi .sle main_v9 main_v10
  let main_c_2 : IVec S_ 32 := constantI S_ 32 0#32
  let main_v12 : IVec S64x20 32 := broadcastInDim S64x20 ![] bcast_S_S64x20 main_c_2
  let main_v13 : IVec S64x20 1 := cmpi .sgt main_arg3 main_v12
  let main_v14 : IVec S64x20 1 := broadcastInDim S64x20 ![0, 1] bcast_S64x1_S64x20_0_1 main_v11
  let main_v15 : IVec S64x20 1 := ori main_v14 main_v13
  (main_v2, main_v5, main_v8, main_v15)
-- ==== Kernel.lean ====
abbrev S64x512x1024 : Shape := ⟨3, ![64, 512, 1024]⟩
abbrev S1024x4 : Shape := ⟨2, ![1024, 4]⟩
abbrev S4 : Shape := ⟨1, ![4]⟩
abbrev S64x20 : Shape := ⟨2, ![64, 20]⟩
abbrev S64 : Shape := ⟨1, ![64]⟩
abbrev S64x512 : Shape := ⟨2, ![64, 512]⟩
abbrev S4x1024 : Shape := ⟨2, ![4, 1024]⟩
abbrev S4x1 : Shape := ⟨2, ![4, 1]⟩
abbrev S64x1 : Shape := ⟨2, ![64, 1]⟩
abbrev S64x9 : Shape := ⟨2, ![64, 9]⟩
abbrev S64x3 : Shape := ⟨2, ![64, 3]⟩
abbrev S64x1x1024 : Shape := ⟨3, ![64, 1, 1024]⟩
abbrev S8x512x1024 : Shape := ⟨3, ![8, 512, 1024]⟩
abbrev S8x20 : Shape := ⟨2, ![8, 20]⟩
abbrev S8x1 : Shape := ⟨2, ![8, 1]⟩
abbrev S8x9 : Shape := ⟨2, ![8, 9]⟩
abbrev S8x3 : Shape := ⟨2, ![8, 3]⟩
abbrev S8x1x1024 : Shape := ⟨3, ![8, 1, 1024]⟩
abbrev S4096x1024 : Shape := ⟨2, ![4096, 1024]⟩
abbrev S4x4096 : Shape := ⟨2, ![4, 4096]⟩
abbrev S1x512 : Shape := ⟨2, ![1, 512]⟩
abbrev S16x512 : Shape := ⟨2, ![16, 512]⟩
abbrev S1x1x1024 : Shape := ⟨3, ![1, 1, 1024]⟩
abbrev S1x1024 : Shape := ⟨2, ![1, 1024]⟩
abbrev S16x20 : Shape := ⟨2, ![16, 20]⟩
abbrev S16x1 : Shape := ⟨2, ![16, 1]⟩
abbrev S16 : Shape := ⟨1, ![16]⟩
abbrev S16x9 : Shape := ⟨2, ![16, 9]⟩
abbrev S64x3x3 : Shape := ⟨3, ![64, 3, 3]⟩
abbrev S64x1x3 : Shape := ⟨3, ![64, 1, 3]⟩
abbrev S64x1024 : Shape := ⟨2, ![64, 1024]⟩

abbrev nBuf : Space → Nat
  | .hbm => 20
  | .vmem => 16
  | .smem => 0
  | _ => 0

abbrev bufTy : (tb : Table) → Fin (tcTables nBuf tb) → BufTy
  | .hbm, ⟨0, _⟩ => ⟨S64x512x1024, .f32⟩
  | .hbm, ⟨1, _⟩ => ⟨S1024x4, .f32⟩
  | .hbm, ⟨2, _⟩ => ⟨S4, .f32⟩
  | .hbm, ⟨3, _⟩ => ⟨S64x20, .i32⟩
  | .hbm, ⟨4, _⟩ => ⟨S64, .i32⟩
  | .hbm, ⟨5, _⟩ => ⟨S64x512, .f32⟩
  | .hbm, ⟨6, _⟩ => ⟨S64x512, .f32⟩
  | .hbm, ⟨7, _⟩ => ⟨S64x512, .f32⟩
  | .hbm, ⟨8, _⟩ => ⟨S64x512, .f32⟩
  | .hbm, ⟨9, _⟩ => ⟨S4x1024, .f32⟩
  | .hbm, ⟨10, _⟩ => ⟨S4x1, .f32⟩
  | .hbm, ⟨11, _⟩ => ⟨S64x1, .i32⟩
  | .hbm, ⟨12, _⟩ => ⟨S64x9, .i32⟩
  | .hbm, ⟨13, _⟩ => ⟨S64x3, .i32⟩
  | .hbm, ⟨14, _⟩ => ⟨S64x1x1024, .f32⟩
  | .hbm, ⟨15, _⟩ => ⟨S64x1, .f32⟩
  | .hbm, ⟨16, _⟩ => ⟨S64x3x3, .i32⟩
  | .hbm, ⟨17, _⟩ => ⟨S64x1x3, .i32⟩
  | .hbm, ⟨18, _⟩ => ⟨S64x1024, .f32⟩
  | .hbm, ⟨19, _⟩ => ⟨S64, .f32⟩
  | .local _ .vmem, ⟨0, _⟩ => ⟨S8x512x1024, .f32⟩
  | .local _ .vmem, ⟨1, _⟩ => ⟨S8x512x1024, .f32⟩
  | .local _ .vmem, ⟨2, _⟩ => ⟨S4x1024, .f32⟩
  | .local _ .vmem, ⟨3, _⟩ => ⟨S4x1, .f32⟩
  | .local _ .vmem, ⟨4, _⟩ => ⟨S8x20, .i32⟩
  | .local _ .vmem, ⟨5, _⟩ => ⟨S8x20, .i32⟩
  | .local _ .vmem, ⟨6, _⟩ => ⟨S8x1, .i32⟩
  | .local _ .vmem, ⟨7, _⟩ => ⟨S8x1, .i32⟩
  | .local _ .vmem, ⟨8, _⟩ => ⟨S8x9, .i32⟩
  | .local _ .vmem, ⟨9, _⟩ => ⟨S8x9, .i32⟩
  | .local _ .vmem, ⟨10, _⟩ => ⟨S8x3, .i32⟩
  | .local _ .vmem, ⟨11, _⟩ => ⟨S8x3, .i32⟩
  | .local _ .vmem, ⟨12, _⟩ => ⟨S8x1x1024, .f32⟩
  | .local _ .vmem, ⟨13, _⟩ => ⟨S8x1x1024, .f32⟩
  | .local _ .vmem, ⟨14, _⟩ => ⟨S8x1, .f32⟩
  | .local _ .vmem, ⟨15, _⟩ => ⟨S8x1, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x20 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x9 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x3 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S64x512x1024 : Shape := ⟨3, ![64, 512, 1024]⟩
abbrev S1024x4 : Shape := ⟨2, ![1024, 4]⟩
abbrev S4 : Shape := ⟨1, ![4]⟩
abbrev S64x20 : Shape := ⟨2, ![64, 20]⟩
abbrev S64 : Shape := ⟨1, ![64]⟩
abbrev S64x512 : Shape := ⟨2, ![64, 512]⟩
abbrev S64x1x1024 : Shape := ⟨3, ![64, 1, 1024]⟩
abbrev S64x1024 : Shape := ⟨2, ![64, 1024]⟩
abbrev S64x512x4 : Shape := ⟨3, ![64, 512, 4]⟩
abbrev S1x1x4 : Shape := ⟨3, ![1, 1, 4]⟩
abbrev S64x512x1 : Shape := ⟨3, ![64, 512, 1]⟩
abbrev S64x1 : Shape := ⟨2, ![64, 1]⟩
abbrev S_ : Shape := ⟨0, ![]⟩
abbrev S512 : Shape := ⟨1, ![512]⟩
abbrev S1x512 : Shape := ⟨2, ![1, 512]⟩
abbrev S64x3 : Shape := ⟨2, ![64, 3]⟩
abbrev S64x1x20 : Shape := ⟨3, ![64, 1, 20]⟩
abbrev S64x3x1 : Shape := ⟨3, ![64, 3, 1]⟩
abbrev S64x3x20 : Shape := ⟨3, ![64, 3, 20]⟩
abbrev S3 : Shape := ⟨1, ![3]⟩
abbrev S10 : Shape := ⟨1, ![10]⟩
abbrev S1x10 : Shape := ⟨2, ![1, 10]⟩
abbrev S1x1x10 : Shape := ⟨3, ![1, 1, 10]⟩
abbrev S64x3x10 : Shape := ⟨3, ![64, 3, 10]⟩
abbrev S64x3x10x1 : Shape := ⟨4, ![64, 3, 10, 1]⟩
abbrev S3x10 : Shape := ⟨2, ![3, 10]⟩
abbrev S64x3x3 : Shape := ⟨3, ![64, 3, 3]⟩
abbrev S3x3 : Shape := ⟨2, ![3, 3]⟩
abbrev S1x3 : Shape := ⟨2, ![1, 3]⟩
abbrev S64x1x1 : Shape := ⟨3, ![64, 1, 1]⟩
abbrev S1 : Shape := ⟨1, ![1]⟩
abbrev S64x1x10 : Shape := ⟨3, ![64, 1, 10]⟩
abbrev S64x1x10x1 : Shape := ⟨4, ![64, 1, 10, 1]⟩
abbrev S64x1x3 : Shape := ⟨3, ![64, 1, 3]⟩
abbrev S1x1 : Shape := ⟨2, ![1, 1]⟩

abbrev nBuf : Space → Nat
  | .hbm => 347
  | .vmem => 0
  | .smem => 0
  | _ => 0

abbrev hbmTy0_0 (i : Nat) : BufTy := match i % 128 with
  | 0 => ⟨S64x512x1024, .f32⟩
  | 1 => ⟨S1024x4, .f32⟩
  | 2 => ⟨S4, .f32⟩
  | 3 => ⟨S64x20, .i32⟩
  | 4 => ⟨S64, .i32⟩
  | 5 => ⟨S64x512, .f32⟩
  | 6 => ⟨S64x512, .f32⟩
  | 7 => ⟨S64x512, .f32⟩
  | 8 => ⟨S64x512, .f32⟩
  | 9 => ⟨S64x1x1024, .f32⟩
  | 10 => ⟨S64x1024, .f32⟩
  | 11 => ⟨S64x512x4, .f32⟩
  | 12 => ⟨S1x1x4, .f32⟩
  | 13 => ⟨S64x512x4, .f32⟩
  | 14 => ⟨S64x512x4, .f32⟩
  | 15 => ⟨S64x512x1, .f32⟩
  | 16 => ⟨S64x512, .f32⟩
  | 17 => ⟨S64x512x1, .f32⟩
  | 18 => ⟨S64x512, .f32⟩
  | 19 => ⟨S64x512x1, .f32⟩
  | 20 => ⟨S64x512, .f32⟩
  | 21 => ⟨S64x512x1, .f32⟩
  | 22 => ⟨S64x512, .f32⟩
  | 23 => ⟨S64x1, .f32⟩
  | 24 => ⟨S64, .f32⟩
  | 25 => ⟨S_, .f32⟩
  | 26 => ⟨S64, .f32⟩
  | 27 => ⟨S64, .f32⟩
  | 28 => ⟨S512, .i32⟩
  | 29 => ⟨S1x512, .i32⟩
  | 30 => ⟨S64x1, .i32⟩
  | 31 => ⟨S64x512, .i32⟩
  | 32 => ⟨S64x512, .i32⟩
  | 33 => ⟨S64x512, .i1⟩
  | 34 => ⟨S_, .f32⟩
  | 35 => ⟨S_, .f32⟩
  | 36 => ⟨S512, .f32⟩
  | 37 => ⟨S64x512, .f32⟩
  | 38 => ⟨S64x512, .f32⟩
  | 39 => ⟨S64x3, .f32⟩
  | 40 => ⟨S64x3, .i32⟩
  | 41 => ⟨S64x1x20, .i32⟩
  | 42 => ⟨S64x3x1, .i32⟩
  | 43 => ⟨S64x3x20, .i32⟩
  | 44 => ⟨S64x3x20, .i32⟩
  | 45 => ⟨S64x3x20, .i1⟩
  | 46 => ⟨S64x1x20, .i32⟩
  | 47 => ⟨S_, .i32⟩
  | 48 => ⟨S64x1x20, .i32⟩
  | 49 => ⟨S64x1x20, .i1⟩
  | 50 => ⟨S64x3x20, .i1⟩
  | 51 => ⟨S64x3x20, .i1⟩
  | 52 => ⟨S_, .i1⟩
  | 53 => ⟨S64x3, .i1⟩
  | 54 => ⟨S64x3x20, .i32⟩
  | 55 => ⟨S_, .i1⟩
  | 56 => ⟨S_, .i32⟩
  | 57 => ⟨S64x3, .i1⟩
  | 58 => ⟨S64x3, .i32⟩
  | 59 => ⟨S_, .i32⟩
  | 60 => ⟨S_, .i32⟩
  | 61 => ⟨S3, .i32⟩
  | 62 => ⟨S64x3, .i32⟩
  | 63 => ⟨S64x3, .i32⟩
  | 64 => ⟨S_, .i32⟩
  | 65 => ⟨S64x3, .i32⟩
  | 66 => ⟨S64x3, .i1⟩
  | 67 => ⟨S_, .i32⟩
  | 68 => ⟨S64x3, .i32⟩
  | 69 => ⟨S64x3, .i32⟩
  | 70 => ⟨S64x3, .i32⟩
  | 71 => ⟨S64x3x1, .i32⟩
  | 72 => ⟨S64x3, .i32⟩
  | 73 => ⟨S64x1, .f32⟩
  | 74 => ⟨S64x3, .f32⟩
  | 75 => ⟨S64x3, .i1⟩
  | 76 => ⟨S64x3, .i1⟩
  | 77 => ⟨S64x3, .i1⟩
  | 78 => ⟨S64x3, .i32⟩
  | 79 => ⟨S_, .i32⟩
  | 80 => ⟨S_, .i32⟩
  | 81 => ⟨S64x3, .i32⟩
  | 82 => ⟨S_, .i32⟩
  | 83 => ⟨S64x3, .i32⟩
  | 84 => ⟨S64x3, .i1⟩
  | 85 => ⟨S_, .i32⟩
  | 86 => ⟨S64x3, .i32⟩
  | 87 => ⟨S64x3, .i32⟩
  | 88 => ⟨S64x3, .i32⟩
  | 89 => ⟨S64x3x1, .i32⟩
  | 90 => ⟨S10, .i32⟩
  | 91 => ⟨S1x10, .i32⟩
  | 92 => ⟨S1x1x10, .i32⟩
  | 93 => ⟨S64x3x10, .i32⟩
  | 94 => ⟨S64x3x10, .i32⟩
  | 95 => ⟨S64x3x10, .i32⟩
  | 96 => ⟨S64x3x1, .i32⟩
  | 97 => ⟨S64x3x10, .i32⟩
  | 98 => ⟨S64x3x10, .i1⟩
  | 99 => ⟨S_, .i32⟩
  | 100 => ⟨S_, .i32⟩
  | 101 => ⟨S_, .i32⟩
  | 102 => ⟨S64x3x10, .i32⟩
  | 103 => ⟨S64x3x10, .i32⟩
  | 104 => ⟨S_, .i32⟩
  | 105 => ⟨S64x3x10, .i32⟩
  | 106 => ⟨S64x3x10, .i32⟩
  | 107 => ⟨S_, .i32⟩
  | 108 => ⟨S64x3x10, .i32⟩
  | 109 => ⟨S64x3x10, .i1⟩
  | 110 => ⟨S_, .i32⟩
  | 111 => ⟨S64x3x10, .i32⟩
  | 112 => ⟨S64x3x10, .i32⟩
  | 113 => ⟨S64x3x10, .i32⟩
  | 114 => ⟨S64x3x10x1, .i32⟩
  | 115 => ⟨S64x3x10, .f32⟩
  | 116 => ⟨S_, .f32⟩
  | 117 => ⟨S_, .f32⟩
  | 118 => ⟨S3x10, .f32⟩
  | 119 => ⟨S64x3x10, .f32⟩
  | 120 => ⟨S64x3x10, .f32⟩
  | 121 => ⟨S64x3x10, .i32⟩
  | 122 => ⟨S_, .f32⟩
  | 123 => ⟨S_, .i32⟩
  | 124 => ⟨S64x3, .f32⟩
  | 125 => ⟨S64x3, .i32⟩
  | 126 => ⟨S64x3, .i32⟩
  | 127 => ⟨S64x3x1, .i1⟩
  | _ => ⟨S64x512x1024, .f32⟩

abbrev hbmTy0_1 (i : Nat) : BufTy := match i % 128 with
  | 0 => ⟨S64x3x1, .i32⟩
  | 1 => ⟨S64x3x1, .i32⟩
  | 2 => ⟨S64x3x1, .i32⟩
  | 3 => ⟨S64x3x3, .i32⟩
  | 4 => ⟨S_, .i32⟩
  | 5 => ⟨S_, .i32⟩
  | 6 => ⟨S64x3x3, .i1⟩
  | 7 => ⟨S3x3, .i32⟩
  | 8 => ⟨S64x3x3, .i32⟩
  | 9 => ⟨S64x3x3, .i32⟩
  | 10 => ⟨S64x3, .i1⟩
  | 11 => ⟨S64x3, .i32⟩
  | 12 => ⟨S_, .i1⟩
  | 13 => ⟨S_, .i32⟩
  | 14 => ⟨S64, .i1⟩
  | 15 => ⟨S64, .i32⟩
  | 16 => ⟨S3, .i32⟩
  | 17 => ⟨S1x3, .i32⟩
  | 18 => ⟨S64x1, .i32⟩
  | 19 => ⟨S64x3, .i32⟩
  | 20 => ⟨S64x3, .i32⟩
  | 21 => ⟨S64x3, .i1⟩
  | 22 => ⟨S64x3, .i1⟩
  | 23 => ⟨S_, .i1⟩
  | 24 => ⟨S64, .i1⟩
  | 25 => ⟨S64x3, .i1⟩
  | 26 => ⟨S_, .i1⟩
  | 27 => ⟨S64, .i1⟩
  | 28 => ⟨S64, .i1⟩
  | 29 => ⟨S64, .i1⟩
  | 30 => ⟨S64x1, .f32⟩
  | 31 => ⟨S64, .f32⟩
  | 32 => ⟨S_, .f32⟩
  | 33 => ⟨S_, .f32⟩
  | 34 => ⟨S3, .f32⟩
  | 35 => ⟨S64x3, .f32⟩
  | 36 => ⟨S64x3, .f32⟩
  | 37 => ⟨S_, .f32⟩
  | 38 => ⟨S64, .f32⟩
  | 39 => ⟨S64, .f32⟩
  | 40 => ⟨S_, .f32⟩
  | 41 => ⟨S_, .f32⟩
  | 42 => ⟨S64, .f32⟩
  | 43 => ⟨S64, .f32⟩
  | 44 => ⟨S64x1, .i32⟩
  | 45 => ⟨S64, .i32⟩
  | 46 => ⟨S_, .i32⟩
  | 47 => ⟨S64, .i32⟩
  | 48 => ⟨S64, .i1⟩
  | 49 => ⟨S_, .i32⟩
  | 50 => ⟨S_, .i32⟩
  | 51 => ⟨S3x3, .i32⟩
  | 52 => ⟨S64x3x3, .i32⟩
  | 53 => ⟨S64x3x3, .i1⟩
  | 54 => ⟨S64x3x3, .i32⟩
  | 55 => ⟨S_, .f32⟩
  | 56 => ⟨S_, .f32⟩
  | 57 => ⟨S64, .f32⟩
  | 58 => ⟨S64, .f32⟩
  | 59 => ⟨S64x1, .f32⟩
  | 60 => ⟨S64, .f32⟩
  | 61 => ⟨S_, .f32⟩
  | 62 => ⟨S64, .f32⟩
  | 63 => ⟨S64, .f32⟩
  | 64 => ⟨S512, .i32⟩
  | 65 => ⟨S1x512, .i32⟩
  | 66 => ⟨S64x1, .i32⟩
  | 67 => ⟨S64x512, .i32⟩
  | 68 => ⟨S64x512, .i32⟩
  | 69 => ⟨S64x512, .i1⟩
  | 70 => ⟨S_, .f32⟩
  | 71 => ⟨S_, .f32⟩
  | 72 => ⟨S512, .f32⟩
  | 73 => ⟨S64x512, .f32⟩
  | 74 => ⟨S64x512, .f32⟩
  | 75 => ⟨S64x1, .f32⟩
  | 76 => ⟨S64x1, .i32⟩
  | 77 => ⟨S64x1x20, .i32⟩
  | 78 => ⟨S64x1x1, .i32⟩
  | 79 => ⟨S64x1x20, .i32⟩
  | 80 => ⟨S64x1x20, .i1⟩
  | 81 => ⟨S64x1x20, .i32⟩
  | 82 => ⟨S_, .i32⟩
  | 83 => ⟨S64x1x20, .i32⟩
  | 84 => ⟨S64x1x20, .i1⟩
  | 85 => ⟨S64x1x20, .i1⟩
  | 86 => ⟨S_, .i1⟩
  | 87 => ⟨S64x1, .i1⟩
  | 88 => ⟨S64x1x20, .i32⟩
  | 89 => ⟨S_, .i1⟩
  | 90 => ⟨S_, .i32⟩
  | 91 => ⟨S64x1, .i1⟩
  | 92 => ⟨S64x1, .i32⟩
  | 93 => ⟨S_, .i32⟩
  | 94 => ⟨S_, .i32⟩
  | 95 => ⟨S1, .i32⟩
  | 96 => ⟨S64x1, .i32⟩
  | 97 => ⟨S64x1, .i32⟩
  | 98 => ⟨S_, .i32⟩
  | 99 => ⟨S64x1, .i32⟩
  | 100 => ⟨S64x1, .i1⟩
  | 101 => ⟨S_, .i32⟩
  | 102 => ⟨S64x1, .i32⟩
  | 103 => ⟨S64x1, .i32⟩
  | 104 => ⟨S64x1, .i32⟩
  | 105 => ⟨S64x1x1, .i32⟩
  | 106 => ⟨S64x1, .i32⟩
  | 107 => ⟨S64x1, .f32⟩
  | 108 => ⟨S64x1, .i1⟩
  | 109 => ⟨S64x1, .i1⟩
  | 110 => ⟨S64x1, .i1⟩
  | 111 => ⟨S64x1, .i32⟩
  | 112 => ⟨S_, .i32⟩
  | 113 => ⟨S_, .i32⟩
  | 114 => ⟨S64x1, .i32⟩
  | 115 => ⟨S_, .i32⟩
  | 116 => ⟨S64x1, .i32⟩
  | 117 => ⟨S64x1, .i1⟩
  | 118 => ⟨S_, .i32⟩
  | 119 => ⟨S64x1, .i32⟩
  | 120 => ⟨S64x1, .i32⟩
  | 121 => ⟨S64x1, .i32⟩
  | 122 => ⟨S64x1x1, .i32⟩
  | 123 => ⟨S10, .i32⟩
  | 124 => ⟨S1x10, .i32⟩
  | 125 => ⟨S1x1x10, .i32⟩
  | 126 => ⟨S64x1x10, .i32⟩
  | 127 => ⟨S64x1x10, .i32⟩
  | _ => ⟨S64x512x1024, .f32⟩

abbrev hbmTy0_2 (i : Nat) : BufTy := match i % 128 with
  | 0 => ⟨S64x1x10, .i32⟩
  | 1 => ⟨S64x1x1, .i32⟩
  | 2 => ⟨S64x1x10, .i32⟩
  | 3 => ⟨S64x1x10, .i1⟩
  | 4 => ⟨S_, .i32⟩
  | 5 => ⟨S_, .i32⟩
  | 6 => ⟨S_, .i32⟩
  | 7 => ⟨S64x1x10, .i32⟩
  | 8 => ⟨S64x1x10, .i32⟩
  | 9 => ⟨S_, .i32⟩
  | 10 => ⟨S64x1x10, .i32⟩
  | 11 => ⟨S64x1x10, .i32⟩
  | 12 => ⟨S_, .i32⟩
  | 13 => ⟨S64x1x10, .i32⟩
  | 14 => ⟨S64x1x10, .i1⟩
  | 15 => ⟨S_, .i32⟩
  | 16 => ⟨S64x1x10, .i32⟩
  | 17 => ⟨S64x1x10, .i32⟩
  | 18 => ⟨S64x1x10, .i32⟩
  | 19 => ⟨S64x1x10x1, .i32⟩
  | 20 => ⟨S64x1x10, .f32⟩
  | 21 => ⟨S_, .f32⟩
  | 22 => ⟨S_, .f32⟩
  | 23 => ⟨S1x10, .f32⟩
  | 24 => ⟨S64x1x10, .f32⟩
  | 25 => ⟨S64x1x10, .f32⟩
  | 26 => ⟨S64x1x10, .i32⟩
  | 27 => ⟨S_, .f32⟩
  | 28 => ⟨S_, .i32⟩
  | 29 => ⟨S64x1, .f32⟩
  | 30 => ⟨S64x1, .i32⟩
  | 31 => ⟨S64x1, .i32⟩
  | 32 => ⟨S64x1x1, .i1⟩
  | 33 => ⟨S64x1x1, .i32⟩
  | 34 => ⟨S64x1x1, .i32⟩
  | 35 => ⟨S64x1x1, .i32⟩
  | 36 => ⟨S64x1x3, .i32⟩
  | 37 => ⟨S_, .i32⟩
  | 38 => ⟨S_, .i32⟩
  | 39 => ⟨S64x1x3, .i1⟩
  | 40 => ⟨S1x3, .i32⟩
  | 41 => ⟨S64x1x3, .i32⟩
  | 42 => ⟨S64x1x3, .i32⟩
  | 43 => ⟨S64x1, .i1⟩
  | 44 => ⟨S64x1, .i32⟩
  | 45 => ⟨S_, .i1⟩
  | 46 => ⟨S_, .i32⟩
  | 47 => ⟨S64, .i1⟩
  | 48 => ⟨S64, .i32⟩
  | 49 => ⟨S1, .i32⟩
  | 50 => ⟨S1x1, .i32⟩
  | 51 => ⟨S64x1, .i32⟩
  | 52 => ⟨S64x1, .i32⟩
  | 53 => ⟨S64x1, .i1⟩
  | 54 => ⟨S64x1, .i1⟩
  | 55 => ⟨S_, .i1⟩
  | 56 => ⟨S64, .i1⟩
  | 57 => ⟨S64x1, .i1⟩
  | 58 => ⟨S_, .i1⟩
  | 59 => ⟨S64, .i1⟩
  | 60 => ⟨S64, .i1⟩
  | 61 => ⟨S64, .i1⟩
  | 62 => ⟨S64x1, .f32⟩
  | 63 => ⟨S64, .f32⟩
  | 64 => ⟨S_, .f32⟩
  | 65 => ⟨S_, .f32⟩
  | 66 => ⟨S1, .f32⟩
  | 67 => ⟨S64x1, .f32⟩
  | 68 => ⟨S64x1, .f32⟩
  | 69 => ⟨S_, .f32⟩
  | 70 => ⟨S64, .f32⟩
  | 71 => ⟨S64, .f32⟩
  | 72 => ⟨S_, .f32⟩
  | 73 => ⟨S_, .f32⟩
  | 74 => ⟨S64, .f32⟩
  | 75 => ⟨S64, .f32⟩
  | 76 => ⟨S64x1, .i32⟩
  | 77 => ⟨S64, .i32⟩
  | 78 => ⟨S_, .i32⟩
  | 79 => ⟨S64, .i32⟩
  | 80 => ⟨S64, .i1⟩
  | 81 => ⟨S_, .i32⟩
  | 82 => ⟨S_, .i32⟩
  | 83 => ⟨S1x3, .i32⟩
  | 84 => ⟨S64x1x3, .i32⟩
  | 85 => ⟨S64x1x3, .i1⟩
  | 86 => ⟨S64x1x3, .i32⟩
  | 87 => ⟨S_, .f32⟩
  | 88 => ⟨S_, .f32⟩
  | 89 => ⟨S64, .f32⟩
  | 90 => ⟨S64, .f32⟩
  | _ => ⟨S64x512x1024, .f32⟩

abbrev hbmTy (i : Nat) : BufTy := match i / 128 with
  | 0 => hbmTy0_0 i
  | 1 => hbmTy0_1 i
  | 2 => hbmTy0_2 i
  | _ => ⟨S64x512x1024, .f32⟩

abbrev bufTy : (tb : Table) → Fin (tcTables nBuf tb) → BufTy
  | .hbm, ⟨i, _⟩ => hbmTy i
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v24 : Ref sig .tc := ⟨.hbm, 38, rfl⟩
abbrev main_values : Ref sig .tc := ⟨.hbm, 39, rfl⟩
abbrev main_indices : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_1 : Ref sig .tc := ⟨.hbm, 52, rfl⟩
abbrev main_v35 : Ref sig .tc := ⟨.hbm, 53, rfl⟩
abbrev main_call1_v0 : Ref sig .tc := ⟨.hbm, 54, rfl⟩
abbrev main_call1_c : Ref sig .tc := ⟨.hbm, 55, rfl⟩
abbrev main_call1_c_0 : Ref sig .tc := ⟨.hbm, 56, rfl⟩
abbrev main_call1_v1_0 : Ref sig .tc := ⟨.hbm, 57, rfl⟩
abbrev main_v36 : Ref sig .tc := ⟨.hbm, 58, rfl⟩
abbrev main_c_2 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v37 : Ref sig .tc := ⟨.hbm, 63, rfl⟩
abbrev main_c_3 : Ref sig .tc := ⟨.hbm, 64, rfl⟩
abbrev main_v38 : Ref sig .tc := ⟨.hbm, 65, rfl⟩
abbrev main_v39 : Ref sig .tc := ⟨.hbm, 66, rfl⟩
abbrev main_c_4 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_call3_c : Ref sig .tc := ⟨.hbm, 79, rfl⟩
abbrev main_call3_v0 : Ref sig .tc := ⟨.hbm, 80, rfl⟩
abbrev main_v51 : Ref sig .tc := ⟨.hbm, 81, rfl⟩
abbrev main_c_5 : Ref sig .tc := ⟨.hbm, 82, rfl⟩
abbrev main_v52 : Ref sig .tc := ⟨.hbm, 83, rfl⟩
abbrev main_v53 : Ref sig .tc := ⟨.hbm, 84, rfl⟩
abbrev main_c_6 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_7 : Ref sig .tc := ⟨.hbm, 99, rfl⟩
abbrev main_c_8 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_v67 : Ref sig .tc := ⟨.hbm, 106, rfl⟩
abbrev main_c_9 : Ref sig .tc := ⟨.hbm, 107, rfl⟩
abbrev main_v68 : Ref sig .tc := ⟨.hbm, 108, rfl⟩
abbrev main_v69 : Ref sig .tc := ⟨.hbm, 109, rfl⟩
abbrev main_c_10 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_11 : Ref sig .tc := ⟨.hbm, 116, rfl⟩
abbrev main_call5_v0 : Ref sig .tc := ⟨.hbm, 117, rfl⟩
abbrev main_call5_v1 : Ref sig .tc := ⟨.hbm, 118, rfl⟩
abbrev main_call5_v2 : Ref sig .tc := ⟨.hbm, 119, rfl⟩
abbrev main_v75 : Ref sig .tc := ⟨.hbm, 120, rfl⟩
abbrev main_call6_v0 : Ref sig .tc := ⟨.hbm, 121, rfl⟩
abbrev main_call6_cst : Ref sig .tc := ⟨.hbm, 122, rfl⟩
abbrev main_call6_c : Ref sig .tc := ⟨.hbm, 123, rfl⟩
abbrev main_call6_v1_0 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_c_12 : Ref sig .tc := ⟨.hbm, 132, rfl⟩
abbrev main_call7_v0 : Ref sig .tc := ⟨.hbm, 133, rfl⟩
abbrev main_call7_v1 : Ref sig .tc := ⟨.hbm, 134, rfl⟩
abbrev main_call7_v2 : Ref sig .tc := ⟨.hbm, 135, rfl⟩
abbrev main_call7_v3 : Ref sig .tc := ⟨.hbm, 136, rfl⟩
abbrev main_v83 : Ref sig .tc := ⟨.hbm, 137, rfl⟩
abbrev main_v84 : Ref sig .tc := ⟨.hbm, 138, rfl⟩
abbrev main_call8_v0 : Ref sig .tc := ⟨.hbm, 139, rfl⟩
abbrev main_call8_c : Ref sig .tc := ⟨.hbm, 140, rfl⟩
abbrev main_call8_c_0 : Ref sig .tc := ⟨.hbm, 141, rfl⟩
abbrev main_call8_v1_0 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_c_13 : Ref sig .tc := ⟨.hbm, 151, rfl⟩
abbrev main_v93 : Ref sig .tc := ⟨.hbm, 152, rfl⟩
abbrev main_v94 : Ref sig .tc := ⟨.hbm, 153, rfl⟩
abbrev main_c_14 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_cst_15 : Ref sig .tc := ⟨.hbm, 160, rfl⟩
abbrev main_call9_v0 : Ref sig .tc := ⟨.hbm, 161, rfl⟩
abbrev main_call9_v1 : Ref sig .tc := ⟨.hbm, 162, rfl⟩
abbrev main_call9_v2 : Ref sig .tc := ⟨.hbm, 163, rfl⟩
abbrev main_v100 : Ref sig .tc := ⟨.hbm, 164, rfl⟩
abbrev main_cst_16 : Ref sig .tc := ⟨.hbm, 165, rfl⟩
abbrev main_v101 : Ref sig .tc := ⟨.hbm, 166, rfl⟩
abbrev main_v102 : Ref sig .tc := ⟨.hbm, 167, rfl⟩
abbrev main_cst_17 : Ref sig .tc := ⟨.hbm, 168, rfl⟩
abbrev main_call10_v0 : Ref sig .tc := ⟨.hbm, 169, rfl⟩
abbrev main_call10_v1 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_c_18 : Ref sig .tc := ⟨.hbm, 174, rfl⟩
abbrev main_v106 : Ref sig .tc := ⟨.hbm, 175, rfl⟩
abbrev main_v107 : Ref sig .tc := ⟨.hbm, 176, rfl⟩
abbrev main_c_19 : Ref sig .tc := ⟨.hbm, 177, rfl⟩
abbrev main_call11_v0 : Ref sig .tc := ⟨.hbm, 178, rfl⟩
abbrev main_call11_v1 : Ref sig .tc := ⟨.hbm, 179, rfl⟩
abbrev main_call11_v2 : Ref sig .tc := ⟨.hbm, 180, rfl⟩
abbrev main_call11_v3 : Ref sig .tc := ⟨.hbm, 181, rfl⟩
abbrev main_v108 : Ref sig .tc := ⟨.hbm, 182, rfl⟩
abbrev main_cst_20 : Ref sig .tc := ⟨.hbm, 183, rfl⟩
abbrev main_call12_v0 : Ref sig .tc := ⟨.hbm, 184, rfl⟩
abbrev main_call12_v1 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_cst_21 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_cst_22 : Ref sig .tc := ⟨.hbm, 198, rfl⟩
abbrev main_call13_v0 : Ref sig .tc := ⟨.hbm, 199, rfl⟩
abbrev main_call13_v1 : Ref sig .tc := ⟨.hbm, 200, rfl⟩
abbrev main_call13_v2 : Ref sig .tc := ⟨.hbm, 201, rfl⟩
abbrev main_v120 : Ref sig .tc := ⟨.hbm, 202, rfl⟩
abbrev main_values_23 : Ref sig .tc := ⟨.hbm, 203, rfl⟩
abbrev main_indices_24 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_c_25 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_c_26 : Ref sig .tc := ⟨.hbm, 214, rfl⟩
abbrev main_v129 : Ref sig .tc := ⟨.hbm, 215, rfl⟩
abbrev main_call14_v0 : Ref sig .tc := ⟨.hbm, 216, rfl⟩
abbrev main_call14_c : Ref sig .tc := ⟨.hbm, 217, rfl⟩
abbrev main_call14_c_0 : Ref sig .tc := ⟨.hbm, 218, rfl⟩
abbrev main_call14_v1_0 : Ref sig .tc := ⟨.hbm, 219, rfl⟩
abbrev main_v130 : Ref sig .tc := ⟨.hbm, 220, rfl⟩
abbrev main_c_27 : Ref sig .tc := ⟨.hbm, 221, rfl⟩
abbrev main_call15_v0 : Ref sig .tc := ⟨.hbm, 222, rfl⟩
abbrev main_call15_v1 : Ref sig .tc := ⟨.hbm, 223, rfl⟩
abbrev main_call15_v2 : Ref sig .tc := ⟨.hbm, 224, rfl⟩
abbrev main_v131 : Ref sig .tc := ⟨.hbm, 225, rfl⟩
abbrev main_c_28 : Ref sig .tc := ⟨.hbm, 226, rfl⟩
abbrev main_v132 : Ref sig .tc := ⟨.hbm, 227, rfl⟩
abbrev main_v133 : Ref sig .tc := ⟨.hbm, 228, rfl⟩
abbrev main_c_29 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_call16_c : Ref sig .tc := ⟨.hbm, 240, rfl⟩
abbrev main_call16_v0 : Ref sig .tc := ⟨.hbm, 241, rfl⟩
abbrev main_v144 : Ref sig .tc := ⟨.hbm, 242, rfl⟩
abbrev main_c_30 : Ref sig .tc := ⟨.hbm, 243, rfl⟩
abbrev main_v145 : Ref sig .tc := ⟨.hbm, 244, rfl⟩
abbrev main_v146 : Ref sig .tc := ⟨.hbm, 245, rfl⟩
abbrev main_c_31 : Ref sig .tc := ⟨.hbm, 246, rfl⟩
abbrev main_v147 : Ref sig .tc := ⟨.hbm, 247, rfl⟩
abbrev main_v148 : Ref sig .tc := ⟨.hbm, 248, rfl⟩
abbrev main_v149 : Ref sig .tc := ⟨.hbm, 249, rfl⟩
abbrev main_v150 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_v155 : Ref sig .tc := ⟨.hbm, 255, rfl⟩
abbrev main_v156 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_c_32 : Ref sig .tc := ⟨.hbm, 260, rfl⟩
abbrev main_c_33 : Ref sig .tc := ⟨.hbm, 261, rfl⟩
abbrev main_call17_v0 : Ref sig .tc := ⟨.hbm, 262, rfl⟩
abbrev main_call17_v1 : Ref sig .tc := ⟨.hbm, 263, rfl⟩
abbrev main_call17_v2 : Ref sig .tc := ⟨.hbm, 264, rfl⟩
abbrev main_call17_v3 : Ref sig .tc := ⟨.hbm, 265, rfl⟩
abbrev main_call17_v4 : Ref sig .tc := ⟨.hbm, 266, rfl⟩
abbrev main_v160 : Ref sig .tc := ⟨.hbm, 267, rfl⟩
abbrev main_c_34 : Ref sig .tc := ⟨.hbm, 268, rfl⟩
abbrev main_v161 : Ref sig .tc := ⟨.hbm, 269, rfl⟩
abbrev main_v162 : Ref sig .tc := ⟨.hbm, 270, rfl⟩
abbrev main_c_35 : Ref sig .tc := ⟨.hbm, 271, rfl⟩
abbrev main_v163 : Ref sig .tc := ⟨.hbm, 272, rfl⟩
abbrev main_v164 : Ref sig .tc := ⟨.hbm, 273, rfl⟩
abbrev main_v165 : Ref sig .tc := ⟨.hbm, 274, rfl⟩
abbrev main_v166 : Ref sig .tc := ⟨.hbm, 275, rfl⟩
abbrev main_v167 : Ref sig .tc := ⟨.hbm, 276, rfl⟩
abbrev main_cst_36 : Ref sig .tc := ⟨.hbm, 277, rfl⟩
abbrev main_call18_v0 : Ref sig .tc := ⟨.hbm, 278, rfl⟩
abbrev main_call18_v1 : Ref sig .tc := ⟨.hbm, 279, rfl⟩
abbrev main_call18_v2 : Ref sig .tc := ⟨.hbm, 280, rfl⟩
abbrev main_v168 : Ref sig .tc := ⟨.hbm, 281, rfl⟩
abbrev main_call19_v0 : Ref sig .tc := ⟨.hbm, 282, rfl⟩
abbrev main_call19_cst : Ref sig .tc := ⟨.hbm, 283, rfl⟩
abbrev main_call19_c : Ref sig .tc := ⟨.hbm, 284, rfl⟩
abbrev main_call19_v1_0 : Ref sig .tc := ⟨.hbm, 285, rfl⟩
abbrev main_v169 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_v173 : Ref sig .tc := ⟨.hbm, 290, rfl⟩
abbrev main_v174 : Ref sig .tc := ⟨.hbm, 291, rfl⟩
abbrev main_v175 : Ref sig .tc := ⟨.hbm, 292, rfl⟩
abbrev main_c_37 : Ref sig .tc := ⟨.hbm, 293, rfl⟩
abbrev main_call20_v0 : Ref sig .tc := ⟨.hbm, 294, rfl⟩
abbrev main_call20_v1 : Ref sig .tc := ⟨.hbm, 295, rfl⟩
abbrev main_call20_v2 : Ref sig .tc := ⟨.hbm, 296, rfl⟩
abbrev main_call20_v3 : Ref sig .tc := ⟨.hbm, 297, rfl⟩
abbrev main_v176 : Ref sig .tc := ⟨.hbm, 298, rfl⟩
abbrev main_v177 : Ref sig .tc := ⟨.hbm, 299, rfl⟩
abbrev main_call21_v0 : Ref sig .tc := ⟨.hbm, 300, rfl⟩
abbrev main_call21_c : Ref sig .tc := ⟨.hbm, 301, rfl⟩
abbrev main_call21_c_0 : Ref sig .tc := ⟨.hbm, 302, rfl⟩
abbrev main_call21_v1_0 : Ref sig .tc := ⟨.hbm, 303, rfl⟩
abbrev main_v178 : Ref sig .tc := ⟨.hbm, 304, rfl⟩
abbrev main_v179 : Ref sig .tc := ⟨.hbm, 305, rfl⟩
abbrev main_v180 : Ref sig .tc := ⟨.hbm, 306, rfl⟩
abbrev main_v181 : Ref sig .tc := ⟨.hbm, 307, rfl⟩
abbrev main_v182 : Ref sig .tc := ⟨.hbm, 308, rfl⟩
abbrev main_v183 : Ref sig .tc := ⟨.hbm, 309, rfl⟩
abbrev main_v184 : Ref sig .tc := ⟨.hbm, 310, rfl⟩
abbrev main_c_38 : Ref sig .tc := ⟨.hbm, 311, rfl⟩
abbrev main_v185 : Ref sig .tc := ⟨.hbm, 312, rfl⟩
abbrev main_v186 : Ref sig .tc := ⟨.hbm, 313, rfl⟩
abbrev main_c_39 : Ref sig .tc := ⟨.hbm, 314, rfl⟩
abbrev main_v187 : Ref sig .tc := ⟨.hbm, 315, rfl⟩
abbrev main_v188 : Ref sig .tc := ⟨.hbm, 316, rfl⟩
abbrev main_v189 : Ref sig .tc := ⟨.hbm, 317, rfl⟩
abbrev main_v190 : Ref sig .tc := ⟨.hbm, 318, rfl⟩
abbrev main_v191 : Ref sig .tc := ⟨.hbm, 319, rfl⟩
abbrev main_cst_40 : Ref sig .tc := ⟨.hbm, 320, rfl⟩
abbrev main_call22_v0 : Ref sig .tc := ⟨.hbm, 321, rfl⟩
abbrev main_call22_v1 : Ref sig .tc := ⟨.hbm, 322, rfl⟩
abbrev main_call22_v2 : Ref sig .tc := ⟨.hbm, 323, rfl⟩
abbrev main_v192 : Ref sig .tc := ⟨.hbm, 324, rfl⟩
abbrev main_cst_41 : Ref sig .tc := ⟨.hbm, 325, rfl⟩
abbrev main_v193 : Ref sig .tc := ⟨.hbm, 326, rfl⟩
abbrev main_v194 : Ref sig .tc := ⟨.hbm, 327, rfl⟩
abbrev main_cst_42 : Ref sig .tc := ⟨.hbm, 328, rfl⟩
abbrev main_call23_v0 : Ref sig .tc := ⟨.hbm, 329, rfl⟩
abbrev main_call23_v1 : Ref sig .tc := ⟨.hbm, 330, rfl⟩
abbrev main_v195 : Ref sig .tc := ⟨.hbm, 331, rfl⟩
abbrev main_v196 : Ref sig .tc := ⟨.hbm, 332, rfl⟩
abbrev main_v197 : Ref sig .tc := ⟨.hbm, 333, rfl⟩
abbrev main_c_43 : Ref sig .tc := ⟨.hbm, 334, rfl⟩
abbrev main_v198 : Ref sig .tc := ⟨.hbm, 335, rfl⟩
abbrev main_v199 : Ref sig .tc := ⟨.hbm, 336, rfl⟩
abbrev main_c_44 : Ref sig .tc := ⟨.hbm, 337, rfl⟩
abbrev main_call24_v0 : Ref sig .tc := ⟨.hbm, 338, rfl⟩
abbrev main_call24_v1 : Ref sig .tc := ⟨.hbm, 339, rfl⟩
abbrev main_call24_v2 : Ref sig .tc := ⟨.hbm, 340, rfl⟩
abbrev main_call24_v3 : Ref sig .tc := ⟨.hbm, 341, rfl⟩
abbrev main_v200 : Ref sig .tc := ⟨.hbm, 342, rfl⟩
abbrev main_cst_45 : Ref sig .tc := ⟨.hbm, 343, rfl⟩
abbrev main_call25_v0 : Ref sig .tc := ⟨.hbm, 344, rfl⟩
abbrev main_call25_v1 : Ref sig .tc := ⟨.hbm, 345, rfl⟩
abbrev main_v201 : Ref sig .tc := ⟨.hbm, 346, rfl⟩

abbrev nD : Nat := 1
abbrev τ : Topo := Topo.v7x

variable {F : FTy → Type} [FloatOps F]
-- ==== Proof.Spec.lean ====
/-
  The arithmetic of the span search, with no program in it: the first index of a row with a property, the first index of a
  row's maximum, the row with that entry removed, and what a stable descending sort puts at its first places.
-/
module

public import Idealize.ShloMosaic.Lib.SortPrefix
public import Idealize.ShloMosaic.Lib.SortNet.Extract
public import Idealize.ShloMosaic.Lib.Pointwise
public import Idealize.ShloMosaic.PureOps.Ideal.Laws

@[expose] public section

set_option maxRecDepth 16384

noncomputable section

namespace Cert.Span

open Idealize.ShloMosaic

/-! ## The first index with a property -/

open Classical in
/-- The first index with the property, or `d` where no index has it. -/
def first {n : Nat} (p : Fin n → Prop) (d : Fin n) : Fin n :=
  if h : (Finset.univ.filter p).Nonempty then (Finset.univ.filter p).min' h else d

theorem first_none {n : Nat} {p : Fin n → Prop} {d : Fin n} (h : ∀ i, ¬ p i) : first p d = d := by
  classical
  unfold first
  rw [dif_neg]
  rintro ⟨i, hi⟩
  exact h i (Finset.mem_filter.mp hi).2

theorem first_spec {n : Nat} {p : Fin n → Prop} {d : Fin n} (h : ∃ i, p i) :
    p (first p d) ∧ ∀ j, p j → first p d ≤ j := by
  classical
  obtain ⟨i, hi⟩ := h
  have hne : (Finset.univ.filter p).Nonempty := ⟨i, Finset.mem_filter.mpr ⟨Finset.mem_univ _, hi⟩⟩
  unfold first
  rw [dif_pos (by convert hne)]
  refine ⟨?_, fun j hj => ?_⟩
  · exact (Finset.mem_filter.mp (Finset.min'_mem _ _)).2
  · exact Finset.min'_le _ _ (Finset.mem_filter.mpr ⟨Finset.mem_univ _, hj⟩)

theorem first_eq {n : Nat} {p : Fin n → Prop} {d i : Fin n} (hi : p i) (hm : ∀ j, p j → i ≤ j) : first p d = i :=
  le_antisymm ((first_spec ⟨i, hi⟩).2 i hi) (hm _ (first_spec ⟨i, hi⟩).1)

theorem first_congr {n : Nat} {p q : Fin n → Prop} (d : Fin n) (h : ∀ i, p i ↔ q i) : first p d = first q d := by
  rw [show p = q from funext fun i => propext (h i)]

/-! ## Integer folds -/

theorem toInt_ofNat_lt (k : Nat) (h : k < 2147483648) : (BitVec.ofNat 32 k).toInt = k := by
  rw [BitVec.toInt_eq_toNat_cond, BitVec.toNat_ofNat]
  omega

theorem toInt_max : (2147483647#32).toInt = 2147483647 := by decide

theorem toInt_le_max (x : BitVec 32) : x.toInt ≤ 2147483647 := by
  have := @BitVec.toInt_lt 32 x
  norm_num at this
  omega

theorem fold_minsi_bounds {n : Nat} (g : Fin n → BitVec 32) (c : BitVec 32) (s : Finset (Fin n)) :
    (∀ i ∈ s, (s.fold IntOp.minsi c g).toInt ≤ (g i).toInt) ∧
      (s.fold IntOp.minsi c g = c ∨ ∃ i ∈ s, s.fold IntOp.minsi c g = g i) := by
  classical
  induction s using Finset.induction_on with
  | empty => exact ⟨fun i hi => absurd hi (Finset.notMem_empty i), .inl Finset.fold_empty⟩
  | insert a s ha ih =>
    obtain ⟨h1, h2⟩ := ih
    rw [Finset.fold_insert ha]
    have hm := SortNet.toInt_minsi (g a) (s.fold IntOp.minsi c g)
    refine ⟨fun i hi => ?_, ?_⟩
    · rw [hm]
      rcases Finset.mem_insert.mp hi with rfl | hi
      · exact min_le_left _ _
      · exact (min_le_right _ _).trans (h1 i hi)
    · rcases min_choice (g a).toInt (s.fold IntOp.minsi c g).toInt with h | h
      · exact .inr ⟨a, Finset.mem_insert_self a s, BitVec.eq_of_toInt_eq (hm.trans h)⟩
      · have he := BitVec.eq_of_toInt_eq (hm.trans h)
        rcases h2 with h2 | ⟨i, hi, h2⟩
        · exact .inl (he.trans h2)
        · exact .inr ⟨i, Finset.mem_insert_of_mem hi, he.trans h2⟩

/-- The smallest of the marked positions, an unmarked position counting as `c`, is the first marked position. -/
theorem fold_minsi_first {n : Nat} (hn : n < 2147483648) (p : Fin n → Prop) (d : Fin n) (c : BitVec 32)
    (g : Fin n → BitVec 32) (hg : ∀ i, p i → g i = BitVec.ofNat 32 i.val) (hg' : ∀ i, ¬ p i → g i = c)
    (hc : ∀ i : Fin n, (i.val : ℤ) ≤ c.toInt) (hd : (∃ i, p i) ∨ c = BitVec.ofNat 32 d.val) :
    Finset.univ.fold IntOp.minsi 2147483647#32 g = BitVec.ofNat 32 (first p d).val := by
  obtain ⟨h1, h2⟩ := fold_minsi_bounds g 2147483647#32 Finset.univ
  set r := Finset.univ.fold IntOp.minsi 2147483647#32 g with hr
  by_cases hp : ∃ i, p i
  · obtain ⟨hf, hle⟩ := first_spec (d := d) hp
    set f := first p d
    have hfi := toInt_ofNat_lt f.val (lt_trans f.isLt hn)
    have hrf : r.toInt ≤ f.val := by
      have := h1 f (Finset.mem_univ _)
      rwa [hg f hf, hfi] at this
    have hflt := f.isLt
    apply BitVec.eq_of_toInt_eq
    rw [hfi]
    rcases h2 with h2 | ⟨i, -, h2⟩
    · rw [h2, toInt_max] at hrf
      omega
    · by_cases hi : p i
      · have hii := toInt_ofNat_lt i.val (lt_trans i.isLt hn)
        have : f.val ≤ i.val := hle i hi
        rw [h2, hg i hi, hii] at hrf ⊢
        omega
      · have := hc f
        rw [h2, hg' i hi] at hrf ⊢
        omega
  · have hno : ∀ i, ¬ p i := fun i hi => hp ⟨i, hi⟩
    rw [first_none hno, ← hd.resolve_left hp]
    rcases h2 with h2 | ⟨i, -, h2⟩
    · have := h1 d (Finset.mem_univ _)
      rw [hg' d (hno d), h2, toInt_max] at this
      apply BitVec.eq_of_toInt_eq
      rw [h2, toInt_max]
      exact le_antisymm this (toInt_le_max _)
    · rw [h2, hg' i (hno i)]

/-- A sum with one term that is not zero. -/
theorem fold_addi_one {n : Nat} (j : Fin n) (g : Fin n → BitVec 32) (h0 : ∀ i, i ≠ j → g i = 0#32) :
    Finset.univ.fold IntOp.addi 0#32 g = g j := by
  classical
  have hz : ∀ s : Finset (Fin n), j ∉ s → s.fold IntOp.addi 0#32 g = 0#32 := by
    intro s
    induction s using Finset.induction_on with
    | empty => intro; exact Finset.fold_empty
    | insert a s ha ih =>
      intro hj
      rw [Finset.fold_insert ha, ih (fun h => hj (Finset.mem_insert_of_mem h)),
        h0 a (fun h => hj (h ▸ Finset.mem_insert_self a s))]
      rfl
  rw [← Finset.insert_erase (Finset.mem_univ j), Finset.fold_insert (Finset.notMem_erase j _),
    hz _ (Finset.notMem_erase j _)]
  exact BitVec.add_zero _

/-! ## The arg-max fold -/

section ArgMax

variable {α γ : Type} [LinearOrder γ] (κ : α → γ)

/-- The pair `a` is at least as good as `b`: a greater key, or the same key at no later position. -/
def Better (a b : α × BitVec 32) : Prop := κ b.1 < κ a.1 ∨ (κ a.1 = κ b.1 ∧ a.2.toInt ≤ b.2.toInt)

theorem Better.refl (a : α × BitVec 32) : Better κ a a := .inr ⟨rfl, le_refl _⟩

theorem Better.trans {a b c : α × BitVec 32} (h1 : Better κ a b) (h2 : Better κ b c) : Better κ a c := by
  rcases h1 with h1 | ⟨h1, h1'⟩ <;> rcases h2 with h2 | ⟨h2, h2'⟩
  · exact .inl (h2.trans h1)
  · exact .inl (h2 ▸ h1)
  · exact .inl (h1 ▸ h2)
  · exact .inr ⟨h1.trans h2, h1'.trans h2'⟩

theorem foldl_best (f : α × BitVec 32 → α × BitVec 32 → α × BitVec 32)
    (hf : ∀ a b, (f a b = a ∨ f a b = b) ∧ Better κ (f a b) a ∧ Better κ (f a b) b) (l : List (α × BitVec 32)) :
    ∀ z, l.foldl f z ∈ z :: l ∧ ∀ p ∈ z :: l, Better κ (l.foldl f z) p := by
  induction l with
  | nil =>
    intro z
    refine ⟨List.mem_singleton.mpr rfl, fun p hp => ?_⟩
    rw [List.mem_singleton.mp hp]
    exact Better.refl κ z
  | cons b l ih =>
    intro z
    obtain ⟨h1, h2⟩ := ih (f z b)
    obtain ⟨hc, hz, hb⟩ := hf z b
    refine ⟨?_, fun p hp => ?_⟩
    · rcases List.mem_cons.mp h1 with h | h
      · rw [List.foldl_cons, h]
        rcases hc with hc | hc <;> rw [hc] <;> simp
      · rw [List.foldl_cons]
        exact List.mem_cons_of_mem _ (List.mem_cons_of_mem _ h)
    · rw [List.foldl_cons]
      have hself := h2 _ (List.mem_cons_self (a := f z b) (l := l))
      rcases List.mem_cons.mp hp with rfl | hp
      · exact hself.trans κ hz
      · rcases List.mem_cons.mp hp with rfl | hp
        · exact hself.trans κ hb
        · exact h2 p (List.mem_cons_of_mem _ hp)

/-- The arg-max fold over the pairs of a row and their positions, from a least value at position zero, ends at the first
    position of a greatest value. -/
theorem foldl_argmax {n : Nat} (hn : n < 2147483648) (f : α × BitVec 32 → α × BitVec 32 → α × BitVec 32)
    (hf : ∀ a b, (f a b = a ∨ f a b = b) ∧ Better κ (f a b) a ∧ Better κ (f a b) b)
    (x : Fin n → α) (d : Fin n) (hd : d.val = 0) (z : α) (hz : ∀ a, κ z ≤ κ a) (l : List (α × BitVec 32))
    (hl : ∀ p, p ∈ l ↔ ∃ k : Fin n, p = (x k, BitVec.ofNat 32 k.val)) :
    (l.foldl f (z, 0#32)).2 = BitVec.ofNat 32 (first (fun k => ∀ k', κ (x k') ≤ κ (x k)) d).val := by
  obtain ⟨h1, h2⟩ := foldl_best κ f hf l (z, 0#32)
  set r := l.foldl f (z, 0#32)
  have hall : ∀ k : Fin n, Better κ r (x k, BitVec.ofNat 32 k.val) := fun k =>
    h2 _ (List.mem_cons_of_mem _ ((hl _).mpr ⟨k, rfl⟩))
  rcases List.mem_cons.mp h1 with h | h
  · have hk : ∀ k, κ (x k) = κ z := fun k => by
      rcases hall k with hk | ⟨hk, -⟩
      · rw [h] at hk
        exact absurd hk (not_lt.mpr (hz _))
      · rw [h] at hk
        exact hk.symm
    rw [first_eq (i := d) (fun k' => by rw [hk, hk]) (fun j _ => by rw [Fin.le_def, hd]; exact Nat.zero_le _), hd, h]
  · obtain ⟨k, hk⟩ := (hl _).mp h
    have hfirst : first (fun k => ∀ k', κ (x k') ≤ κ (x k)) d = k := by
      refine first_eq (fun k' => ?_) (fun j hj => ?_)
      · rcases hall k' with h' | ⟨h', -⟩
        · rw [hk] at h'
          exact le_of_lt h'
        · rw [hk] at h'
          exact le_of_eq h'.symm
      · rcases hall j with h' | ⟨-, h'⟩
        · rw [hk] at h'
          exact absurd h' (not_lt.mpr (hj k))
        · rw [hk] at h'
          have h3 : (BitVec.ofNat 32 k.val).toInt ≤ (BitVec.ofNat 32 j.val).toInt := h'
          rw [toInt_ofNat_lt _ (lt_trans k.isLt hn), toInt_ofNat_lt _ (lt_trans j.isLt hn)] at h3
          exact Fin.le_def.mpr (by omega)
    rw [hfirst, hk]

end ArgMax

/-! ## The greatest entry of a row and the row without it -/

/-- The first index of the row's maximum. -/
def am {n : Nat} [NeZero n] (x : Fin n → EReal) : Fin n := first (fun i => ∀ j, x j ≤ x i) 0

theorem am_spec {n : Nat} [NeZero n] (x : Fin n → EReal) :
    (∀ j, x j ≤ x (am x)) ∧ ∀ i, (∀ j, x j ≤ x i) → am x ≤ i := by
  have hex : ∃ i, ∀ j, x j ≤ x i := by
    obtain ⟨i, -, hi⟩ := Finset.exists_max_image (Finset.univ : Finset (Fin n)) x ⟨0, Finset.mem_univ _⟩
    exact ⟨i, fun j => hi j (Finset.mem_univ j)⟩
  exact first_spec hex

/-- The row's maximum. -/
def mx {n : Nat} [NeZero n] (x : Fin n → EReal) : EReal := x (am x)

theorem fold_max_eq {n : Nat} [NeZero n] (x : Fin n → EReal) : Finset.univ.fold max ⊥ x = mx x := by
  apply le_antisymm
  · exact (Finset.fold_max_le _).mpr ⟨bot_le, fun i _ => (am_spec x).1 i⟩
  · exact (Finset.le_fold_max _).mpr (.inr ⟨am x, Finset.mem_univ _, le_refl _⟩)

theorem eq_mx_iff {n : Nat} [NeZero n] (x : Fin n → EReal) (i : Fin n) : x i = mx x ↔ ∀ j, x j ≤ x i := by
  constructor
  · intro h j
    rw [h]
    exact (am_spec x).1 j
  · intro h
    exact le_antisymm ((am_spec x).1 i) (h _)

/-- The row with the first index of its maximum lowered to minus infinity. -/
def drop {n : Nat} [NeZero n] (x : Fin n → EReal) : Fin n → EReal := fun i => if i = am x then ⊥ else x i

/-- The row after `k` removals. -/
def rest {n : Nat} [NeZero n] (x : Fin n → EReal) : Nat → Fin n → EReal
  | 0 => x
  | k + 1 => drop (rest x k)

/-! ## The stable descending sort -/

section Sorted

variable {n : Nat} (x : Fin n → EReal)

/-- Before in the order by descending value, then by position. -/
def tieBefore (a b : Fin n) : Bool := decide (x b < x a) || (decide (x a = x b) && decide (a < b))

theorem tieBefore_strict : StrictTotalBefore (tieBefore x) :=
  StrictTotalBefore.of_key_then_position (fun a b : EReal => decide (b < a)) x (by simp)
    (by intro a b c hab hbc; simp only [decide_eq_true_eq] at *; exact hbc.trans hab)
    (by intro a b; simp only [decide_eq_true_eq]; rcases lt_trichotomy a b with h | h | h <;> simp [h])

theorem stableSort_tie (l : List (Fin n)) (hl : l.Pairwise (· < ·)) :
    stableSort (fun a b => decide (x b < x a)) l = stableSort (tieBefore x) l := by
  induction l with
  | nil => rfl
  | cons a l ih =>
    obtain ⟨ha, hl⟩ := List.pairwise_cons.mp hl
    unfold stableSort
    rw [ih hl]
    apply insertBefore_congr
    intro b hb
    have hab : a < b := ha b ((perm_stableSort _ _).mem_iff.mp hb)
    unfold tieBefore
    rw [decide_eq_false (not_lt.mpr (le_of_lt hab)), Bool.and_false, Bool.or_false]

theorem sortedFrom_tie : sortedFrom (fun a b => decide (x b < x a)) = sortedFrom (tieBefore x) := by
  funext k
  unfold sortedFrom
  have : sortPositions n (fun a b => decide (x b < x a)) = sortPositions n (tieBefore x) :=
    stableSort_tie x _ (List.pairwise_lt_finRange n)
  rw [List.get_of_eq this]
  rfl

/-- Where the sort takes its `k`-th element from. -/
def src (k : Fin n) : Fin n := sortedFrom (fun a b => decide (x b < x a)) k

theorem src_inj : Function.Injective (src x) := sortedFrom_injective _

theorem src_surj : Function.Surjective (src x) := sortedFrom_surjective _

theorem src_ordered {i j : Fin n} (hij : i < j) :
    x (src x j) ≤ x (src x i) ∧ (x (src x j) = x (src x i) → src x i ≤ src x j) := by
  have hB := tieBefore_strict x
  have h := sortedFrom_noInversion (tieBefore x) (tieBefore x) (fun a b => hB.asymm a b) (fun _ _ h => h)
    (fun a b c => hB.negTrans a b c) i j hij
  rw [← sortedFrom_tie] at h
  have h' : tieBefore x (src x j) (src x i) = false := h
  unfold tieBefore at h'
  simp only [Bool.or_eq_false_iff, Bool.and_eq_false_iff, decide_eq_false_iff_not, not_lt] at h'
  refine ⟨h'.1, fun he => ?_⟩
  rcases h'.2 with h2 | h2
  · exact absurd he h2
  · exact h2

variable [NeZero n]

/-- The `k`-th element of the stable descending sort is the maximum after `k` removals, and where that is not minus infinity
    its place is the removed place. -/
theorem src_rest (k : Fin n) : (∀ i, rest x k.val i = if ∃ j, j < k ∧ src x j = i then ⊥ else x i) ∧
    x (src x k) = mx (rest x k.val) ∧ (mx (rest x k.val) ≠ ⊥ → src x k = am (rest x k.val)) := by
  classical
  obtain ⟨k, hk⟩ := k
  have key : ∀ (k : Nat) (hk : k < n), (∀ i, rest x k i = if ∃ j : Fin n, j < ⟨k, hk⟩ ∧ src x j = i then ⊥ else x i) →
      x (src x ⟨k, hk⟩) = mx (rest x k) ∧ (mx (rest x k) ≠ ⊥ → src x ⟨k, hk⟩ = am (rest x k)) := by
    intro k hk inv
    have hself : rest x k (src x ⟨k, hk⟩) = x (src x ⟨k, hk⟩) := by
      rw [inv, if_neg]
      rintro ⟨j, hj, he⟩
      exact absurd (src_inj x he) (ne_of_lt hj)
    have hcase : ∀ i, rest x k i = ⊥ ∨ (rest x k i = x i ∧ ∃ m : Fin n, ⟨k, hk⟩ ≤ m ∧ src x m = i) := by
      intro i
      rw [inv]
      split
      · exact .inl rfl
      · rename_i h
        obtain ⟨m, hm⟩ := src_surj x i
        exact .inr ⟨rfl, m, not_lt.mp (fun hlt => h ⟨m, hlt, hm⟩), hm⟩
    have hle : ∀ i, rest x k i ≤ x (src x ⟨k, hk⟩) := by
      intro i
      rcases hcase i with h | ⟨h, m, hm, rfl⟩
      · rw [h]; exact bot_le
      · rw [h]
        rcases eq_or_lt_of_le hm with rfl | hm
        · exact le_refl _
        · exact (src_ordered x hm).1
    have hmx : x (src x ⟨k, hk⟩) = mx (rest x k) := by
      rw [← hself, eq_mx_iff]
      intro j
      rw [hself]
      exact hle j
    refine ⟨hmx, fun hne => ?_⟩
    symm
    apply first_eq
    · intro j
      rw [hself]
      exact hle j
    · intro i hi
      have hi' := (eq_mx_iff _ _).mpr hi
      rcases hcase i with h | ⟨h, m, hm, rfl⟩
      · rw [h] at hi'
        exact absurd hi'.symm hne
      · rcases eq_or_lt_of_le hm with rfl | hm
        · exact le_refl _
        · exact (src_ordered x hm).2 (by rw [← h, hi', hmx])
  have inv : ∀ (k : Nat) (hk : k < n) (i : Fin n),
      rest x k i = if ∃ j : Fin n, j < ⟨k, hk⟩ ∧ src x j = i then ⊥ else x i := by
    intro k
    induction k with
    | zero =>
      intro hk i
      rw [if_neg]
      · rfl
      · rintro ⟨j, hj, -⟩
        exact absurd (Fin.lt_def.mp hj) (Nat.not_lt_zero _)
    | succ k ih =>
      intro hk i
      have hk' : k < n := Nat.lt_of_succ_lt hk
      obtain ⟨h1, h2⟩ := key k hk' (ih hk')
      show drop (rest x k) i = _
      unfold drop
      by_cases hbot : mx (rest x k) = ⊥
      · have hb : rest x k i = ⊥ := le_bot_iff.mp (hbot ▸ (am_spec (rest x k)).1 i)
        have hl : (if i = am (rest x k) then ⊥ else rest x k i) = (⊥ : EReal) := by split <;> simp [hb]
        rw [hl]
        split
        · rfl
        · rename_i h
          have h3 := ih hk' i
          rw [hb, if_neg] at h3
          · exact h3
          · rintro ⟨j, hj, he⟩
            exact h ⟨j, Fin.lt_def.mpr (Nat.lt_succ_of_lt (Fin.lt_def.mp hj)), he⟩
      · have h3 := h2 hbot
        by_cases hi : i = am (rest x k)
        · rw [if_pos hi, if_pos]
          exact ⟨⟨k, hk'⟩, Fin.lt_def.mpr (Nat.lt_succ_self k), h3.trans hi.symm⟩
        · rw [if_neg hi, ih hk' i]
          refine if_congr ⟨?_, ?_⟩ rfl rfl
          · rintro ⟨j, hj, he⟩
            exact ⟨j, Fin.lt_def.mpr (Nat.lt_succ_of_lt (Fin.lt_def.mp hj)), he⟩
          · rintro ⟨j, hj, he⟩
            rcases Nat.lt_succ_iff_lt_or_eq.mp (Fin.lt_def.mp hj) with hlt | heq
            · exact ⟨j, Fin.lt_def.mpr hlt, he⟩
            · have hjk : j = ⟨k, hk'⟩ := Fin.ext heq
              rw [hjk] at he
              exact absurd (he.symm.trans h3) hi
  exact ⟨inv k hk, key k hk (inv k hk)⟩

end Sorted

/-! ## The end of a span -/

/-- The first maximum of the window read over the whole row is the start plus the first maximum of its ten positions, each
    clamped to the row. -/
theorem am_window (e : Fin 512 → EReal) (he : ∀ i, e i ≠ ⊥) (s : Fin 512) (cap : ℤ) (hlo : (s.val : ℤ) < cap)
    (hhi : cap ≤ s.val + 10) (win : Fin 512 → EReal) (w : Fin 10 → EReal)
    (hin : ∀ i, s.val ≤ i.val → (i.val : ℤ) < cap → win i = e i)
    (hout : ∀ i, ¬ (s.val ≤ i.val ∧ (i.val : ℤ) < cap) → win i = ⊥)
    (hw : ∀ k : Fin 10, ((s.val + k.val : ℕ) : ℤ) < cap → ∀ i : Fin 512, i.val = min (s.val + k.val) 511 → w k = e i)
    (hw' : ∀ k : Fin 10, ¬ ((s.val + k.val : ℕ) : ℤ) < cap → w k = ⊥) :
    (am win).val = s.val + (am w).val := by
  obtain ⟨h1, h2⟩ := am_spec w
  set k := am w
  have hs := s.isLt
  have hkl := k.isLt
  have hk : ((s.val + k.val : ℕ) : ℤ) < cap := by
    by_contra hno
    have h0 := h1 ⟨0, by decide⟩
    rw [hw' k hno, hw ⟨0, by decide⟩ (by simpa using hlo) s (by simp; omega)] at h0
    exact he s (le_bot_iff.mp h0)
  have hks : s.val + k.val < 512 := by
    by_contra hno
    have hk2 : 511 - s.val < 10 := by omega
    have hwk := hw k hk ⟨511, by decide⟩ (by simp; omega)
    have hwk2 := hw ⟨511 - s.val, hk2⟩ (by simp; omega) ⟨511, by decide⟩ (by simp; omega)
    have := h2 ⟨511 - s.val, hk2⟩ (fun j => by rw [hwk2, ← hwk]; exact h1 j)
    have := Fin.le_def.mp this
    simp at this
    omega
  have hwk := hw k hk ⟨s.val + k.val, hks⟩ (by simp; omega)
  have hwin : win ⟨s.val + k.val, hks⟩ = e ⟨s.val + k.val, hks⟩ := hin _ (by simp) (by simpa using hk)
  have hmax : ∀ i, win i ≤ win ⟨s.val + k.val, hks⟩ := by
    intro i
    by_cases hi : s.val ≤ i.val ∧ (i.val : ℤ) < cap
    · have hik : i.val - s.val < 10 := by omega
      have := h1 ⟨i.val - s.val, hik⟩
      rw [hw ⟨i.val - s.val, hik⟩ (by simp; omega) i (by have := i.isLt; simp; omega), hwk] at this
      rw [hwin, hin i hi.1 hi.2]
      exact this
    · rw [hout i hi]
      exact bot_le
  have : am win = ⟨s.val + k.val, hks⟩ := by
    apply first_eq hmax
    intro i hi
    have hne : win i ≠ ⊥ := fun hb => he _ (le_bot_iff.mp (by have := hi ⟨s.val + k.val, hks⟩; rwa [hb, hwin] at this))
    have hin' : s.val ≤ i.val ∧ (i.val : ℤ) < cap := by
      by_contra hno
      exact hne (hout i hno)
    have hik : i.val - s.val < 10 := by omega
    have hle := h2 ⟨i.val - s.val, hik⟩ (fun j => by
      rw [hw ⟨i.val - s.val, hik⟩ (by simp; omega) i (by have := i.isLt; simp; omega), ← hin i hin'.1 hin'.2]
      refine (h1 j).trans ?_
      rw [hwk, ← hwin]
      exact hi _)
    have := Fin.le_def.mp hle
    apply Fin.le_def.mpr
    simp at this ⊢
    omega
  rw [this]

end Cert.Span
-- ==== Proof.Words.lean ====
/-
  The span search of one sample in 32-bit words: the sentence end of a start, the cap of its window, the end of the span, and
  the table of spans. `x` is the row of start logits masked before the passage, `th` the threshold, `e` the end logits, `q` the
  separators.
-/
module

public import proofs.«01_k».proof.Proof.Spec

@[expose] public section

set_option maxRecDepth 16384

noncomputable section

namespace Cert.Span

open Idealize.ShloMosaic

theorem bit_cases (b : BitVec 1) : b = 0#1 ∨ b = 1#1 := by revert b; decide

theorem select_one {α : Type} (a b : α) : Scalar.select 1#1 a b = a := rfl

theorem select_zero {α : Type} (a b : α) : Scalar.select 0#1 a b = b := rfl

theorem cmpi_eq_one {a b : BitVec 32} (h : a = b) : IntOp.cmpi .eq a b = 1#1 := by
  subst h; simp [IntOp.cmpi]

theorem cmpi_eq_zero {a b : BitVec 32} (h : a ≠ b) : IntOp.cmpi .eq a b = 0#1 := by
  simp [IntOp.cmpi, beq_eq_false_iff_ne.mpr h]

theorem ofNat_inj {n : Nat} (hn : n < 2147483648) {i j : Fin n} (h : BitVec.ofNat 32 i.val = BitVec.ofNat 32 j.val) :
    i = j := by
  have h' := congrArg BitVec.toInt h
  rw [toInt_ofNat_lt _ (lt_trans i.isLt hn), toInt_ofNat_lt _ (lt_trans j.isLt hn)] at h'
  exact Fin.ext (by omega)

/-- The separator at `k` ends the sentence of `st`, or is padding. -/
def cond (q : Fin 20 → BitVec 32) (st : BitVec 32) (k : Fin 20) : BitVec 1 :=
  IntOp.ori (IntOp.cmpi .sgt (q k) st) (IntOp.cmpi .sle (q k) 0#32)

/-- The first such separator, or the last one. -/
def jidx (q : Fin 20 → BitVec 32) (st : BitVec 32) : Fin 20 := first (fun k => cond q st k = 1#1) 19

/-- The value of that separator. -/
def endg (q : Fin 20 → BitVec 32) (st : BitVec 32) : BitVec 32 := q (jidx q st)

/-- The start passes: its value is over the threshold and its sentence ends after it. -/
def ok (q : Fin 20 → BitVec 32) (th v : EReal) (st : BitVec 32) : BitVec 1 :=
  IntOp.andi (BitVec.ofBool (decide (th < v))) (IntOp.cmpi .sgt (endg q st) st)

/-- Where the window of end positions stops. -/
def cap (q : Fin 20 → BitVec 32) (st : BitVec 32) : BitVec 32 := IntOp.minsi (endg q st) (IntOp.addi st 10#32)

/-- The end logits inside the window, minus infinity outside. -/
def win (q : Fin 20 → BitVec 32) (e : Fin 512 → EReal) (st : BitVec 32) (i : Fin 512) : EReal :=
  Scalar.select (IntOp.andi (IntOp.cmpi .sge (BitVec.ofNat 32 i.val) st) (IntOp.cmpi .slt (BitVec.ofNat 32 i.val) (cap q st)))
    (e i) ⊥

/-- The end of the span. -/
def endw (q : Fin 20 → BitVec 32) (e : Fin 512 → EReal) (st : BitVec 32) : BitVec 32 :=
  BitVec.ofNat 32 (am (win q e st)).val

/-- The `k`-th start. -/
def start (x : Fin 512 → EReal) (k : Nat) : BitVec 32 := BitVec.ofNat 32 (am (rest x k)).val

/-- The `k`-th start passes. -/
def okAt (q : Fin 20 → BitVec 32) (x : Fin 512 → EReal) (th : EReal) (k : Nat) : BitVec 1 :=
  ok q th (mx (rest x k)) (start x k)

/-- The starts up to the `k`-th pass, and the sample is active. -/
def validAt (act : BitVec 1) (q : Fin 20 → BitVec 32) (x : Fin 512 → EReal) (th : EReal) : Nat → BitVec 1
  | 0 => IntOp.andi act (okAt q x th 0)
  | k + 1 => IntOp.andi (validAt act q x th k) (okAt q x th (k + 1))

/-- The table of spans: start, end and sentence of the `k`-th span, zero from the first start that fails. -/
def spanStart (act : BitVec 1) (q : Fin 20 → BitVec 32) (x : Fin 512 → EReal) (th : EReal) (k : Nat) : BitVec 32 :=
  Scalar.select (validAt act q x th k) (start x k) 0#32
def spanEnd (act : BitVec 1) (q : Fin 20 → BitVec 32) (e x : Fin 512 → EReal) (th : EReal) (k : Nat) : BitVec 32 :=
  Scalar.select (validAt act q x th k) (endw q e (start x k)) 0#32
def spanSep (act : BitVec 1) (q : Fin 20 → BitVec 32) (x : Fin 512 → EReal) (th : EReal) (k : Nat) : BitVec 32 :=
  Scalar.select (validAt act q x th k) (BitVec.ofNat 32 (jidx q (start x k)).val) 0#32

/-- The gap of the first start to the threshold where it is not over it. -/
def gap (act : BitVec 1) (x : Fin 512 → EReal) (th : EReal) : EReal :=
  Scalar.select (IntOp.andi (BitVec.ofBool (decide (mx x ≤ th))) act) (th - mx x) 0

/-- The starts before the passage masked. -/
def mask (s : Fin 512 → EReal) (bst : BitVec 32) (i : Fin 512) : EReal :=
  Scalar.select (IntOp.cmpi .sge (BitVec.ofNat 32 i.val) bst) (s i) ⊥

/-- Every separator of the sample is positive. -/
def active (q : Fin 20 → BitVec 32) : BitVec 1 :=
  IntOp.cmpi .sgt (Finset.univ.fold IntOp.minsi 2147483647#32 q) 0#32

/-- Column `n` of the table: three columns to a span. -/
def table (act : BitVec 1) (q : Fin 20 → BitVec 32) (e x : Fin 512 → EReal) (th : EReal) (n : Nat) : BitVec 32 :=
  if n % 3 = 2 then spanSep act q x th (n / 3)
  else if n % 3 = 1 then spanEnd act q e x th (n / 3)
  else spanStart act q x th (n / 3)

/-! ## The folds that compute them -/

theorem fold_start (y : Fin 512 → EReal) (m : EReal) (hm : m = mx y) (g : Fin 512 → BitVec 32)
    (hg : ∀ i, g i = Scalar.select (BitVec.ofBool (decide (y i = m))) (BitVec.ofNat 32 i.val) 512#32) :
    Finset.univ.fold IntOp.minsi 2147483647#32 g = BitVec.ofNat 32 (am y).val := by
  subst hm
  refine fold_minsi_first (by decide) _ _ 512#32 g (fun i hi => ?_) (fun i hi => ?_) (fun i => ?_) (.inl ?_)
  · rw [hg, decide_eq_true ((eq_mx_iff y i).mpr hi)]; rfl
  · rw [hg, decide_eq_false (fun h => hi ((eq_mx_iff y i).mp h))]; rfl
  · have := i.isLt
    rw [show (512#32).toInt = 512 from by decide]
    omega
  · exact ⟨am y, (am_spec y).1⟩

theorem fold_start_ite (y : Fin 512 → EReal) (m : EReal) (hm : m = mx y) (g : Fin 512 → BitVec 32)
    (hg : ∀ i, y i = m → g i = BitVec.ofNat 32 i.val) (hg' : ∀ i, y i ≠ m → g i = 512#32) :
    Finset.univ.fold IntOp.minsi 2147483647#32 g = BitVec.ofNat 32 (am y).val := by
  refine fold_start y m hm g fun i => ?_
  by_cases h : y i = m
  · rw [hg i h, decide_eq_true h]; rfl
  · rw [hg' i h, decide_eq_false h]; rfl

theorem fold_jidx (q : Fin 20 → BitVec 32) (st : BitVec 32) (g : Fin 20 → BitVec 32)
    (hg : ∀ k, g k = Scalar.select (cond q st k) (BitVec.ofNat 32 k.val) 19#32) :
    Finset.univ.fold IntOp.minsi 2147483647#32 g = BitVec.ofNat 32 (jidx q st).val := by
  refine fold_minsi_first (by decide) _ _ 19#32 g (fun i hi => ?_) (fun i hi => ?_) (fun i => ?_) (.inr rfl)
  · rw [hg, hi]; rfl
  · rw [hg, (bit_cases _).resolve_right hi]; rfl
  · have := i.isLt
    rw [show (19#32).toInt = 19 from by decide]
    omega

theorem fold_pick (q : Fin 20 → BitVec 32) (j : Fin 20) (g : Fin 20 → BitVec 32)
    (hg : ∀ k, g k = Scalar.select (IntOp.cmpi .eq (BitVec.ofNat 32 k.val) (BitVec.ofNat 32 j.val)) (q k) 0#32) :
    Finset.univ.fold IntOp.addi 0#32 g = q j := by
  rw [fold_addi_one j g]
  · rw [hg, cmpi_eq_one rfl]; rfl
  · intro i hi
    rw [hg, cmpi_eq_zero (fun h => hi (ofNat_inj (by decide) h))]; rfl

theorem drop_word (y : Fin 512 → EReal) (i : Fin 512) :
    Scalar.select (IntOp.cmpi .eq (BitVec.ofNat 32 i.val) (BitVec.ofNat 32 (am y).val)) ⊥ (y i) = drop y i := by
  unfold drop
  by_cases h : i = am y
  · rw [if_pos h, cmpi_eq_one (by rw [h]), select_one]
  · rw [if_neg h, cmpi_eq_zero (fun h' => h (ofNat_inj (by decide) h')), select_zero]

end Cert.Span
-- ==== Proof.KernelRow.lean ====
/-
  The kernel body's row operations read at one row, as the words of the span search: the removal of the greatest start, its
  sentence end, its test and its span end, and the table they are laid out in.
-/
module

public import proofs.«01_k».proof.Proof.Gen.KernelIdeal.Frame
public import proofs.«01_k».proof.Proof.Words

@[expose] public section

set_option maxRecDepth 16384

noncomputable section

namespace Cert.KernelIdeal.Row

open Cert.KernelIdeal Cert.KernelIdeal.Gen Idealize.ShloMosaic Cert.Span

theorem ofBits_bot : Ideal.ofBits .f32 4286578688#32 = ⊥ := by simp [Ideal.ofBits, Ideal.ieee]

theorem ofBits_nil : Ideal.ofBits .f32 0#32 = 0 := by simp [Ideal.ofBits, Ideal.ieee]

variable {r : Fin 16} {v86 : IVec S16x20 32} {v92 : IVec S16x512 32} {v93 : IVec S16x20 32} {v98 y512 v42 : FVec Ideal S16x512 .f32}
  {q : Fin 20 → BitVec 32} {y e : Fin 512 → EReal}

section Round

variable (hq : ∀ k, v86 (ix2 r k) = q k) (h92 : ∀ i, v92 (ix2 r i) = BitVec.ofNat 32 i.val)
  (h93 : ∀ k, v93 (ix2 r k) = BitVec.ofNat 32 k.val) (he : ∀ i, v42 (ix2 r i) = e i) (hy : ∀ i, v98 (ix2 r i) = y i)

/-! ### The first round, whose mask of greatest entries is an operand -/

section First

variable {v104 : IVec S16x512 1} (hm : ∀ i, v104 (ix2 r i) = BitVec.ofBool (decide (y i = mx y)))

include h92 hm in
theorem pay25_row : k0_pay25 v92 v104 512#32 (ix2 r 0) = BitVec.ofNat 32 (am y).val := by
  pointwise [k0_pay25]
  exact fold_start y _ rfl _ fun i => by rw [hm, h92]

include h92 hm hy in
theorem pay26_row (i : Fin 512) : k0_pay26 v92 v98 v104 512#32 (ix2 r i) = drop y i := by
  pointwise [k0_pay26]
  rw [pay25_row h92 hm, h92, hy, ← drop_word y i]
  exact congrArg (fun b => Scalar.select _ b _) ofBits_bot

include hq h92 h93 hm in
theorem pay27_row : k0_pay27 v86 v92 v93 v104 512#32 (ix2 r 0) =
    BitVec.ofNat 32 (jidx q (BitVec.ofNat 32 (am y).val)).val := by
  pointwise [k0_pay27]
  exact fold_jidx q _ _ fun k => by rw [pay25_row h92 hm, h93, hq]; rfl

include hq h92 h93 hm in
theorem pay28_row : k0_pay28 v86 v92 v93 v104 512#32 (ix2 r 0) = endg q (BitVec.ofNat 32 (am y).val) := by
  pointwise [k0_pay28]
  exact fold_pick q _ _ fun k => by rw [pay27_row hq h92 h93 hm, h93, hq]

include hq h92 h93 hm in
theorem pay29_row {v91 : IVec S16x1 1} {v94 v102 : FVec Ideal S16x1 .f32} :
    k0_pay29 v86 v91 v92 v93 v94 v102 v104 512#32 (ix2 r 0) = IntOp.andi (v91 (ix2 r 0))
      (ok q (v94 (ix2 r 0)) (v102 (ix2 r 0)) (BitVec.ofNat 32 (am y).val)) := by
  pointwise [k0_pay29]
  rw [pay28_row hq h92 h93 hm, pay25_row h92 hm]
  rfl

include hq h92 h93 hm he in
theorem pay30_row : k0_pay30 v42 v86 v92 v93 v104 512#32 (ix2 r 0) = endw q e (BitVec.ofNat 32 (am y).val) := by
  pointwise [k0_pay30]
  have hw : ∀ i : Fin 512, Scalar.select
      (IntOp.andi (IntOp.cmpi .sge (v92 (ix2 r i)) (k0_pay25 v92 v104 512#32 (ix2 r 0)))
        (IntOp.cmpi .slt (v92 (ix2 r i)) (IntOp.minsi (k0_pay28 v86 v92 v93 v104 512#32 (ix2 r 0))
          (IntOp.addi (k0_pay25 v92 v104 512#32 (ix2 r 0)) 10#32))))
      (v42 (ix2 r i)) (Ideal.ofBits .f32 4286578688#32) = win q e (BitVec.ofNat 32 (am y).val) i := fun i => by
    rw [pay28_row hq h92 h93 hm, pay25_row h92 hm, h92, he, ofBits_bot]
    rfl
  simp only [hw]
  simp only [ofBits_bot]
  refine fold_start_ite (win q e _) _ (fold_max_eq _) _ (fun i hi => ?_) (fun i hi => ?_)
  · rw [if_pos hi, h92]
  · rw [if_neg hi]

end First

/-! ### A later round, which computes its own mask -/

include hy in
theorem pay34_row : k0_pay34 v98 (ix2 r 0) = mx y := by
  pointwise [k0_pay34]
  simp only [hy]
  rw [ofBits_bot]
  exact fold_max_eq _

include h92 hy in
theorem pay35_row : k0_pay35 v92 v98 (ix2 r 0) = BitVec.ofNat 32 (am y).val := by
  pointwise [k0_pay35]
  simp only [pay34_row hy, hy]
  refine fold_start_ite y _ rfl _ (fun i hi => ?_) (fun i hi => ?_)
  · rw [if_pos hi, h92]
  · rw [if_neg hi]

include h92 hy in
theorem pay36_row (i : Fin 512) : k0_pay36 v92 v98 (ix2 r i) = drop y i := by
  pointwise [k0_pay36]
  rw [pay35_row h92 hy, h92, hy, ← drop_word y i]
  exact congrArg (fun b => Scalar.select _ b _) ofBits_bot

include hq h92 h93 hy in
theorem pay37_row : k0_pay37 v86 v92 v93 v98 (ix2 r 0) =
    BitVec.ofNat 32 (jidx q (BitVec.ofNat 32 (am y).val)).val := by
  pointwise [k0_pay37]
  exact fold_jidx q _ _ fun k => by rw [pay35_row h92 hy, h93, hq]; rfl

include hq h92 h93 hy in
theorem pay38_row (k : Fin 20) : k0_pay38 v86 v92 v93 v98 (ix2 r k) =
    IntOp.cmpi .eq (BitVec.ofNat 32 k.val) (BitVec.ofNat 32 (jidx q (BitVec.ofNat 32 (am y).val)).val) := by
  pointwise [k0_pay38]
  rw [pay37_row hq h92 h93 hy, h93]

variable {v198 : IVec S16x20 1} {st : BitVec 32} (h198 : ∀ k : Fin 20, v198 (ix2 r k) =
    IntOp.cmpi .eq (BitVec.ofNat 32 k.val) (BitVec.ofNat 32 (jidx q st).val))

include hq h198 in
theorem pay39_row : k0_pay39 v86 v198 (ix2 r 0) = endg q st := by
  pointwise [k0_pay39]
  exact fold_pick q _ _ fun k => by rw [h198, hq]

include hq h198 in
theorem pay40_row {v94 v177 : FVec Ideal S16x1 .f32} {v131 : IVec S16x1 1} {v183 : IVec S16x1 32}
    (hst : v183 (ix2 r 0) = st) : k0_pay40 v86 v94 v131 v177 v183 v198 (ix2 r 0) =
      IntOp.andi (v131 (ix2 r 0)) (ok q (v94 (ix2 r 0)) (v177 (ix2 r 0)) st) := by
  pointwise [k0_pay40]
  rw [pay39_row hq h198, hst]
  rfl

include h92 hy in
theorem pay43_row : k0_pay43 v92 v98 (ix2 r 0) = BitVec.ofNat 32 (am y).val := pay35_row h92 hy

include hq h92 h93 hy in
theorem pay44_row : k0_pay44 v86 v92 v93 v98 (ix2 r 0) =
    BitVec.ofNat 32 (jidx q (BitVec.ofNat 32 (am y).val)).val := pay37_row hq h92 h93 hy

include hq h92 h93 hy in
theorem pay45_row : k0_pay45 v86 v92 v93 v98 (ix2 r 0) = endg q (BitVec.ofNat 32 (am y).val) := by
  pointwise [k0_pay45]
  exact fold_pick q _ _ fun k => by rw [pay44_row hq h92 h93 hy, h93, hq]

include hq h92 h93 hy in
theorem pay46_row {v94 : FVec Ideal S16x1 .f32} {v206 : IVec S16x1 1} :
    k0_pay46 v86 v92 v93 v94 v98 v206 (ix2 r 0) = IntOp.andi (v206 (ix2 r 0))
      (ok q (v94 (ix2 r 0)) (mx y) (BitVec.ofNat 32 (am y).val)) := by
  pointwise [k0_pay46]
  rw [pay45_row hq h92 h93 hy, pay43_row h92 hy, show k0_pay42 v98 (ix2 r 0) = mx y from pay34_row hy]
  rfl

include hq h92 h93 hy he in
theorem pay47_row : k0_pay47 v42 v86 v92 v93 v98 (ix2 r 0) = endw q e (BitVec.ofNat 32 (am y).val) := by
  pointwise [k0_pay47]
  have hw : ∀ i : Fin 512, Scalar.select
      (IntOp.andi (IntOp.cmpi .sge (v92 (ix2 r i)) (k0_pay43 v92 v98 (ix2 r 0)))
        (IntOp.cmpi .slt (v92 (ix2 r i)) (IntOp.minsi (k0_pay45 v86 v92 v93 v98 (ix2 r 0))
          (IntOp.addi (k0_pay43 v92 v98 (ix2 r 0)) 10#32))))
      (v42 (ix2 r i)) (Ideal.ofBits .f32 4286578688#32) = win q e (BitVec.ofNat 32 (am y).val) i := fun i => by
    rw [pay45_row hq h92 h93 hy, pay43_row h92 hy, h92, he, ofBits_bot]
    rfl
  simp only [hw]
  simp only [ofBits_bot]
  refine fold_start_ite (win q e _) _ (fold_max_eq _) _ (fun i hi => ?_) (fun i hi => ?_)
  · rw [if_pos hi, h92]
  · rw [if_neg hi]

end Round

/-! ### The table of spans -/

section Table

theorem sel_col {α : Type} (c : Fin 9) (n : Nat) (hn : n < 9) (a b : α) :
    Scalar.select (IntOp.cmpi .eq (BitVec.ofNat 32 c.val) (BitVec.ofNat 32 n)) a b = if c.val = n then a else b := by
  by_cases h : c.val = n
  · rw [if_pos h, cmpi_eq_one (by rw [h]), select_one]
  · rw [if_neg h, cmpi_eq_zero (fun h' => h (congrArg Fin.val (ofNat_inj (n := 9) (by decide) (j := ⟨n, hn⟩) h'))), select_zero]

variable (c : Fin 9) {v99 : IVec S16x9 32} (h99 : ∀ c : Fin 9, v99 (ix2 r c) = BitVec.ofNat 32 c.val)

include h99

theorem pay32_col {v100 : IVec S16x9 32} {v108 v121 v149 : IVec S16x1 32} {v131 : IVec S16x1 1} :
    k0_pay32 v99 v100 v108 v121 v131 v149 (k0_pay31 v99) (ix2 r c) =
      if c.val = 2 then Scalar.select (v131 (ix2 r 0)) (v121 (ix2 r 0)) 0#32
      else if c.val = 1 then Scalar.select (v131 (ix2 r 0)) (v149 (ix2 r 0)) 0#32
      else if c.val = 0 then Scalar.select (v131 (ix2 r 0)) (v108 (ix2 r 0)) 0#32
      else v100 (ix2 r c) := by
  pointwise [k0_pay32, k0_pay31]
  rw [h99, sel_col c 2 (by decide), sel_col c 1 (by decide), sel_col c 0 (by decide)]

theorem pay1_col {v245 : IVec S16x9 32} {v253 v262 v290 : IVec S16x1 32} {v272 : IVec S16x1 1} :
    k0_pay1 v99 v245 v253 v262 v272 v290 k0_pay48 (ix2 r c) =
      if c.val = 8 then Scalar.select (v272 (ix2 r 0)) (v262 (ix2 r 0)) 0#32
      else if c.val = 7 then Scalar.select (v272 (ix2 r 0)) (v290 (ix2 r 0)) 0#32
      else if c.val = 6 then Scalar.select (v272 (ix2 r 0)) (v253 (ix2 r 0)) 0#32
      else v245 (ix2 r c) := by
  pointwise [k0_pay1, k0_pay48]
  rw [h99, sel_col c 8 (by decide), sel_col c 7 (by decide), sel_col c 6 (by decide)]

theorem pay41_col (hq : ∀ k, v86 (ix2 r k) = q k) (h92 : ∀ i, v92 (ix2 r i) = BitVec.ofNat 32 i.val)
    (he : ∀ i, v42 (ix2 r i) = e i) {v198 : IVec S16x20 1} {st : BitVec 32} (h198 : ∀ k : Fin 20, v198 (ix2 r k) =
      IntOp.cmpi .eq (BitVec.ofNat 32 k.val) (BitVec.ofNat 32 (jidx q st).val))
    {v94 v177 : FVec Ideal S16x1 .f32} {v131 : IVec S16x1 1} {v170 : IVec S16x9 32} {v183 v196 : IVec S16x1 32}
    (hst : v183 (ix2 r 0) = st) {va : BitVec 1}
    (hva : IntOp.andi (v131 (ix2 r 0)) (ok q (v94 (ix2 r 0)) (v177 (ix2 r 0)) st) = va) :
    k0_pay41 v42 v86 v92 v94 v99 v131 v170 v177 v183 v196 v198 (ix2 r c) =
      if c.val = 5 then Scalar.select va (v196 (ix2 r 0)) 0#32
      else if c.val = 4 then Scalar.select va (endw q e st) 0#32
      else if c.val = 3 then Scalar.select va st 0#32
      else v170 (ix2 r c) := by
  have hv := pay40_row (v94 := v94) (v131 := v131) (v177 := v177) hq h198 hst
  rw [hva] at hv
  pointwise [k0_pay41]
  rw [h99, sel_col c 5 (by decide), sel_col c 4 (by decide), sel_col c 3 (by decide), hv]
  have hw : ∀ i : Fin 512, Scalar.select
      (IntOp.andi (IntOp.cmpi .sge (v92 (ix2 r i)) (v183 (ix2 r 0)))
        (IntOp.cmpi .slt (v92 (ix2 r i)) (IntOp.minsi (k0_pay39 v86 v198 (ix2 r 0))
          (IntOp.addi (v183 (ix2 r 0)) 10#32))))
      (v42 (ix2 r i)) (Ideal.ofBits .f32 4286578688#32) = win q e st i := fun i => by
    rw [pay39_row hq h198, hst, h92, he, ofBits_bot]
    rfl
  simp only [hw]
  simp only [ofBits_bot]
  rw [fold_start_ite (win q e st) _ (fold_max_eq _) _ (fun i hi => by rw [if_pos hi, h92]) (fun i hi => by rw [if_neg hi]), hst]
  rfl

end Table

end Cert.KernelIdeal.Row
-- ==== Proof.KernelBlock.lean ====
/-
  One block of the kernel: its four output blocks read at an index, as the span search of the block's samples. Rows 0-7 of
  the stacked search are the hop search of the eight samples, rows 8-15 their answer search.
-/
module

public import proofs.«01_k».proof.Proof.KernelRow

@[expose] public section

set_option maxRecDepth 16384

noncomputable section

namespace Cert.KernelIdeal.Row

open Cert.KernelIdeal Cert.KernelIdeal.Gen Idealize.ShloMosaic Cert.Span

variable (x0 : Vec Ideal S8x512x1024 .f32) (x1 : Vec Ideal S4x1024 .f32) (x2 : Vec Ideal S4x1 .f32) (x3 : Vec Ideal S8x20 .i32)
  (x4 : Vec Ideal S8x1 .i32)

/-- What the search reads of stacked row `r`. -/
structure Reads (r : Fin 16) (s e : Fin 512 → EReal) (q : Fin 20 → BitVec 32) (bst : BitVec 32) : Prop where
  hs : ∀ i, k0_pay49 x0 x1 x2 x3 x4 (ix2 r i) = s i
  he : ∀ i, k0_pay50 x0 x1 x2 x3 x4 (ix2 r i) = e i
  hq : ∀ k, k0_pay54 x0 x1 x2 x3 x4 (ix2 r k) = q k
  hy : ∀ i, k0_pay21 (k0_pay49 x0 x1 x2 x3 x4) (View.ld x4 r0_20) (ix2 r i) = mask s bst i

section Search

variable {x0 x1 x2 x3 x4} {r : Fin 16} {s e : Fin 512 → EReal} {q : Fin 20 → BitVec 32} {bst : BitVec 32}
  (h : Reads x0 x1 x2 x3 x4 r s e q bst)

theorem pay51_row (i : Fin 512) : k0_pay51 x0 x1 x2 x3 x4 (ix2 r i) = BitVec.ofNat 32 i.val := by
  pointwise [k0_pay51]

theorem pay52_row (k : Fin 20) : k0_pay52 x0 x1 x2 x3 x4 (ix2 r k) = BitVec.ofNat 32 k.val := by
  pointwise [k0_pay52]

theorem pay53_row (c : Fin 9) : k0_pay53 x0 x1 x2 x3 x4 (ix2 r c) = BitVec.ofNat 32 c.val := by
  pointwise [k0_pay53]

include h

theorem pay55_row : k0_pay55 x0 x1 x2 x3 x4 (ix2 r 0) = active q := by
  have hq := h.hq
  unfold k0_pay54 at hq
  pointwise [k0_pay55, k0_pay19]
  simp only [hq]
  rfl

theorem pay56_row : k0_pay56 x0 x1 x2 x3 x4 (ix2 r 0) = s 0 := by
  pointwise [k0_pay56, k0_pay20]
  exact h.hs 0

theorem pay57_row : k0_pay57 x0 x1 x2 x3 x4 (ix2 r 0) = mx (mask s bst) := by
  pointwise [k0_pay57, k0_pay23]
  simp only [h.hy]
  simp only [ofBits_bot]
  exact fold_max_eq _

theorem pay58_row (i : Fin 512) :
    k0_pay58 x0 x1 x2 x3 x4 (ix2 r i) = BitVec.ofBool (decide (mask s bst i = mx (mask s bst))) := by
  have h57 := pay57_row h
  unfold k0_pay57 at h57
  pointwise [k0_pay58, k0_pay24]
  rw [h.hy, h57]

theorem pay59_row (i : Fin 512) : k0_pay59 x0 x1 x2 x3 x4 (ix2 r i) = rest (mask s bst) 1 i :=
  pay26_row pay51_row h.hy (pay58_row h) i

theorem pay60_row : k0_pay60 x0 x1 x2 x3 x4 (ix2 r 0) = validAt (active q) q (mask s bst) (s 0) 0 := by
  unfold k0_pay60
  rw [pay29_row h.hq pay51_row pay52_row (pay58_row h), pay55_row h, pay56_row h, pay57_row h]
  rfl

theorem pay61_row : k0_pay61 x0 x1 x2 x3 x4 (ix2 r 0) = mx (rest (mask s bst) 1) := pay34_row (pay59_row h)

theorem pay62_row : k0_pay62 x0 x1 x2 x3 x4 (ix2 r 0) = start (mask s bst) 1 := pay35_row pay51_row (pay59_row h)

theorem pay63_row (i : Fin 512) : k0_pay63 x0 x1 x2 x3 x4 (ix2 r i) = rest (mask s bst) 2 i :=
  pay36_row pay51_row (pay59_row h) i

theorem pay64_row (k : Fin 20) : k0_pay64 x0 x1 x2 x3 x4 (ix2 r k) =
    IntOp.cmpi .eq (BitVec.ofNat 32 k.val) (BitVec.ofNat 32 (jidx q (start (mask s bst) 1)).val) :=
  pay38_row h.hq pay51_row pay52_row (pay59_row h) k

/-- The second test, after the first. -/
theorem valid1 : IntOp.andi (k0_pay60 x0 x1 x2 x3 x4 (ix2 r 0)) (ok q (k0_pay56 x0 x1 x2 x3 x4 (ix2 r 0))
    (k0_pay61 x0 x1 x2 x3 x4 (ix2 r 0)) (start (mask s bst) 1)) = validAt (active q) q (mask s bst) (s 0) 1 := by
  rw [pay60_row h, pay56_row h, pay61_row h]
  rfl

theorem pay65_row (c : Fin 9) : k0_pay65 x0 x1 x2 x3 x4 (ix2 r c) =
    if c.val = 5 then spanSep (active q) q (mask s bst) (s 0) 1
    else if c.val = 4 then spanEnd (active q) q e (mask s bst) (s 0) 1
    else if c.val = 3 then spanStart (active q) q (mask s bst) (s 0) 1
    else if c.val = 2 then spanSep (active q) q (mask s bst) (s 0) 0
    else if c.val = 1 then spanEnd (active q) q e (mask s bst) (s 0) 0
    else if c.val = 0 then spanStart (active q) q (mask s bst) (s 0) 0
    else 0#32 := by
  unfold k0_pay65
  rw [pay41_col c pay53_row h.hq pay51_row h.he (pay64_row h) (pay62_row h) (valid1 h),
    pay32_col c pay53_row, pay60_row h, pay25_row pay51_row (pay58_row h),
    pay27_row h.hq pay51_row pay52_row (pay58_row h), pay30_row h.hq pay51_row pay52_row h.he (pay58_row h),
    pay37_row h.hq pay51_row pay52_row (pay59_row h)]
  rfl

theorem pay68_row : k0_pay68 x0 x1 x2 x3 x4 (ix2 r 0) = validAt (active q) q (mask s bst) (s 0) 2 := by
  unfold k0_pay68
  rw [pay46_row h.hq pay51_row pay52_row (pay63_row h), pay40_row h.hq (pay64_row h) (pay62_row h), valid1 h, pay56_row h]
  rfl

/-- The whole table of the stacked row. -/
theorem table_row (c : Fin 9) : k0_pay1 (k0_pay53 x0 x1 x2 x3 x4) (k0_pay65 x0 x1 x2 x3 x4) (k0_pay66 x0 x1 x2 x3 x4)
    (k0_pay67 x0 x1 x2 x3 x4) (k0_pay68 x0 x1 x2 x3 x4) (k0_pay69 x0 x1 x2 x3 x4) (k0_pay70 x0 x1 x2 x3 x4) (ix2 r c) =
      table (active q) q e (mask s bst) (s 0) c.val := by
  unfold k0_pay66 k0_pay67 k0_pay69 k0_pay70
  rw [pay1_col c pay53_row, pay65_row h, pay68_row h, pay43_row pay51_row (pay63_row h),
    pay44_row h.hq pay51_row pay52_row (pay63_row h), pay47_row h.hq pay51_row pay52_row h.he (pay63_row h)]
  have hst : BitVec.ofNat 32 (am (rest (mask s bst) 2)).val = start (mask s bst) 2 := rfl
  rw [hst]
  fin_cases c <;> simp [table, spanSep, spanEnd, spanStart]

theorem gap_row : k0_pay33 (k0_pay55 x0 x1 x2 x3 x4) (k0_pay56 x0 x1 x2 x3 x4) (k0_pay57 x0 x1 x2 x3 x4) (ix2 r 0) =
    gap (active q) (mask s bst) (s 0) := by
  pointwise [k0_pay33]
  rw [pay55_row h, pay56_row h, pay57_row h]
  rfl

end Search

/-! ### What the stacked rows hold -/

/-- The logit of a head at a position of a sample of the block. -/
def logit (head : Fin 4) (b : Fin 8) (i : Fin 512) : EReal := (∑ k : Fin 1024, x1 (ix2 head k) * x0 (ix3 b i k)) + x2 (ix2 head 0)

theorem ld0 : View.ld x0 r0_0 = x0 := View.ld_unit_zero (by decide) _ x0
theorem ld1 : View.ld x1 r0_1 = x1 := View.ld_unit_zero (by decide) _ x1
theorem ld2 : View.ld x2 r0_2 = x2 := View.ld_unit_zero (by decide) _ x2
theorem ld3 : View.ld x3 r0_19 = x3 := View.ld_unit_zero (by decide) _ x3
theorem ld4 : View.ld x4 r0_20 = x4 := View.ld_unit_zero (by decide) _ x4

theorem pay5_at (head : Fin 4) (b : Fin 8) (i : Fin 512) (n : Fin 4096) (hn : n.val = 512 * b.val + i.val) :
    k0_pay5 x0 x1 x2 (ix2 head n) = logit x0 x1 x2 head b i := by
  have h1 : (⟨n.val / 512, by omega⟩ : Fin 8) = b := Fin.ext (by simp only; omega)
  have h2 : (⟨n.val % 512, by omega⟩ : Fin 512) = i := Fin.ext (by simp only; omega)
  pointwise [k0_pay5]
  have hix : ∀ k : Fin 1024, x0 (ix3 ⟨n.val / 512, by omega⟩ ⟨n.val % 512, by omega⟩ k) = x0 (ix3 b i k) := fun k => by rw [h1, h2]
  exact congrArg (· + _) (Finset.sum_congr rfl fun k _ => congrArg (x1 (ix2 head k) * ·) (hix k))

/-- Row `b` of the stacked search: the hop search of the block's sample `b`. -/
theorem reads_hop (b : Fin 8) : Reads x0 x1 x2 x3 x4 ⟨b.val, by omega⟩ (logit x0 x1 x2 0 b) (logit x0 x1 x2 1 b)
    (fun k => x3 (ix2 b k)) (x4 (ix2 b 0)) := by
  have hs : ∀ i, k0_pay49 x0 x1 x2 x3 x4 (ix2 ⟨b.val, by omega⟩ i) = logit x0 x1 x2 0 b i := fun i => by
    unfold k0_pay49
    rw [ld0, ld1, ld2]
    fin_cases b
    all_goals
      pointwise [k0_pay6]
      exact pay5_at _ _ _ _ _ _ _ (by simp)
  refine ⟨hs, fun i => ?_, fun k => ?_, fun i => ?_⟩
  · unfold k0_pay50
    rw [ld0, ld1, ld2]
    fin_cases b
    all_goals
      pointwise [k0_pay7]
      exact pay5_at _ _ _ _ _ _ _ (by simp)
  · unfold k0_pay54
    rw [ld3]
    pointwise [k0_pay18]
  · rw [ld4]
    pointwise [k0_pay21]
    rw [hs, ofBits_bot]
    rfl

/-- Row `b + 8` of the stacked search: the answer search of the block's sample `b`. -/
theorem reads_ans (b : Fin 8) : Reads x0 x1 x2 x3 x4 ⟨8 + b.val, by omega⟩ (logit x0 x1 x2 2 b) (logit x0 x1 x2 3 b)
    (fun k => x3 (ix2 b k)) (x4 (ix2 b 0)) := by
  have hs : ∀ i, k0_pay49 x0 x1 x2 x3 x4 (ix2 ⟨8 + b.val, by omega⟩ i) = logit x0 x1 x2 2 b i := fun i => by
    unfold k0_pay49
    rw [ld0, ld1, ld2]
    fin_cases b
    all_goals
      pointwise [k0_pay6]
      exact pay5_at _ _ _ _ _ _ _ (by simp)
  refine ⟨hs, fun i => ?_, fun k => ?_, fun i => ?_⟩
  · unfold k0_pay50
    rw [ld0, ld1, ld2]
    fin_cases b
    all_goals
      pointwise [k0_pay7]
      exact pay5_at _ _ _ _ _ _ _ (by simp)
  · unfold k0_pay54
    rw [ld3]
    pointwise [k0_pay18]
  · rw [ld4]
    pointwise [k0_pay21]
    rw [hs, ofBits_bot]
    rfl

/-! ### The four output blocks -/

theorem out5 (b : Fin 8) (c : Fin 9) : out0_5 x0 x1 x2 x3 x4 (ix2 b c) =
    table (active fun k => x3 (ix2 b k)) (fun k => x3 (ix2 b k)) (logit x0 x1 x2 1 b)
      (mask (logit x0 x1 x2 0 b) (x4 (ix2 b 0))) (logit x0 x1 x2 0 b 0) c.val := by
  unfold out0_5
  rw [View.canon_unit_zero (by decide)]
  pointwise [k0_pay2]
  exact table_row (reads_hop x0 x1 x2 x3 x4 b) c

theorem out6 (b : Fin 8) (c : Fin 3) : out0_6 x0 x1 x2 x3 x4 (ix2 b c) =
    table (active fun k => x3 (ix2 b k)) (fun k => x3 (ix2 b k)) (logit x0 x1 x2 3 b)
      (mask (logit x0 x1 x2 2 b) (x4 (ix2 b 0))) (logit x0 x1 x2 2 b 0) c.val := by
  unfold out0_6
  rw [View.canon_unit_zero (by decide)]
  pointwise [k0_pay3]
  exact table_row (reads_ans x0 x1 x2 x3 x4 b) ⟨c.val, by omega⟩

theorem out8 (b : Fin 8) : out0_8 x0 x1 x2 x3 x4 (ix2 b 0) =
    gap (active fun k => x3 (ix2 b k)) (mask (logit x0 x1 x2 2 b) (x4 (ix2 b 0))) (logit x0 x1 x2 2 b 0) := by
  unfold out0_8
  rw [View.canon_unit_zero (by decide)]
  pointwise [k0_pay4]
  exact gap_row (reads_ans x0 x1 x2 x3 x4 b)

/-- A load of one sample's first row, stored after two casts that change nothing. -/
theorem piece (P : Vec Ideal S1x1x1024 .f32 → Vec Ideal S1x1x1024 .f32) (hP : ∀ v (k : Fin 1024), P v (ix3 0 0 k) = v (ix3 0 0 k))
    (n : Nat) (inb1 : ∀ a, (![n, 0, 0] : Fin 3 → Nat) a + S1x1x1024.size a ≤ S8x512x1024.size a)
    (inb2 : ∀ a, (![n, 0, 0] : Fin 3 → Nat) a + S1x1x1024.size a ≤ S8x1x1024.size a) (x : S1x1x1024.Idx) :
    P (View.ld x0 (Rect.unit (s := S8x512x1024) ![n, 0, 0] S1x1x1024.size inb1)) x =
      x0 (ix3 ((Rect.unit (s := S8x1x1024) ![n, 0, 0] S1x1x1024.size inb2).emb x 0) 0
        ((Rect.unit (s := S8x1x1024) ![n, 0, 0] S1x1x1024.size inb2).emb x 2)) := by
  obtain ⟨k, rfl⟩ : ∃ k : Fin 1024, x = ix3 0 0 k := by
    refine ⟨x 2, funext fun a => ?_⟩
    fin_cases a
    · exact Subsingleton.elim (α := Fin 1) _ _
    · exact Subsingleton.elim (α := Fin 1) _ _
    · rfl
  refine (hP _ k).trans (congrArg x0 (funext fun a => ?_))
  fin_cases a <;> rfl

theorem out7 (b : Fin 8) (k : Fin 1024) : out0_7 x0 x1 x2 x3 x4 (ix3 b 0 k) = x0 (ix3 b 0 k) := by
  unfold out0_7
  refine View.canon_apply_of_pieces (fun y : S8x1x1024.Idx => x0 (ix3 (y 0) 0 (y 2))) _ ?_ (ix3 b 0 k) (cover0_7 _ _ _ _ _ _ _ _ _)
  intro p hp
  simp only [List.mem_cons, List.not_mem_nil, or_false] at hp
  rcases hp with rfl | rfl | rfl | rfl | rfl | rfl | rfl | rfl
  · exact piece x0 k0_pay17 (fun v k => by pointwise [k0_pay17]) 7 inb_S8x512x1024_S1x1x1024_7_0_0 inb_S8x1x1024_S1x1x1024_7_0_0
  · exact piece x0 k0_pay16 (fun v k => by pointwise [k0_pay16]) 6 inb_S8x512x1024_S1x1x1024_6_0_0 inb_S8x1x1024_S1x1x1024_6_0_0
  · exact piece x0 (fun v => k0_pay15 (k0_pay14 v)) (fun v k => by pointwise [k0_pay15, k0_pay14]) 5 inb_S8x512x1024_S1x1x1024_5_0_0 inb_S8x1x1024_S1x1x1024_5_0_0
  · exact piece x0 k0_pay13 (fun v k => by pointwise [k0_pay13]) 4 inb_S8x512x1024_S1x1x1024_4_0_0 inb_S8x1x1024_S1x1x1024_4_0_0
  · exact piece x0 k0_pay12 (fun v k => by pointwise [k0_pay12]) 3 inb_S8x512x1024_S1x1x1024_3_0_0 inb_S8x1x1024_S1x1x1024_3_0_0
  · exact piece x0 k0_pay11 (fun v k => by pointwise [k0_pay11]) 2 inb_S8x512x1024_S1x1x1024_2_0_0 inb_S8x1x1024_S1x1x1024_2_0_0
  · exact piece x0 k0_pay10 (fun v k => by pointwise [k0_pay10]) 1 inb_S8x512x1024_S1x1x1024_1_0_0 inb_S8x1x1024_S1x1x1024_1_0_0
  · exact piece x0 (fun v => k0_pay9 (k0_pay8 v)) (fun v k => by pointwise [k0_pay9, k0_pay8]) 0 inb_S8x512x1024_S1x1x1024_0_0_0 inb_S8x1x1024_S1x1x1024_0_0_0

end Cert.KernelIdeal.Row
-- ==== Proof.KernelRun.lean ====
/-
  The kernel's run: what its four output arrays hold after the last grid point, and what the four reshapes that follow leave.
-/
module

public import proofs.«01_k».proof.Proof.KernelBlock
public import Idealize.ShloMosaic.Lib.Pipeline.ValueKit
public import Idealize.ShloMosaic.Lib.StableHlo.ReadAt

@[expose] public section

set_option maxRecDepth 16384

noncomputable section

namespace Cert.KernelIdeal.Row

open Cert.KernelIdeal Cert.KernelIdeal.Gen Idealize.ShloMosaic Idealize.ShloMosaic.TcCoe Idealize.SL.Sem Cert.Span

variable (m : (ℓ : Loc nD τ sig) → Buf (Elt Ideal) ℓ)

theorem V_v0 (c : Dev nD) (h : Fin 4) (k : Fin 1024) :
    (V m c main_v0 : Vec Ideal S4x1024 .f32) (ix2 h k) = (m ((c : Thread nD τ).loc main_arg1) : Vec Ideal S1024x4 .f32) (ix2 k h) := by
  have : (V m c main_v0 : Vec Ideal S4x1024 .f32) = transpose S4x1024 [1, 0] (m ((c : Thread nD τ).loc main_arg1) : Vec Ideal S1024x4 .f32) transposes_S1024x4_S4x1024_1_0 := by
    unfold_abbrev_sides
    simp only [hostOps0, List.flatten_cons, List.flatten_nil, List.append_nil, List.cons_append, List.nil_append]
    after_results
    first | done | rfl
  rw [this]
  pointwise []

theorem V_v1 (c : Dev nD) (h : Fin 4) :
    (V m c main_v1 : Vec Ideal S4x1 .f32) (ix2 h 0) = (m ((c : Thread nD τ).loc main_arg2) : Vec Ideal S4 .f32) (ix1 h) := by
  have : (V m c main_v1 : Vec Ideal S4x1 .f32) = shapeCast S4x1 (m ((c : Thread nD τ).loc main_arg2) : Vec Ideal S4 .f32) shapeCasts_S4_S4x1 := by
    unfold_abbrev_sides
    simp only [hostOps0, List.flatten_cons, List.flatten_nil, List.append_nil, List.cons_append, List.nil_append]
    after_results
    first | done | rfl
  rw [this]
  pointwise []

theorem V_v2 (c : Dev nD) (b : Fin 64) :
    (V m c main_v2 : Vec Ideal S64x1 .i32) (ix2 b 0) = (m ((c : Thread nD τ).loc main_arg4) : Vec Ideal S64 .i32) (ix1 b) := by
  have : (V m c main_v2 : Vec Ideal S64x1 .i32) = shapeCast S64x1 (m ((c : Thread nD τ).loc main_arg4) : Vec Ideal S64 .i32) shapeCasts_S64_S64x1 := by
    unfold_abbrev_sides
    simp only [hostOps0, List.flatten_cons, List.flatten_nil, List.append_nil, List.cons_append, List.nil_append]
    after_results
    first | done | rfl
  rw [this]
  pointwise []

/-! ### The blocks at coordinates -/

/-- The sample a block's row is. -/
def row (t : Fin cfg0.N) (b : Fin 8) : Fin 64 := ⟨t.val * 8 + b.val, by have : t.val < 8 := t.isLt; omega⟩

theorem idx0 : ∀ t : Fin cfg0.N, win0_0.index t = ![t.val, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0, 0] := (by decide +kernel : ∀ t : Fin grid0.N, _)
theorem idx8 : ∀ t : Fin cfg0.N, win0_8.index t = ![t.val, 0] := (by decide +kernel : ∀ t : Fin grid0.N, _)

theorem iblk0 (c : Dev nD) (t : Fin cfg0.N) (b : Fin 8) (i : Fin 512) (k : Fin 1024) :
    (iblk m c 0 t : Vec Ideal S8x512x1024 .f32) (ix3 b i k) =
      (m ((c : Thread nD τ).loc main_arg0) : Vec Ideal S64x512x1024 .f32) (ix3 (row t b) i k) := by
  have he : (win0_0.blk t).view.emb (ix3 b i k) = ix3 (row t b) i k := by blk_ext [idx0, row]
  blk_simp [iblk]
  rw [V_main_arg0]
  exact congrArg _ he

theorem iblk1 (c : Dev nD) (t : Fin cfg0.N) (h : Fin 4) (k : Fin 1024) :
    (iblk m c 1 t : Vec Ideal S4x1024 .f32) (ix2 h k) =
      (m ((c : Thread nD τ).loc main_arg1) : Vec Ideal S1024x4 .f32) (ix2 k h) := by
  have he : (win0_1.blk t).view.emb (ix2 h k) = ix2 h k := by blk_ext [idx1]
  blk_simp [iblk]
  rw [← V_v0 m c h k]
  exact congrArg _ he

theorem iblk2 (c : Dev nD) (t : Fin cfg0.N) (h : Fin 4) :
    (iblk m c 2 t : Vec Ideal S4x1 .f32) (ix2 h 0) = (m ((c : Thread nD τ).loc main_arg2) : Vec Ideal S4 .f32) (ix1 h) := by
  have he : (win0_2.blk t).view.emb (ix2 h 0) = ix2 h 0 := by blk_ext [idx2]
  blk_simp [iblk]
  rw [← V_v1 m c h]
  exact congrArg _ he

theorem iblk3 (c : Dev nD) (t : Fin cfg0.N) (b : Fin 8) (k : Fin 20) :
    (iblk m c 3 t : Vec Ideal S8x20 .i32) (ix2 b k) =
      (m ((c : Thread nD τ).loc main_arg3) : Vec Ideal S64x20 .i32) (ix2 (row t b) k) := by
  have he : (win0_3.blk t).view.emb (ix2 b k) = ix2 (row t b) k := by blk_ext [idx3, row]
  blk_simp [iblk]
  rw [V_main_arg3]
  exact congrArg _ he

theorem iblk4 (c : Dev nD) (t : Fin cfg0.N) (b : Fin 8) :
    (iblk m c 4 t : Vec Ideal S8x1 .i32) (ix2 b 0) =
      (m ((c : Thread nD τ).loc main_arg4) : Vec Ideal S64 .i32) (ix1 (row t b)) := by
  have he : (win0_4.blk t).view.emb (ix2 b 0) = ix2 (row t b) 0 := by blk_ext [idx4, row]
  blk_simp [iblk]
  rw [← V_v2 m c (row t b)]
  exact congrArg _ he

/-! ### The whole arrays -/

/-- The logit of one head at a position of a sample. -/
def logits (X : Vec Ideal S64x512x1024 .f32) (W : Vec Ideal S1024x4 .f32) (B : Vec Ideal S4 .f32)
    (head : Fin 4) (b : Fin 64) (i : Fin 512) : EReal :=
  (∑ k : Fin 1024, W (ix2 k head) * X (ix3 b i k)) + B (ix1 head)

/-- A row's separators. -/
def seps (Q : Vec Ideal S64x20 .i32) (b : Fin 64) (k : Fin 20) : BitVec 32 := Q (ix2 b k)

/-- The span table of one pair of heads in a sample. -/
def spans (X : Vec Ideal S64x512x1024 .f32) (W : Vec Ideal S1024x4 .f32) (B : Vec Ideal S4 .f32) (Q : Vec Ideal S64x20 .i32)
    (T : Vec Ideal S64 .i32) (hs he : Fin 4) (b : Fin 64) (n : ℕ) : BitVec 32 :=
  table (active (seps Q b)) (seps Q b) (logits X W B he b) (mask (logits X W B hs b) (T (ix1 b))) (logits X W B hs b 0) n

/-- The gap of a sample. -/
def gaps (X : Vec Ideal S64x512x1024 .f32) (W : Vec Ideal S1024x4 .f32) (B : Vec Ideal S4 .f32) (Q : Vec Ideal S64x20 .i32)
    (T : Vec Ideal S64 .i32) (b : Fin 64) : EReal :=
  gap (active (seps Q b)) (mask (logits X W B 2 b) (T (ix1 b))) (logits X W B 2 b 0)

abbrev aX (c : Dev nD) : Vec Ideal S64x512x1024 .f32 := m ((c : Thread nD τ).loc main_arg0)
abbrev aW (c : Dev nD) : Vec Ideal S1024x4 .f32 := m ((c : Thread nD τ).loc main_arg1)
abbrev aB (c : Dev nD) : Vec Ideal S4 .f32 := m ((c : Thread nD τ).loc main_arg2)
abbrev aQ (c : Dev nD) : Vec Ideal S64x20 .i32 := m ((c : Thread nD τ).loc main_arg3)
abbrev aT (c : Dev nD) : Vec Ideal S64 .i32 := m ((c : Thread nD τ).loc main_arg4)

theorem logit_blk (c : Dev nD) (t : Fin cfg0.N) (head : Fin 4) (b : Fin 8) :
    logit (iblk m c 0 t) (iblk m c 1 t) (iblk m c 2 t) head b = logits (aX m c) (aW m c) (aB m c) head (row t b) := by
  funext i
  unfold logit logits
  rw [iblk2]
  congr 1
  refine Finset.sum_congr rfl fun k _ => ?_
  rw [iblk0, iblk1]

theorem seps_blk (c : Dev nD) (t : Fin cfg0.N) (b : Fin 8) :
    (fun k => (iblk m c 3 t : Vec Ideal S8x20 .i32) (ix2 b k)) = seps (aQ m c) (row t b) := by
  funext k
  rw [iblk3]
  rfl

theorem arr5 (c : Dev nD) (b : Fin 64) (n : Fin 9) :
    ((dats m 0 c).arrAt 5 cfg0.N : Vec Ideal S64x9 .i32) (ix2 b n) =
      spans (aX m c) (aW m c) (aB m c) (aQ m c) (aT m c) 0 1 b n.val := by
  obtain ⟨G, hG⟩ : ∃ G : S64x9.Idx → BitVec 32, ∀ b n, G (ix2 b n) =
      spans (aX m c) (aW m c) (aB m c) (aQ m c) (aT m c) 0 1 b n.val := ⟨fun j => spans _ _ _ _ _ _ _ (j 0) (j 1).val, fun _ _ => rfl⟩
  have h : (dats m 0 c).arrAt 5 cfg0.N = G := by
    refine (dats m 0 c).arrAt_eq_of_covers 5 _ (by decide +kernel) fun t hf y => ?_
    have he : ∀ b n, (win0_5.blk t).view.emb (ix2 b n) = ix2 (row t b) n := fun b n => by blk_ext [idx5, row]
    blk_simp
    rw [after0_5]
    idx_vars y
    rw [out5, logit_blk, logit_blk, seps_blk, iblk4]
    exact (hG (row t y0) y1).symm.trans (congrArg G (he y0 y1).symm)
  exact (congrFun h _).trans (hG b n)

theorem arr6 (c : Dev nD) (b : Fin 64) (n : Fin 3) :
    ((dats m 0 c).arrAt 6 cfg0.N : Vec Ideal S64x3 .i32) (ix2 b n) =
      spans (aX m c) (aW m c) (aB m c) (aQ m c) (aT m c) 2 3 b n.val := by
  obtain ⟨G, hG⟩ : ∃ G : S64x3.Idx → BitVec 32, ∀ b n, G (ix2 b n) =
      spans (aX m c) (aW m c) (aB m c) (aQ m c) (aT m c) 2 3 b n.val := ⟨fun j => spans _ _ _ _ _ _ _ (j 0) (j 1).val, fun _ _ => rfl⟩
  have h : (dats m 0 c).arrAt 6 cfg0.N = G := by
    refine (dats m 0 c).arrAt_eq_of_covers 6 _ (by decide +kernel) fun t hf y => ?_
    have he : ∀ b n, (win0_6.blk t).view.emb (ix2 b n) = ix2 (row t b) n := fun b n => by blk_ext [idx6, row]
    blk_simp
    rw [after0_6]
    idx_vars y
    rw [out6, logit_blk, logit_blk, seps_blk, iblk4]
    exact (hG (row t y0) y1).symm.trans (congrArg G (he y0 y1).symm)
  exact (congrFun h _).trans (hG b n)

theorem arr7 (c : Dev nD) (b : Fin 64) (k : Fin 1024) :
    ((dats m 0 c).arrAt 7 cfg0.N : Vec Ideal S64x1x1024 .f32) (ix3 b 0 k) = aX m c (ix3 b 0 k) := by
  have h : (dats m 0 c).arrAt 7 cfg0.N = fun j : S64x1x1024.Idx => aX m c (ix3 (j 0) 0 (j 2)) := by
    refine (dats m 0 c).arrAt_eq_of_covers 7 _ (by decide +kernel) fun t hf y => ?_
    have he : ∀ b k, (win0_7.blk t).view.emb (ix3 b 0 k) = ix3 (row t b) 0 k := fun b n => by blk_ext [idx7, row]
    blk_simp
    rw [after0_7]
    idx_vars y
    obtain rfl : y1 = 0 := Subsingleton.elim _ _
    rw [out7, iblk0]
    refine Eq.trans ?_ (congrArg (fun j : S64x1x1024.Idx => aX m c (ix3 (j 0) 0 (j 2))) (he y0 y2).symm)
    rfl
  exact congrFun h _

theorem arr8 (c : Dev nD) (b : Fin 64) :
    ((dats m 0 c).arrAt 8 cfg0.N : Vec Ideal S64x1 .f32) (ix2 b 0) =
      gaps (aX m c) (aW m c) (aB m c) (aQ m c) (aT m c) b := by
  have h : (dats m 0 c).arrAt 8 cfg0.N = fun j : S64x1.Idx =>
      gaps (aX m c) (aW m c) (aB m c) (aQ m c) (aT m c) (j 0) := by
    refine (dats m 0 c).arrAt_eq_of_covers 8 _ (by decide +kernel) fun t hf y => ?_
    have he : ∀ b, (win0_8.blk t).view.emb (ix2 b 0) = ix2 (row t b) 0 := fun b => by blk_ext [idx8, row]
    blk_simp
    rw [after0_8]
    idx_vars y
    obtain rfl : y1 = 0 := Subsingleton.elim _ _
    rw [out8, logit_blk, seps_blk, iblk4]
    refine Eq.trans ?_ (congrArg (fun j : S64x1.Idx =>
      gaps (aX m c) (aW m c) (aB m c) (aQ m c) (aT m c) (j 0)) (he y0).symm)
    rfl
  exact congrFun h _

end Cert.KernelIdeal.Row
-- ==== Proof.KernelOut.lean ====
/-
  What the kernel's run leaves in its four results.
-/
module

public import proofs.«01_k».proof.Proof.KernelRun

@[expose] public section

set_option maxRecDepth 16384

noncomputable section

namespace Cert.KernelIdeal.Row

open Cert.KernelIdeal Cert.KernelIdeal.Gen Idealize.ShloMosaic Idealize.ShloMosaic.TcCoe Idealize.SL.Sem Cert.Span

variable (m : (ℓ : Loc nD τ sig) → Buf (Elt Ideal) ℓ)

theorem refs_inj : Function.Injective (Pipeline.arrRef spec0) := by decide +kernel

/-- The contents after the four reshapes that follow the grid. -/
abbrev fin (c : Dev nD) (b : Ref sig .tc) : b.ty.Contents (Elt Ideal) :=
  Pipeline.afterTail₀ cfgs (dats m) 0 (V0 m) [hostOps1] c b

theorem fin4 (c : Dev nD) (b : Fin 64) (s r : Fin 3) :
    (fin m c main_v4 : Vec Ideal S64x3x3 .i32) (ix3 b s r) =
      spans (aX m c) (aW m c) (aB m c) (aQ m c) (aT m c) 0 1 b (s.val * 3 + r.val) := by
  have h : (fin m c main_v4 : Vec Ideal S64x3x3 .i32) = shapeCast S64x3x3 ((dats m 0 c).arrAt 5 cfg0.N : Vec Ideal S64x9 .i32) shapeCasts_S64x9_S64x3x3 := by
    unfold fin Pipeline.afterTail₀
    simp only [hostOps1, List.flatten_cons, List.flatten_nil, List.append_nil, List.cons_append, List.nil_append]
    after_results
    exact congrArg (fun x => shapeCast S64x3x3 x shapeCasts_S64x9_S64x3x3) (Pipeline.withArrays_arr spec0 refs_inj c _ _ 5)
  rw [h]
  have e : shapeCast S64x3x3 ((dats m 0 c).arrAt 5 cfg0.N : Vec Ideal S64x9 .i32) shapeCasts_S64x9_S64x3x3 (ix3 b s r) =
      ((dats m 0 c).arrAt 5 cfg0.N : Vec Ideal S64x9 .i32) (ix2 b ⟨s.val * 3 + r.val, by omega⟩) := by
    pointwise []
  rw [e, arr5]

theorem fin5 (c : Dev nD) (b : Fin 64) (r : Fin 3) :
    (fin m c main_v5 : Vec Ideal S64x1x3 .i32) (ix3 b 0 r) =
      spans (aX m c) (aW m c) (aB m c) (aQ m c) (aT m c) 2 3 b r.val := by
  have h : (fin m c main_v5 : Vec Ideal S64x1x3 .i32) = shapeCast S64x1x3 ((dats m 0 c).arrAt 6 cfg0.N : Vec Ideal S64x3 .i32) shapeCasts_S64x3_S64x1x3 := by
    unfold fin Pipeline.afterTail₀
    simp only [hostOps1, List.flatten_cons, List.flatten_nil, List.append_nil, List.cons_append, List.nil_append]
    after_results
    exact congrArg (fun x => shapeCast S64x1x3 x shapeCasts_S64x3_S64x1x3) (Pipeline.withArrays_arr spec0 refs_inj c _ _ 6)
  rw [h]
  have e : shapeCast S64x1x3 ((dats m 0 c).arrAt 6 cfg0.N : Vec Ideal S64x3 .i32) shapeCasts_S64x3_S64x1x3 (ix3 b 0 r) =
      ((dats m 0 c).arrAt 6 cfg0.N : Vec Ideal S64x3 .i32) (ix2 b r) := by
    pointwise []
  rw [e, arr6]

set_option maxHeartbeats 1600000 in
theorem fin6 (c : Dev nD) (b : Fin 64) (k : Fin 1024) :
    (fin m c main_v6 : Vec Ideal S64x1024 .f32) (ix2 b k) =
      aX m c (ix3 b 0 k) := by
  have h : (fin m c main_v6 : Vec Ideal S64x1024 .f32) = shapeCast S64x1024 ((dats m 0 c).arrAt 7 cfg0.N : Vec Ideal S64x1x1024 .f32) shapeCasts_S64x1x1024_S64x1024 := by
    unfold fin Pipeline.afterTail₀
    simp only [hostOps1, List.flatten_cons, List.flatten_nil, List.append_nil, List.cons_append, List.nil_append]
    after_results
    exact congrArg (fun x => shapeCast S64x1024 x shapeCasts_S64x1x1024_S64x1024) (Pipeline.withArrays_arr spec0 refs_inj c _ _ 7)
  rw [h]
  have e : shapeCast S64x1024 ((dats m 0 c).arrAt 7 cfg0.N : Vec Ideal S64x1x1024 .f32) shapeCasts_S64x1x1024_S64x1024 (ix2 b k) =
      ((dats m 0 c).arrAt 7 cfg0.N : Vec Ideal S64x1x1024 .f32) (ix3 b 0 k) := by
    pointwise []
  rw [e, arr7]

theorem fin7 (c : Dev nD) (b : Fin 64) :
    (fin m c main_v7 : Vec Ideal S64 .f32) (ix1 b) =
      gaps (aX m c) (aW m c) (aB m c) (aQ m c) (aT m c) b := by
  have h : (fin m c main_v7 : Vec Ideal S64 .f32) = shapeCast S64 ((dats m 0 c).arrAt 8 cfg0.N : Vec Ideal S64x1 .f32) shapeCasts_S64x1_S64 := by
    unfold fin Pipeline.afterTail₀
    simp only [hostOps1, List.flatten_cons, List.flatten_nil, List.append_nil, List.cons_append, List.nil_append]
    after_results
    exact congrArg (fun x => shapeCast S64 x shapeCasts_S64x1_S64) (Pipeline.withArrays_arr spec0 refs_inj c _ _ 8)
  rw [h]
  have e : shapeCast S64 ((dats m 0 c).arrAt 8 cfg0.N : Vec Ideal S64x1 .f32) shapeCasts_S64x1_S64 (ix1 b) =
      ((dats m 0 c).arrAt 8 cfg0.N : Vec Ideal S64x1 .f32) (ix2 b 0) := by
    pointwise []
  rw [e, arr8]

variable (ρ : Dev nD → PrngReg)

/-- The run: the four results at the contents above, the arguments unchanged. -/
theorem run :
    θ_run defs (onTc (τ := τ) main) ⟨m, fun _ => 0, ρ⟩ (fun r => ∀ c : Dev nD,
      (r.2.mem ((c : Thread nD τ).loc main_v4) = fin m c main_v4
      ∧ r.2.mem ((c : Thread nD τ).loc main_v5) = fin m c main_v5
      ∧ r.2.mem ((c : Thread nD τ).loc main_v6) = fin m c main_v6
      ∧ r.2.mem ((c : Thread nD τ).loc main_v7) = fin m c main_v7)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))) := by
  refine (θ_run defs _ _).mono (fun r h c => ⟨?_, h.1 c⟩)
    (θ_run_and (unchanged m ρ) (run_main m ρ))
  refine ⟨?_, ?_, ?_, ?_⟩ <;>
    exact (h.2 c).2 _ (Pipeline.mem_restRefs_of _ (by decide) (by decide))

end Cert.KernelIdeal.Row
-- ==== Proof.RefOps.lean ====
/- The reference's @main as a list of its host operations, window by window, and the facts a run of the list asks for. -/
module

public import proofs.«01_k».proof.Proof.Gen.ReferenceIdeal
public import Idealize.ShloMosaic.Lib.StableHlo.Run
public import Idealize.ShloMosaic.Lib.Pipeline.Frame

@[expose] public section

set_option maxRecDepth 16384
set_option Elab.async false
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The contents of every buffer of the reference's @main. -/
abbrev Val (F : FTy → Type) [FloatOps F] := Valuation τ sig (Elt F)

/-- The function of the operation that writes `main_v82`, named. It packs its operands into a list of dependent pairs
    whose shapes a later argument's type mentions, so `simp` cannot rewrite an operand where it stands; applied by
    name, the operands are plain arguments, which the window lemmas below rewrite before the name unfolds. -/
def fn_main_v82 : (main_v79 : Ref sig .tc).ty.Contents (Elt F) → (main_v80 : Ref sig .tc).ty.Contents (Elt F) → (main_v81 : Ref sig .tc).ty.Contents (Elt F) → (main_v82 : Ref sig .tc).ty.Contents (Elt F) :=
  (fun u0 u1 u2 => (concatenate S64x3x3 2 [⟨S64x3x1, (u0 : (⟨S64x3x1, .i32⟩ : BufTy).Contents (Elt F))⟩, ⟨S64x3x1, (u1 : (⟨S64x3x1, .i32⟩ : BufTy).Contents (Elt F))⟩, ⟨S64x3x1, (u2 : (⟨S64x3x1, .i32⟩ : BufTy).Contents (Elt F))⟩] concatenates_S64x3x1_S64x3x1_S64x3x1_S64x3x3_d2 : (⟨S64x3x3, .i32⟩ : BufTy).Contents (Elt F)))

/-- The function of the operation that writes `main_v175`, named. It packs its operands into a list of dependent pairs
    whose shapes a later argument's type mentions, so `simp` cannot rewrite an operand where it stands; applied by
    name, the operands are plain arguments, which the window lemmas below rewrite before the name unfolds. -/
def fn_main_v175 : (main_v172 : Ref sig .tc).ty.Contents (Elt F) → (main_v173 : Ref sig .tc).ty.Contents (Elt F) → (main_v174 : Ref sig .tc).ty.Contents (Elt F) → (main_v175 : Ref sig .tc).ty.Contents (Elt F) :=
  (fun u0 u1 u2 => (concatenate S64x1x3 2 [⟨S64x1x1, (u0 : (⟨S64x1x1, .i32⟩ : BufTy).Contents (Elt F))⟩, ⟨S64x1x1, (u1 : (⟨S64x1x1, .i32⟩ : BufTy).Contents (Elt F))⟩, ⟨S64x1x1, (u2 : (⟨S64x1x1, .i32⟩ : BufTy).Contents (Elt F))⟩] concatenates_S64x1x1_S64x1x1_S64x1x1_S64x1x3_d2 : (⟨S64x1x3, .i32⟩ : BufTy).Contents (Elt F)))

/-- @main's operations 1 … 30 of 338 (window `main_part0`). -/
abbrev ops_part0_0 : List (HloOp τ sig (Elt F)) :=
  [ unary main_arg0 main_v0 ((extractStridedSlice S64x1x1024 ![0, 0, 0] · slices_S64x512x1024_S64x1x1024_0_0_0) : (⟨S64x512x1024, .f32⟩ : BufTy).Contents (Elt F) → (⟨S64x1x1024, .f32⟩ : BufTy).Contents (Elt F)),
    reshape main_v0 main_v1 (rfl : (.f32 : EltTy) = .f32) shapeCasts_S64x1x1024_S64x1024,
    binary main_arg0 main_arg1 main_v2 ((fun l r => Host.dotGeneral dot_S64x512x1024_S1024x4_S64x512x4_2_0_01_1_n_n none l r) : (⟨S64x512x1024, .f32⟩ : BufTy).Contents (Elt F) → (⟨S1024x4, .f32⟩ : BufTy).Contents (Elt F) → (⟨S64x512x4, .f32⟩ : BufTy).Contents (Elt F)),
    unary main_arg2 main_v3 (broadcastInDim S1x1x4 ![2] bcast_S4_S1x1x4_2 : (⟨S4, .f32⟩ : BufTy).Contents (Elt F) → (⟨S1x1x4, .f32⟩ : BufTy).Contents (Elt F)),
    unary main_v3 main_v4 (broadcastInDim S64x512x4 ![0, 1, 2] bcast_S1x1x4_S64x512x4_0_1_2 : (⟨S1x1x4, .f32⟩ : BufTy).Contents (Elt F) → (⟨S64x512x4, .f32⟩ : BufTy).Contents (Elt F)),
    binary main_v2 main_v4 main_v5 (addf : (⟨S64x512x4, .f32⟩ : BufTy).Contents (Elt F) → (⟨S64x512x4, .f32⟩ : BufTy).Contents (Elt F) → (⟨S64x512x4, .f32⟩ : BufTy).Contents (Elt F)),
    unary main_v5 main_v6 ((extractStridedSlice S64x512x1 ![0, 0, 0] · slices_S64x512x4_S64x512x1_0_0_0) : (⟨S64x512x4, .f32⟩ : BufTy).Contents (Elt F) → (⟨S64x512x1, .f32⟩ : BufTy).Contents (Elt F)),
    reshape main_v6 main_v7 (rfl : (.f32 : EltTy) = .f32) shapeCasts_S64x512x1_S64x512,
    unary main_v5 main_v8 ((extractStridedSlice S64x512x1 ![0, 0, 1] · slices_S64x512x4_S64x512x1_0_0_1) : (⟨S64x512x4, .f32⟩ : BufTy).Contents (Elt F) → (⟨S64x512x1, .f32⟩ : BufTy).Contents (Elt F)),
    reshape main_v8 main_v9 (rfl : (.f32 : EltTy) = .f32) shapeCasts_S64x512x1_S64x512,
    unary main_v5 main_v10 ((extractStridedSlice S64x512x1 ![0, 0, 2] · slices_S64x512x4_S64x512x1_0_0_2) : (⟨S64x512x4, .f32⟩ : BufTy).Contents (Elt F) → (⟨S64x512x1, .f32⟩ : BufTy).Contents (Elt F)),
    reshape main_v10 main_v11 (rfl : (.f32 : EltTy) = .f32) shapeCasts_S64x512x1_S64x512,
    unary main_v5 main_v12 ((extractStridedSlice S64x512x1 ![0, 0, 3] · slices_S64x512x4_S64x512x1_0_0_3) : (⟨S64x512x4, .f32⟩ : BufTy).Contents (Elt F) → (⟨S64x512x1, .f32⟩ : BufTy).Contents (Elt F)),
    reshape main_v12 main_v13 (rfl : (.f32 : EltTy) = .f32) shapeCasts_S64x512x1_S64x512,
    unary main_v7 main_v14 ((extractStridedSlice S64x1 ![0, 0] · slices_S64x512_S64x1_0_0) : (⟨S64x512, .f32⟩ : BufTy).Contents (Elt F) → (⟨S64x1, .f32⟩ : BufTy).Contents (Elt F)),
    reshape main_v14 main_v15 (rfl : (.f32 : EltTy) = .f32) shapeCasts_S64x1_S64,
    nullary main_cst (constant S_ .f32 0x00000000#32),
    unary main_cst main_v16 (broadcastInDim S64 ![] bcast_S_S64 : (⟨S_, .f32⟩ : BufTy).Contents (Elt F) → (⟨S64, .f32⟩ : BufTy).Contents (Elt F)),
    binary main_v15 main_v16 main_v17 (subf : (⟨S64, .f32⟩ : BufTy).Contents (Elt F) → (⟨S64, .f32⟩ : BufTy).Contents (Elt F) → (⟨S64, .f32⟩ : BufTy).Contents (Elt F)),
    nullary main_v18 (iotaInDim S512 32 0),
    unary main_v18 main_v19 (broadcastInDim S1x512 ![1] bcast_S512_S1x512_1 : (⟨S512, .i32⟩ : BufTy).Contents (Elt F) → (⟨S1x512, .i32⟩ : BufTy).Contents (Elt F)),
    unary main_arg4 main_v20 (broadcastInDim S64x1 ![0] bcast_S64_S64x1_0 : (⟨S64, .i32⟩ : BufTy).Contents (Elt F) → (⟨S64x1, .i32⟩ : BufTy).Contents (Elt F)),
    unary main_v19 main_v21 (broadcastInDim S64x512 ![0, 1] bcast_S1x512_S64x512_0_1 : (⟨S1x512, .i32⟩ : BufTy).Contents (Elt F) → (⟨S64x512, .i32⟩ : BufTy).Contents (Elt F)),
    unary main_v20 main_v22 (broadcastInDim S64x512 ![0, 1] bcast_S64x1_S64x512_0_1 : (⟨S64x1, .i32⟩ : BufTy).Contents (Elt F) → (⟨S64x512, .i32⟩ : BufTy).Contents (Elt F)),
    binary main_v21 main_v22 main_v23 (cmpi .sge : (⟨S64x512, .i32⟩ : BufTy).Contents (Elt F) → (⟨S64x512, .i32⟩ : BufTy).Contents (Elt F) → (⟨S64x512, .i1⟩ : BufTy).Contents (Elt F)),
    nullary main_cst_0 (constant S_ .f32 0xFF800000#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S512, .f32⟩) main_call0_v1) (broadcastInDim S512 ![] bcast_S_S512),
    TRef.unary (TRef.of (T := ⟨S512, .f32⟩) main_call0_v1) (TRef.of (T := ⟨S64x512, .f32⟩) main_call0_v2) (broadcastInDim S64x512 ![1] bcast_S512_S64x512_1),
    TRef.ternary (TRef.of (T := ⟨S64x512, .i1⟩) main_v23) (TRef.of (T := ⟨S64x512, .f32⟩) main_v7) (TRef.of (T := ⟨S64x512, .f32⟩) main_call0_v2) (TRef.of (T := ⟨S64x512, .f32⟩) main_v24) select ]

/-- @main's operations 31 … 60 of 338 (window `main_part0`). -/
abbrev ops_part0_1 : List (HloOp τ sig (Elt F)) :=
  [ unary main_v24 main_values ((fun x => (Host.topK S64x3 1 (FloatOps.cmpfTotal .gt) x sliceFits_S64x512_S64x3).1) : (⟨S64x512, .f32⟩ : BufTy).Contents (Elt F) → (⟨S64x3, .f32⟩ : BufTy).Contents (Elt F)),
    unary main_v24 main_indices ((fun x => (Host.topK S64x3 1 (FloatOps.cmpfTotal .gt) x sliceFits_S64x512_S64x3).2) : (⟨S64x512, .f32⟩ : BufTy).Contents (Elt F) → (⟨S64x3, .i32⟩ : BufTy).Contents (Elt F)),
    unary main_arg3 main_v25 (broadcastInDim S64x1x20 ![0, 2] bcast_S64x20_S64x1x20_0_2 : (⟨S64x20, .i32⟩ : BufTy).Contents (Elt F) → (⟨S64x1x20, .i32⟩ : BufTy).Contents (Elt F)),
    unary main_indices main_v26 (broadcastInDim S64x3x1 ![0, 1] bcast_S64x3_S64x3x1_0_1 : (⟨S64x3, .i32⟩ : BufTy).Contents (Elt F) → (⟨S64x3x1, .i32⟩ : BufTy).Contents (Elt F)),
    unary main_v25 main_v27 (broadcastInDim S64x3x20 ![0, 1, 2] bcast_S64x1x20_S64x3x20_0_1_2 : (⟨S64x1x20, .i32⟩ : BufTy).Contents (Elt F) → (⟨S64x3x20, .i32⟩ : BufTy).Contents (Elt F)),
    unary main_v26 main_v28 (broadcastInDim S64x3x20 ![0, 1, 2] bcast_S64x3x1_S64x3x20_0_1_2 : (⟨S64x3x1, .i32⟩ : BufTy).Contents (Elt F) → (⟨S64x3x20, .i32⟩ : BufTy).Contents (Elt F)),
    binary main_v27 main_v28 main_v29 (cmpi .sgt : (⟨S64x3x20, .i32⟩ : BufTy).Contents (Elt F) → (⟨S64x3x20, .i32⟩ : BufTy).Contents (Elt F) → (⟨S64x3x20, .i1⟩ : BufTy).Contents (Elt F)),
    unary main_arg3 main_v30 (broadcastInDim S64x1x20 ![0, 2] bcast_S64x20_S64x1x20_0_2 : (⟨S64x20, .i32⟩ : BufTy).Contents (Elt F) → (⟨S64x1x20, .i32⟩ : BufTy).Contents (Elt F)),
    nullary main_c (constantI S_ 32 0#32),
    unary main_c main_v31 (broadcastInDim S64x1x20 ![] bcast_S_S64x1x20 : (⟨S_, .i32⟩ : BufTy).Contents (Elt F) → (⟨S64x1x20, .i32⟩ : BufTy).Contents (Elt F)),
    binary main_v30 main_v31 main_v32 (cmpi .sle : (⟨S64x1x20, .i32⟩ : BufTy).Contents (Elt F) → (⟨S64x1x20, .i32⟩ : BufTy).Contents (Elt F) → (⟨S64x1x20, .i1⟩ : BufTy).Contents (Elt F)),
    unary main_v32 main_v33 (broadcastInDim S64x3x20 ![0, 1, 2] bcast_S64x1x20_S64x3x20_0_1_2 : (⟨S64x1x20, .i1⟩ : BufTy).Contents (Elt F) → (⟨S64x3x20, .i1⟩ : BufTy).Contents (Elt F)),
    binary main_v29 main_v33 main_v34 (ori : (⟨S64x3x20, .i1⟩ : BufTy).Contents (Elt F) → (⟨S64x3x20, .i1⟩ : BufTy).Contents (Elt F) → (⟨S64x3x20, .i1⟩ : BufTy).Contents (Elt F)),
    nullary main_c_1 (constantI S_ 1 0#1),
    binary main_v34 main_c_1 main_v35 ((fun x v => Host.reduce IntOp.ori x v reducesTo_S64x3x20_S64x3_d2 h_S_) : (⟨S64x3x20, .i1⟩ : BufTy).Contents (Elt F) → (⟨S_, .i1⟩ : BufTy).Contents (Elt F) → (⟨S64x3, .i1⟩ : BufTy).Contents (Elt F)),
    TRef.nullary (TRef.of (T := ⟨S64x3x20, .i32⟩) main_call1_v0) (iotaInDim S64x3x20 32 2),
    TRef.nullary (TRef.of (T := ⟨S_, .i1⟩) main_call1_c) (constantI S_ 1 0#1),
    TRef.nullary (TRef.of (T := ⟨S_, .i32⟩) main_call1_c_0) (constantI S_ 32 0#32),
    TRef.quaternary (TRef.of (T := ⟨S64x3x20, .i1⟩) main_v34) (TRef.of (T := ⟨S64x3x20, .i32⟩) main_call1_v0) (TRef.of (T := ⟨S_, .i1⟩) main_call1_c) (TRef.of (T := ⟨S_, .i32⟩) main_call1_c_0) (TRef.of (T := ⟨S64x3, .i1⟩) main_call1_v1_0) (fun x y u v j => (Host.reduce2 reducer_argmax_i1_i32 x y u v reducesTo_S64x3x20_S64x3_d2 h_S_ j).1),
    TRef.quaternary (TRef.of (T := ⟨S64x3x20, .i1⟩) main_v34) (TRef.of (T := ⟨S64x3x20, .i32⟩) main_call1_v0) (TRef.of (T := ⟨S_, .i1⟩) main_call1_c) (TRef.of (T := ⟨S_, .i32⟩) main_call1_c_0) (TRef.of (T := ⟨S64x3, .i32⟩) main_v36) (fun x y u v j => (Host.reduce2 reducer_argmax_i1_i32 x y u v reducesTo_S64x3x20_S64x3_d2 h_S_ j).2),
    nullary main_c_2 (constantI S_ 32 19#32),
    TRef.unary (TRef.of (T := ⟨S_, .i32⟩) main_c_2) (TRef.of (T := ⟨S_, .i32⟩) main_call2_v0) id,
    TRef.unary (TRef.of (T := ⟨S_, .i32⟩) main_call2_v0) (TRef.of (T := ⟨S3, .i32⟩) main_call2_v1) (broadcastInDim S3 ![] bcast_S_S3),
    TRef.unary (TRef.of (T := ⟨S3, .i32⟩) main_call2_v1) (TRef.of (T := ⟨S64x3, .i32⟩) main_call2_v2) (broadcastInDim S64x3 ![1] bcast_S3_S64x3_1),
    TRef.ternary (TRef.of (T := ⟨S64x3, .i1⟩) main_v35) (TRef.of (T := ⟨S64x3, .i32⟩) main_v36) (TRef.of (T := ⟨S64x3, .i32⟩) main_call2_v2) (TRef.of (T := ⟨S64x3, .i32⟩) main_v37) select,
    nullary main_c_3 (constantI S_ 32 0#32),
    unary main_c_3 main_v38 (broadcastInDim S64x3 ![] bcast_S_S64x3 : (⟨S_, .i32⟩ : BufTy).Contents (Elt F) → (⟨S64x3, .i32⟩ : BufTy).Contents (Elt F)),
    binary main_v37 main_v38 main_v39 (cmpi .slt : (⟨S64x3, .i32⟩ : BufTy).Contents (Elt F) → (⟨S64x3, .i32⟩ : BufTy).Contents (Elt F) → (⟨S64x3, .i1⟩ : BufTy).Contents (Elt F)),
    nullary main_c_4 (constantI S_ 32 20#32),
    unary main_c_4 main_v40 (broadcastInDim S64x3 ![] bcast_S_S64x3 : (⟨S_, .i32⟩ : BufTy).Contents (Elt F) → (⟨S64x3, .i32⟩ : BufTy).Contents (Elt F)) ]

/-- @main's operations 61 … 70 of 338 (window `main_part0`). -/
abbrev ops_part0_2 : List (HloOp τ sig (Elt F)) :=
  [ binary main_v37 main_v40 main_v41 (addi : (⟨S64x3, .i32⟩ : BufTy).Contents (Elt F) → (⟨S64x3, .i32⟩ : BufTy).Contents (Elt F) → (⟨S64x3, .i32⟩ : BufTy).Contents (Elt F)),
    ternary main_v39 main_v41 main_v37 main_v42 (select : (⟨S64x3, .i1⟩ : BufTy).Contents (Elt F) → (⟨S64x3, .i32⟩ : BufTy).Contents (Elt F) → (⟨S64x3, .i32⟩ : BufTy).Contents (Elt F) → (⟨S64x3, .i32⟩ : BufTy).Contents (Elt F)),
    unary main_v42 main_v43 (broadcastInDim S64x3x1 ![0, 1] bcast_S64x3_S64x3x1_0_1 : (⟨S64x3, .i32⟩ : BufTy).Contents (Elt F) → (⟨S64x3x1, .i32⟩ : BufTy).Contents (Elt F)),
    binary main_arg3 main_v43 main_v44 ((fun x i => Host.gather gather_S64x20_S64x3x1_S64x3_n_1_0_0_1_2_11 x i) : (⟨S64x20, .i32⟩ : BufTy).Contents (Elt F) → (⟨S64x3x1, .i32⟩ : BufTy).Contents (Elt F) → (⟨S64x3, .i32⟩ : BufTy).Contents (Elt F)),
    unary main_v17 main_v45 (broadcastInDim S64x1 ![0] bcast_S64_S64x1_0 : (⟨S64, .f32⟩ : BufTy).Contents (Elt F) → (⟨S64x1, .f32⟩ : BufTy).Contents (Elt F)),
    unary main_v45 main_v46 (broadcastInDim S64x3 ![0, 1] bcast_S64x1_S64x3_0_1 : (⟨S64x1, .f32⟩ : BufTy).Contents (Elt F) → (⟨S64x3, .f32⟩ : BufTy).Contents (Elt F)),
    binary main_values main_v46 main_v47 (cmpf .ogt : (⟨S64x3, .f32⟩ : BufTy).Contents (Elt F) → (⟨S64x3, .f32⟩ : BufTy).Contents (Elt F) → (⟨S64x3, .i1⟩ : BufTy).Contents (Elt F)),
    binary main_v44 main_indices main_v48 (cmpi .sgt : (⟨S64x3, .i32⟩ : BufTy).Contents (Elt F) → (⟨S64x3, .i32⟩ : BufTy).Contents (Elt F) → (⟨S64x3, .i1⟩ : BufTy).Contents (Elt F)),
    binary main_v47 main_v48 main_v49 (andi : (⟨S64x3, .i1⟩ : BufTy).Contents (Elt F) → (⟨S64x3, .i1⟩ : BufTy).Contents (Elt F) → (⟨S64x3, .i1⟩ : BufTy).Contents (Elt F)),
    unary main_v49 main_v50 ((extui 32 · natLt_1_32) : (⟨S64x3, .i1⟩ : BufTy).Contents (Elt F) → (⟨S64x3, .i32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 71 … 100 of 338 (window `main_part1`). -/
abbrev ops_part1_0 : List (HloOp τ sig (Elt F)) :=
  [ TRef.nullary (TRef.of (T := ⟨S_, .i32⟩) main_call3_c) (constantI S_ 32 2147483647#32),
    TRef.unary (TRef.of (T := ⟨S_, .i32⟩) main_call3_c) (TRef.of (T := ⟨S_, .i32⟩) main_call3_v0) (broadcastInDim S_ ![] bcast_S_S_),
    TRef.binary (TRef.of (T := ⟨S64x3, .i32⟩) main_v50) (TRef.of (T := ⟨S_, .i32⟩) main_call3_v0) (TRef.of (T := ⟨S64x3, .i32⟩) main_v51) (fun x v => Host.reduceWindow IntOp.minsi ![1, 3] ![1, 1] ![0, 2] ![0, 0] x v reduceWindows_S64x3_S64x3_w1s1p0_0_w3s1p2_0 h_S_),
    nullary main_c_5 (constantI S_ 32 0#32),
    unary main_c_5 main_v52 (broadcastInDim S64x3 ![] bcast_S_S64x3 : (⟨S_, .i32⟩ : BufTy).Contents (Elt F) → (⟨S64x3, .i32⟩ : BufTy).Contents (Elt F)),
    binary main_v51 main_v52 main_v53 (cmpi .sgt : (⟨S64x3, .i32⟩ : BufTy).Contents (Elt F) → (⟨S64x3, .i32⟩ : BufTy).Contents (Elt F) → (⟨S64x3, .i1⟩ : BufTy).Contents (Elt F)),
    nullary main_c_6 (constantI S_ 32 10#32),
    unary main_c_6 main_v54 (broadcastInDim S64x3 ![] bcast_S_S64x3 : (⟨S_, .i32⟩ : BufTy).Contents (Elt F) → (⟨S64x3, .i32⟩ : BufTy).Contents (Elt F)),
    binary main_indices main_v54 main_v55 (addi : (⟨S64x3, .i32⟩ : BufTy).Contents (Elt F) → (⟨S64x3, .i32⟩ : BufTy).Contents (Elt F) → (⟨S64x3, .i32⟩ : BufTy).Contents (Elt F)),
    binary main_v44 main_v55 main_v56 (minsi : (⟨S64x3, .i32⟩ : BufTy).Contents (Elt F) → (⟨S64x3, .i32⟩ : BufTy).Contents (Elt F) → (⟨S64x3, .i32⟩ : BufTy).Contents (Elt F)),
    unary main_indices main_v57 (broadcastInDim S64x3x1 ![0, 1] bcast_S64x3_S64x3x1_0_1 : (⟨S64x3, .i32⟩ : BufTy).Contents (Elt F) → (⟨S64x3x1, .i32⟩ : BufTy).Contents (Elt F)),
    nullary main_v58 (iotaInDim S10 32 0),
    unary main_v58 main_v59 (broadcastInDim S1x10 ![1] bcast_S10_S1x10_1 : (⟨S10, .i32⟩ : BufTy).Contents (Elt F) → (⟨S1x10, .i32⟩ : BufTy).Contents (Elt F)),
    unary main_v59 main_v60 (broadcastInDim S1x1x10 ![1, 2] bcast_S1x10_S1x1x10_1_2 : (⟨S1x10, .i32⟩ : BufTy).Contents (Elt F) → (⟨S1x1x10, .i32⟩ : BufTy).Contents (Elt F)),
    unary main_v57 main_v61 (broadcastInDim S64x3x10 ![0, 1, 2] bcast_S64x3x1_S64x3x10_0_1_2 : (⟨S64x3x1, .i32⟩ : BufTy).Contents (Elt F) → (⟨S64x3x10, .i32⟩ : BufTy).Contents (Elt F)),
    unary main_v60 main_v62 (broadcastInDim S64x3x10 ![0, 1, 2] bcast_S1x1x10_S64x3x10_0_1_2 : (⟨S1x1x10, .i32⟩ : BufTy).Contents (Elt F) → (⟨S64x3x10, .i32⟩ : BufTy).Contents (Elt F)),
    binary main_v61 main_v62 main_v63 (addi : (⟨S64x3x10, .i32⟩ : BufTy).Contents (Elt F) → (⟨S64x3x10, .i32⟩ : BufTy).Contents (Elt F) → (⟨S64x3x10, .i32⟩ : BufTy).Contents (Elt F)),
    unary main_v56 main_v64 (broadcastInDim S64x3x1 ![0, 1] bcast_S64x3_S64x3x1_0_1 : (⟨S64x3, .i32⟩ : BufTy).Contents (Elt F) → (⟨S64x3x1, .i32⟩ : BufTy).Contents (Elt F)),
    unary main_v64 main_v65 (broadcastInDim S64x3x10 ![0, 1, 2] bcast_S64x3x1_S64x3x10_0_1_2 : (⟨S64x3x1, .i32⟩ : BufTy).Contents (Elt F) → (⟨S64x3x10, .i32⟩ : BufTy).Contents (Elt F)),
    binary main_v63 main_v65 main_v66 (cmpi .slt : (⟨S64x3x10, .i32⟩ : BufTy).Contents (Elt F) → (⟨S64x3x10, .i32⟩ : BufTy).Contents (Elt F) → (⟨S64x3x10, .i1⟩ : BufTy).Contents (Elt F)),
    nullary main_c_7 (constantI S_ 32 0#32),
    nullary main_c_8 (constantI S_ 32 511#32),
    TRef.unary (TRef.of (T := ⟨S_, .i32⟩) main_c_7) (TRef.of (T := ⟨S_, .i32⟩) main_call4_v0) id,
    TRef.unary (TRef.of (T := ⟨S_, .i32⟩) main_call4_v0) (TRef.of (T := ⟨S64x3x10, .i32⟩) main_call4_v1) (broadcastInDim S64x3x10 ![] bcast_S_S64x3x10),
    TRef.binary (TRef.of (T := ⟨S64x3x10, .i32⟩) main_call4_v1) (TRef.of (T := ⟨S64x3x10, .i32⟩) main_v63) (TRef.of (T := ⟨S64x3x10, .i32⟩) main_call4_v2) maxsi,
    TRef.unary (TRef.of (T := ⟨S_, .i32⟩) main_c_8) (TRef.of (T := ⟨S_, .i32⟩) main_call4_v3) id,
    TRef.unary (TRef.of (T := ⟨S_, .i32⟩) main_call4_v3) (TRef.of (T := ⟨S64x3x10, .i32⟩) main_call4_v4) (broadcastInDim S64x3x10 ![] bcast_S_S64x3x10),
    TRef.binary (TRef.of (T := ⟨S64x3x10, .i32⟩) main_call4_v4) (TRef.of (T := ⟨S64x3x10, .i32⟩) main_call4_v2) (TRef.of (T := ⟨S64x3x10, .i32⟩) main_v67) minsi,
    nullary main_c_9 (constantI S_ 32 0#32),
    unary main_c_9 main_v68 (broadcastInDim S64x3x10 ![] bcast_S_S64x3x10 : (⟨S_, .i32⟩ : BufTy).Contents (Elt F) → (⟨S64x3x10, .i32⟩ : BufTy).Contents (Elt F)) ]

/-- @main's operations 101 … 130 of 338 (window `main_part1`). -/
abbrev ops_part1_1 : List (HloOp τ sig (Elt F)) :=
  [ binary main_v67 main_v68 main_v69 (cmpi .slt : (⟨S64x3x10, .i32⟩ : BufTy).Contents (Elt F) → (⟨S64x3x10, .i32⟩ : BufTy).Contents (Elt F) → (⟨S64x3x10, .i1⟩ : BufTy).Contents (Elt F)),
    nullary main_c_10 (constantI S_ 32 512#32),
    unary main_c_10 main_v70 (broadcastInDim S64x3x10 ![] bcast_S_S64x3x10 : (⟨S_, .i32⟩ : BufTy).Contents (Elt F) → (⟨S64x3x10, .i32⟩ : BufTy).Contents (Elt F)),
    binary main_v67 main_v70 main_v71 (addi : (⟨S64x3x10, .i32⟩ : BufTy).Contents (Elt F) → (⟨S64x3x10, .i32⟩ : BufTy).Contents (Elt F) → (⟨S64x3x10, .i32⟩ : BufTy).Contents (Elt F)),
    ternary main_v69 main_v71 main_v67 main_v72 (select : (⟨S64x3x10, .i1⟩ : BufTy).Contents (Elt F) → (⟨S64x3x10, .i32⟩ : BufTy).Contents (Elt F) → (⟨S64x3x10, .i32⟩ : BufTy).Contents (Elt F) → (⟨S64x3x10, .i32⟩ : BufTy).Contents (Elt F)),
    unary main_v72 main_v73 (broadcastInDim S64x3x10x1 ![0, 1, 2] bcast_S64x3x10_S64x3x10x1_0_1_2 : (⟨S64x3x10, .i32⟩ : BufTy).Contents (Elt F) → (⟨S64x3x10x1, .i32⟩ : BufTy).Contents (Elt F)),
    binary main_v9 main_v73 main_v74 ((fun x i => Host.gather gather_S64x512_S64x3x10x1_S64x3x10_n_1_0_0_1_3_11 x i) : (⟨S64x512, .f32⟩ : BufTy).Contents (Elt F) → (⟨S64x3x10x1, .i32⟩ : BufTy).Contents (Elt F) → (⟨S64x3x10, .f32⟩ : BufTy).Contents (Elt F)),
    nullary main_cst_11 (constant S_ .f32 0xFF800000#32),
    TRef.unary (TRef.of (T := ⟨S_, .f32⟩) main_cst_11) (TRef.of (T := ⟨S_, .f32⟩) main_call5_v0) id,
    TRef.unary (TRef.of (T := ⟨S_, .f32⟩) main_call5_v0) (TRef.of (T := ⟨S3x10, .f32⟩) main_call5_v1) (broadcastInDim S3x10 ![] bcast_S_S3x10),
    TRef.unary (TRef.of (T := ⟨S3x10, .f32⟩) main_call5_v1) (TRef.of (T := ⟨S64x3x10, .f32⟩) main_call5_v2) (broadcastInDim S64x3x10 ![1, 2] bcast_S3x10_S64x3x10_1_2),
    TRef.ternary (TRef.of (T := ⟨S64x3x10, .i1⟩) main_v66) (TRef.of (T := ⟨S64x3x10, .f32⟩) main_v74) (TRef.of (T := ⟨S64x3x10, .f32⟩) main_call5_v2) (TRef.of (T := ⟨S64x3x10, .f32⟩) main_v75) select,
    TRef.nullary (TRef.of (T := ⟨S64x3x10, .i32⟩) main_call6_v0) (iotaInDim S64x3x10 32 2),
    TRef.nullary (TRef.of (T := ⟨S_, .f32⟩) main_call6_cst) (constant S_ .f32 0xFF800000#32),
    TRef.nullary (TRef.of (T := ⟨S_, .i32⟩) main_call6_c) (constantI S_ 32 0#32),
    TRef.quaternary (TRef.of (T := ⟨S64x3x10, .f32⟩) main_v75) (TRef.of (T := ⟨S64x3x10, .i32⟩) main_call6_v0) (TRef.of (T := ⟨S_, .f32⟩) main_call6_cst) (TRef.of (T := ⟨S_, .i32⟩) main_call6_c) (TRef.of (T := ⟨S64x3, .f32⟩) main_call6_v1_0) (fun x y u v j => (Host.argReduce reducer_argmax_f32_i32 x y u v reducesTo_S64x3x10_S64x3_d2 h_S_ j).1),
    TRef.quaternary (TRef.of (T := ⟨S64x3x10, .f32⟩) main_v75) (TRef.of (T := ⟨S64x3x10, .i32⟩) main_call6_v0) (TRef.of (T := ⟨S_, .f32⟩) main_call6_cst) (TRef.of (T := ⟨S_, .i32⟩) main_call6_c) (TRef.of (T := ⟨S64x3, .i32⟩) main_v76) (fun x y u v j => (Host.argReduce reducer_argmax_f32_i32 x y u v reducesTo_S64x3x10_S64x3_d2 h_S_ j).2),
    binary main_indices main_v76 main_v77 (addi : (⟨S64x3, .i32⟩ : BufTy).Contents (Elt F) → (⟨S64x3, .i32⟩ : BufTy).Contents (Elt F) → (⟨S64x3, .i32⟩ : BufTy).Contents (Elt F)),
    unary main_v53 main_v78 (broadcastInDim S64x3x1 ![0, 1] bcast_S64x3_S64x3x1_0_1 : (⟨S64x3, .i1⟩ : BufTy).Contents (Elt F) → (⟨S64x3x1, .i1⟩ : BufTy).Contents (Elt F)),
    unary main_indices main_v79 (broadcastInDim S64x3x1 ![0, 1] bcast_S64x3_S64x3x1_0_1 : (⟨S64x3, .i32⟩ : BufTy).Contents (Elt F) → (⟨S64x3x1, .i32⟩ : BufTy).Contents (Elt F)),
    unary main_v77 main_v80 (broadcastInDim S64x3x1 ![0, 1] bcast_S64x3_S64x3x1_0_1 : (⟨S64x3, .i32⟩ : BufTy).Contents (Elt F) → (⟨S64x3x1, .i32⟩ : BufTy).Contents (Elt F)),
    unary main_v37 main_v81 (broadcastInDim S64x3x1 ![0, 1] bcast_S64x3_S64x3x1_0_1 : (⟨S64x3, .i32⟩ : BufTy).Contents (Elt F) → (⟨S64x3x1, .i32⟩ : BufTy).Contents (Elt F)),
    nary ![main_v79, main_v80, main_v81] main_v82 (fun u => fn_main_v82 (F := F) (u 0) (u 1) (u 2)),
    nullary main_c_12 (constantI S_ 32 0#32),
    TRef.unary (TRef.of (T := ⟨S_, .i32⟩) main_c_12) (TRef.of (T := ⟨S_, .i32⟩) main_call7_v0) id,
    TRef.unary (TRef.of (T := ⟨S64x3x1, .i1⟩) main_v78) (TRef.of (T := ⟨S64x3x3, .i1⟩) main_call7_v1) (broadcastInDim S64x3x3 ![0, 1, 2] bcast_S64x3x1_S64x3x3_0_1_2),
    TRef.unary (TRef.of (T := ⟨S_, .i32⟩) main_call7_v0) (TRef.of (T := ⟨S3x3, .i32⟩) main_call7_v2) (broadcastInDim S3x3 ![] bcast_S_S3x3),
    TRef.unary (TRef.of (T := ⟨S3x3, .i32⟩) main_call7_v2) (TRef.of (T := ⟨S64x3x3, .i32⟩) main_call7_v3) (broadcastInDim S64x3x3 ![1, 2] bcast_S3x3_S64x3x3_1_2),
    TRef.ternary (TRef.of (T := ⟨S64x3x3, .i1⟩) main_call7_v1) (TRef.of (T := ⟨S64x3x3, .i32⟩) main_v82) (TRef.of (T := ⟨S64x3x3, .i32⟩) main_call7_v3) (TRef.of (T := ⟨S64x3x3, .i32⟩) main_v83) select,
    unary main_v49 main_v84 (noti : (⟨S64x3, .i1⟩ : BufTy).Contents (Elt F) → (⟨S64x3, .i1⟩ : BufTy).Contents (Elt F)) ]

/-- @main's operations 131 … 152 of 338 (window `main_part1`). -/
abbrev ops_part1_2 : List (HloOp τ sig (Elt F)) :=
  [ TRef.nullary (TRef.of (T := ⟨S64x3, .i32⟩) main_call8_v0) (iotaInDim S64x3 32 1),
    TRef.nullary (TRef.of (T := ⟨S_, .i1⟩) main_call8_c) (constantI S_ 1 0#1),
    TRef.nullary (TRef.of (T := ⟨S_, .i32⟩) main_call8_c_0) (constantI S_ 32 0#32),
    TRef.quaternary (TRef.of (T := ⟨S64x3, .i1⟩) main_v84) (TRef.of (T := ⟨S64x3, .i32⟩) main_call8_v0) (TRef.of (T := ⟨S_, .i1⟩) main_call8_c) (TRef.of (T := ⟨S_, .i32⟩) main_call8_c_0) (TRef.of (T := ⟨S64, .i1⟩) main_call8_v1_0) (fun x y u v j => (Host.reduce2 reducer_argmax_i1_i32 x y u v reducesTo_S64x3_S64_d1 h_S_ j).1),
    TRef.quaternary (TRef.of (T := ⟨S64x3, .i1⟩) main_v84) (TRef.of (T := ⟨S64x3, .i32⟩) main_call8_v0) (TRef.of (T := ⟨S_, .i1⟩) main_call8_c) (TRef.of (T := ⟨S_, .i32⟩) main_call8_c_0) (TRef.of (T := ⟨S64, .i32⟩) main_v85) (fun x y u v j => (Host.reduce2 reducer_argmax_i1_i32 x y u v reducesTo_S64x3_S64_d1 h_S_ j).2),
    nullary main_v86 (iotaInDim S3 32 0),
    unary main_v86 main_v87 (broadcastInDim S1x3 ![1] bcast_S3_S1x3_1 : (⟨S3, .i32⟩ : BufTy).Contents (Elt F) → (⟨S1x3, .i32⟩ : BufTy).Contents (Elt F)),
    unary main_v85 main_v88 (broadcastInDim S64x1 ![0] bcast_S64_S64x1_0 : (⟨S64, .i32⟩ : BufTy).Contents (Elt F) → (⟨S64x1, .i32⟩ : BufTy).Contents (Elt F)),
    unary main_v87 main_v89 (broadcastInDim S64x3 ![0, 1] bcast_S1x3_S64x3_0_1 : (⟨S1x3, .i32⟩ : BufTy).Contents (Elt F) → (⟨S64x3, .i32⟩ : BufTy).Contents (Elt F)),
    unary main_v88 main_v90 (broadcastInDim S64x3 ![0, 1] bcast_S64x1_S64x3_0_1 : (⟨S64x1, .i32⟩ : BufTy).Contents (Elt F) → (⟨S64x3, .i32⟩ : BufTy).Contents (Elt F)),
    binary main_v89 main_v90 main_v91 (cmpi .eq : (⟨S64x3, .i32⟩ : BufTy).Contents (Elt F) → (⟨S64x3, .i32⟩ : BufTy).Contents (Elt F) → (⟨S64x3, .i1⟩ : BufTy).Contents (Elt F)),
    unary main_v49 main_v92 (noti : (⟨S64x3, .i1⟩ : BufTy).Contents (Elt F) → (⟨S64x3, .i1⟩ : BufTy).Contents (Elt F)),
    nullary main_c_13 (constantI S_ 1 0#1),
    binary main_v92 main_c_13 main_v93 ((fun x v => Host.reduce IntOp.ori x v reducesTo_S64x3_S64_d1 h_S_) : (⟨S64x3, .i1⟩ : BufTy).Contents (Elt F) → (⟨S_, .i1⟩ : BufTy).Contents (Elt F) → (⟨S64, .i1⟩ : BufTy).Contents (Elt F)),
    binary main_v91 main_v47 main_v94 (andi : (⟨S64x3, .i1⟩ : BufTy).Contents (Elt F) → (⟨S64x3, .i1⟩ : BufTy).Contents (Elt F) → (⟨S64x3, .i1⟩ : BufTy).Contents (Elt F)),
    nullary main_c_14 (constantI S_ 1 0#1),
    binary main_v94 main_c_14 main_v95 ((fun x v => Host.reduce IntOp.ori x v reducesTo_S64x3_S64_d1 h_S_) : (⟨S64x3, .i1⟩ : BufTy).Contents (Elt F) → (⟨S_, .i1⟩ : BufTy).Contents (Elt F) → (⟨S64, .i1⟩ : BufTy).Contents (Elt F)),
    unary main_v95 main_v96 (noti : (⟨S64, .i1⟩ : BufTy).Contents (Elt F) → (⟨S64, .i1⟩ : BufTy).Contents (Elt F)),
    binary main_v93 main_v96 main_v97 (andi : (⟨S64, .i1⟩ : BufTy).Contents (Elt F) → (⟨S64, .i1⟩ : BufTy).Contents (Elt F) → (⟨S64, .i1⟩ : BufTy).Contents (Elt F)),
    unary main_v7 main_v98 ((extractStridedSlice S64x1 ![0, 0] · slices_S64x512_S64x1_0_0) : (⟨S64x512, .f32⟩ : BufTy).Contents (Elt F) → (⟨S64x1, .f32⟩ : BufTy).Contents (Elt F)),
    reshape main_v98 main_v99 (rfl : (.f32 : EltTy) = .f32) shapeCasts_S64x1_S64,
    nullary main_cst_15 (constant S_ .f32 0x00000000#32) ]

/-- Window `main_part1`'s operations. Not an abbreviation: `main_eq` below splits `ops` into the windows and no further. -/
def ops_part1 : List (HloOp τ sig (Elt F)) :=
  ops_part1_0 ++ (ops_part1_1 ++ (ops_part1_2))

/-- @main's operations 153 … 182 of 338 (window `main_part2`). -/
abbrev ops_part2_0 : List (HloOp τ sig (Elt F)) :=
  [ TRef.unary (TRef.of (T := ⟨S_, .f32⟩) main_cst_15) (TRef.of (T := ⟨S_, .f32⟩) main_call9_v0) id,
    TRef.unary (TRef.of (T := ⟨S_, .f32⟩) main_call9_v0) (TRef.of (T := ⟨S3, .f32⟩) main_call9_v1) (broadcastInDim S3 ![] bcast_S_S3),
    TRef.unary (TRef.of (T := ⟨S3, .f32⟩) main_call9_v1) (TRef.of (T := ⟨S64x3, .f32⟩) main_call9_v2) (broadcastInDim S64x3 ![1] bcast_S3_S64x3_1),
    TRef.ternary (TRef.of (T := ⟨S64x3, .i1⟩) main_v91) (TRef.of (T := ⟨S64x3, .f32⟩) main_values) (TRef.of (T := ⟨S64x3, .f32⟩) main_call9_v2) (TRef.of (T := ⟨S64x3, .f32⟩) main_v100) select,
    nullary main_cst_16 (constant S_ .f32 0x00000000#32),
    binary main_v100 main_cst_16 main_v101 ((fun x v => Host.reduceAdd x v reducesTo_S64x3_S64_d1 h_S_) : (⟨S64x3, .f32⟩ : BufTy).Contents (Elt F) → (⟨S_, .f32⟩ : BufTy).Contents (Elt F) → (⟨S64, .f32⟩ : BufTy).Contents (Elt F)),
    binary main_v99 main_v101 main_v102 (subf : (⟨S64, .f32⟩ : BufTy).Contents (Elt F) → (⟨S64, .f32⟩ : BufTy).Contents (Elt F) → (⟨S64, .f32⟩ : BufTy).Contents (Elt F)),
    nullary main_cst_17 (constant S_ .f32 0x00000000#32),
    TRef.unary (TRef.of (T := ⟨S_, .f32⟩) main_cst_17) (TRef.of (T := ⟨S_, .f32⟩) main_call10_v0) id,
    TRef.unary (TRef.of (T := ⟨S_, .f32⟩) main_call10_v0) (TRef.of (T := ⟨S64, .f32⟩) main_call10_v1) (broadcastInDim S64 ![] bcast_S_S64),
    TRef.ternary (TRef.of (T := ⟨S64, .i1⟩) main_v97) (TRef.of (T := ⟨S64, .f32⟩) main_v102) (TRef.of (T := ⟨S64, .f32⟩) main_call10_v1) (TRef.of (T := ⟨S64, .f32⟩) main_v103) select,
    unary main_arg3 main_v104 ((extractStridedSlice S64x1 ![0, 0] · slices_S64x20_S64x1_0_0) : (⟨S64x20, .i32⟩ : BufTy).Contents (Elt F) → (⟨S64x1, .i32⟩ : BufTy).Contents (Elt F)),
    reshape main_v104 main_v105 (rfl : (.i32 : EltTy) = .i32) shapeCasts_S64x1_S64,
    nullary main_c_18 (constantI S_ 32 0#32),
    unary main_c_18 main_v106 (broadcastInDim S64 ![] bcast_S_S64 : (⟨S_, .i32⟩ : BufTy).Contents (Elt F) → (⟨S64, .i32⟩ : BufTy).Contents (Elt F)),
    binary main_v105 main_v106 main_v107 (cmpi .sgt : (⟨S64, .i32⟩ : BufTy).Contents (Elt F) → (⟨S64, .i32⟩ : BufTy).Contents (Elt F) → (⟨S64, .i1⟩ : BufTy).Contents (Elt F)),
    nullary main_c_19 (constantI S_ 32 0#32),
    TRef.unary (TRef.of (T := ⟨S_, .i32⟩) main_c_19) (TRef.of (T := ⟨S_, .i32⟩) main_call11_v0) id,
    TRef.unary (TRef.of (T := ⟨S_, .i32⟩) main_call11_v0) (TRef.of (T := ⟨S3x3, .i32⟩) main_call11_v1) (broadcastInDim S3x3 ![] bcast_S_S3x3),
    TRef.unary (TRef.of (T := ⟨S3x3, .i32⟩) main_call11_v1) (TRef.of (T := ⟨S64x3x3, .i32⟩) main_call11_v2) (broadcastInDim S64x3x3 ![1, 2] bcast_S3x3_S64x3x3_1_2),
    TRef.unary (TRef.of (T := ⟨S64, .i1⟩) main_v107) (TRef.of (T := ⟨S64x3x3, .i1⟩) main_call11_v3) (broadcastInDim S64x3x3 ![0] bcast_S64_S64x3x3_0),
    TRef.ternary (TRef.of (T := ⟨S64x3x3, .i1⟩) main_call11_v3) (TRef.of (T := ⟨S64x3x3, .i32⟩) main_v83) (TRef.of (T := ⟨S64x3x3, .i32⟩) main_call11_v2) (TRef.of (T := ⟨S64x3x3, .i32⟩) main_v108) select,
    nullary main_cst_20 (constant S_ .f32 0x00000000#32),
    TRef.unary (TRef.of (T := ⟨S_, .f32⟩) main_cst_20) (TRef.of (T := ⟨S_, .f32⟩) main_call12_v0) id,
    TRef.unary (TRef.of (T := ⟨S_, .f32⟩) main_call12_v0) (TRef.of (T := ⟨S64, .f32⟩) main_call12_v1) (broadcastInDim S64 ![] bcast_S_S64),
    TRef.ternary (TRef.of (T := ⟨S64, .i1⟩) main_v107) (TRef.of (T := ⟨S64, .f32⟩) main_v103) (TRef.of (T := ⟨S64, .f32⟩) main_call12_v1) (TRef.of (T := ⟨S64, .f32⟩) main_v109) select,
    unary main_v11 main_v110 ((extractStridedSlice S64x1 ![0, 0] · slices_S64x512_S64x1_0_0) : (⟨S64x512, .f32⟩ : BufTy).Contents (Elt F) → (⟨S64x1, .f32⟩ : BufTy).Contents (Elt F)),
    reshape main_v110 main_v111 (rfl : (.f32 : EltTy) = .f32) shapeCasts_S64x1_S64,
    nullary main_cst_21 (constant S_ .f32 0x00000000#32),
    unary main_cst_21 main_v112 (broadcastInDim S64 ![] bcast_S_S64 : (⟨S_, .f32⟩ : BufTy).Contents (Elt F) → (⟨S64, .f32⟩ : BufTy).Contents (Elt F)) ]

/-- @main's operations 183 … 212 of 338 (window `main_part2`). -/
abbrev ops_part2_1 : List (HloOp τ sig (Elt F)) :=
  [ binary main_v111 main_v112 main_v113 (subf : (⟨S64, .f32⟩ : BufTy).Contents (Elt F) → (⟨S64, .f32⟩ : BufTy).Contents (Elt F) → (⟨S64, .f32⟩ : BufTy).Contents (Elt F)),
    nullary main_v114 (iotaInDim S512 32 0),
    unary main_v114 main_v115 (broadcastInDim S1x512 ![1] bcast_S512_S1x512_1 : (⟨S512, .i32⟩ : BufTy).Contents (Elt F) → (⟨S1x512, .i32⟩ : BufTy).Contents (Elt F)),
    unary main_arg4 main_v116 (broadcastInDim S64x1 ![0] bcast_S64_S64x1_0 : (⟨S64, .i32⟩ : BufTy).Contents (Elt F) → (⟨S64x1, .i32⟩ : BufTy).Contents (Elt F)),
    unary main_v115 main_v117 (broadcastInDim S64x512 ![0, 1] bcast_S1x512_S64x512_0_1 : (⟨S1x512, .i32⟩ : BufTy).Contents (Elt F) → (⟨S64x512, .i32⟩ : BufTy).Contents (Elt F)),
    unary main_v116 main_v118 (broadcastInDim S64x512 ![0, 1] bcast_S64x1_S64x512_0_1 : (⟨S64x1, .i32⟩ : BufTy).Contents (Elt F) → (⟨S64x512, .i32⟩ : BufTy).Contents (Elt F)),
    binary main_v117 main_v118 main_v119 (cmpi .sge : (⟨S64x512, .i32⟩ : BufTy).Contents (Elt F) → (⟨S64x512, .i32⟩ : BufTy).Contents (Elt F) → (⟨S64x512, .i1⟩ : BufTy).Contents (Elt F)),
    nullary main_cst_22 (constant S_ .f32 0xFF800000#32),
    TRef.unary (TRef.of (T := ⟨S_, .f32⟩) main_cst_22) (TRef.of (T := ⟨S_, .f32⟩) main_call13_v0) id,
    TRef.unary (TRef.of (T := ⟨S_, .f32⟩) main_call13_v0) (TRef.of (T := ⟨S512, .f32⟩) main_call13_v1) (broadcastInDim S512 ![] bcast_S_S512),
    TRef.unary (TRef.of (T := ⟨S512, .f32⟩) main_call13_v1) (TRef.of (T := ⟨S64x512, .f32⟩) main_call13_v2) (broadcastInDim S64x512 ![1] bcast_S512_S64x512_1),
    TRef.ternary (TRef.of (T := ⟨S64x512, .i1⟩) main_v119) (TRef.of (T := ⟨S64x512, .f32⟩) main_v11) (TRef.of (T := ⟨S64x512, .f32⟩) main_call13_v2) (TRef.of (T := ⟨S64x512, .f32⟩) main_v120) select,
    unary main_v120 main_values_23 ((fun x => (Host.topK S64x1 1 (FloatOps.cmpfTotal .gt) x sliceFits_S64x512_S64x1).1) : (⟨S64x512, .f32⟩ : BufTy).Contents (Elt F) → (⟨S64x1, .f32⟩ : BufTy).Contents (Elt F)),
    unary main_v120 main_indices_24 ((fun x => (Host.topK S64x1 1 (FloatOps.cmpfTotal .gt) x sliceFits_S64x512_S64x1).2) : (⟨S64x512, .f32⟩ : BufTy).Contents (Elt F) → (⟨S64x1, .i32⟩ : BufTy).Contents (Elt F)),
    unary main_arg3 main_v121 (broadcastInDim S64x1x20 ![0, 2] bcast_S64x20_S64x1x20_0_2 : (⟨S64x20, .i32⟩ : BufTy).Contents (Elt F) → (⟨S64x1x20, .i32⟩ : BufTy).Contents (Elt F)),
    unary main_indices_24 main_v122 (broadcastInDim S64x1x1 ![0, 1] bcast_S64x1_S64x1x1_0_1 : (⟨S64x1, .i32⟩ : BufTy).Contents (Elt F) → (⟨S64x1x1, .i32⟩ : BufTy).Contents (Elt F)),
    unary main_v122 main_v123 (broadcastInDim S64x1x20 ![0, 1, 2] bcast_S64x1x1_S64x1x20_0_1_2 : (⟨S64x1x1, .i32⟩ : BufTy).Contents (Elt F) → (⟨S64x1x20, .i32⟩ : BufTy).Contents (Elt F)),
    binary main_v121 main_v123 main_v124 (cmpi .sgt : (⟨S64x1x20, .i32⟩ : BufTy).Contents (Elt F) → (⟨S64x1x20, .i32⟩ : BufTy).Contents (Elt F) → (⟨S64x1x20, .i1⟩ : BufTy).Contents (Elt F)),
    unary main_arg3 main_v125 (broadcastInDim S64x1x20 ![0, 2] bcast_S64x20_S64x1x20_0_2 : (⟨S64x20, .i32⟩ : BufTy).Contents (Elt F) → (⟨S64x1x20, .i32⟩ : BufTy).Contents (Elt F)),
    nullary main_c_25 (constantI S_ 32 0#32),
    unary main_c_25 main_v126 (broadcastInDim S64x1x20 ![] bcast_S_S64x1x20 : (⟨S_, .i32⟩ : BufTy).Contents (Elt F) → (⟨S64x1x20, .i32⟩ : BufTy).Contents (Elt F)),
    binary main_v125 main_v126 main_v127 (cmpi .sle : (⟨S64x1x20, .i32⟩ : BufTy).Contents (Elt F) → (⟨S64x1x20, .i32⟩ : BufTy).Contents (Elt F) → (⟨S64x1x20, .i1⟩ : BufTy).Contents (Elt F)),
    binary main_v124 main_v127 main_v128 (ori : (⟨S64x1x20, .i1⟩ : BufTy).Contents (Elt F) → (⟨S64x1x20, .i1⟩ : BufTy).Contents (Elt F) → (⟨S64x1x20, .i1⟩ : BufTy).Contents (Elt F)),
    nullary main_c_26 (constantI S_ 1 0#1),
    binary main_v128 main_c_26 main_v129 ((fun x v => Host.reduce IntOp.ori x v reducesTo_S64x1x20_S64x1_d2 h_S_) : (⟨S64x1x20, .i1⟩ : BufTy).Contents (Elt F) → (⟨S_, .i1⟩ : BufTy).Contents (Elt F) → (⟨S64x1, .i1⟩ : BufTy).Contents (Elt F)),
    TRef.nullary (TRef.of (T := ⟨S64x1x20, .i32⟩) main_call14_v0) (iotaInDim S64x1x20 32 2),
    TRef.nullary (TRef.of (T := ⟨S_, .i1⟩) main_call14_c) (constantI S_ 1 0#1),
    TRef.nullary (TRef.of (T := ⟨S_, .i32⟩) main_call14_c_0) (constantI S_ 32 0#32),
    TRef.quaternary (TRef.of (T := ⟨S64x1x20, .i1⟩) main_v128) (TRef.of (T := ⟨S64x1x20, .i32⟩) main_call14_v0) (TRef.of (T := ⟨S_, .i1⟩) main_call14_c) (TRef.of (T := ⟨S_, .i32⟩) main_call14_c_0) (TRef.of (T := ⟨S64x1, .i1⟩) main_call14_v1_0) (fun x y u v j => (Host.reduce2 reducer_argmax_i1_i32 x y u v reducesTo_S64x1x20_S64x1_d2 h_S_ j).1),
    TRef.quaternary (TRef.of (T := ⟨S64x1x20, .i1⟩) main_v128) (TRef.of (T := ⟨S64x1x20, .i32⟩) main_call14_v0) (TRef.of (T := ⟨S_, .i1⟩) main_call14_c) (TRef.of (T := ⟨S_, .i32⟩) main_call14_c_0) (TRef.of (T := ⟨S64x1, .i32⟩) main_v130) (fun x y u v j => (Host.reduce2 reducer_argmax_i1_i32 x y u v reducesTo_S64x1x20_S64x1_d2 h_S_ j).2) ]

/-- @main's operations 213 … 235 of 338 (window `main_part2`). -/
abbrev ops_part2_2 : List (HloOp τ sig (Elt F)) :=
  [ nullary main_c_27 (constantI S_ 32 19#32),
    TRef.unary (TRef.of (T := ⟨S_, .i32⟩) main_c_27) (TRef.of (T := ⟨S_, .i32⟩) main_call15_v0) id,
    TRef.unary (TRef.of (T := ⟨S_, .i32⟩) main_call15_v0) (TRef.of (T := ⟨S1, .i32⟩) main_call15_v1) (broadcastInDim S1 ![] bcast_S_S1),
    TRef.unary (TRef.of (T := ⟨S1, .i32⟩) main_call15_v1) (TRef.of (T := ⟨S64x1, .i32⟩) main_call15_v2) (broadcastInDim S64x1 ![1] bcast_S1_S64x1_1),
    TRef.ternary (TRef.of (T := ⟨S64x1, .i1⟩) main_v129) (TRef.of (T := ⟨S64x1, .i32⟩) main_v130) (TRef.of (T := ⟨S64x1, .i32⟩) main_call15_v2) (TRef.of (T := ⟨S64x1, .i32⟩) main_v131) select,
    nullary main_c_28 (constantI S_ 32 0#32),
    unary main_c_28 main_v132 (broadcastInDim S64x1 ![] bcast_S_S64x1 : (⟨S_, .i32⟩ : BufTy).Contents (Elt F) → (⟨S64x1, .i32⟩ : BufTy).Contents (Elt F)),
    binary main_v131 main_v132 main_v133 (cmpi .slt : (⟨S64x1, .i32⟩ : BufTy).Contents (Elt F) → (⟨S64x1, .i32⟩ : BufTy).Contents (Elt F) → (⟨S64x1, .i1⟩ : BufTy).Contents (Elt F)),
    nullary main_c_29 (constantI S_ 32 20#32),
    unary main_c_29 main_v134 (broadcastInDim S64x1 ![] bcast_S_S64x1 : (⟨S_, .i32⟩ : BufTy).Contents (Elt F) → (⟨S64x1, .i32⟩ : BufTy).Contents (Elt F)),
    binary main_v131 main_v134 main_v135 (addi : (⟨S64x1, .i32⟩ : BufTy).Contents (Elt F) → (⟨S64x1, .i32⟩ : BufTy).Contents (Elt F) → (⟨S64x1, .i32⟩ : BufTy).Contents (Elt F)),
    ternary main_v133 main_v135 main_v131 main_v136 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    unary main_v136 main_v137 (broadcastInDim S64x1x1 ![0, 1] bcast_S64x1_S64x1x1_0_1 : (⟨S64x1, .i32⟩ : BufTy).Contents (Elt F) → (⟨S64x1x1, .i32⟩ : BufTy).Contents (Elt F)),
    binary main_arg3 main_v137 main_v138 ((fun x i => Host.gather gather_S64x20_S64x1x1_S64x1_n_1_0_0_1_2_11 x i) : (⟨S64x20, .i32⟩ : BufTy).Contents (Elt F) → (⟨S64x1x1, .i32⟩ : BufTy).Contents (Elt F) → (⟨S64x1, .i32⟩ : BufTy).Contents (Elt F)),
    unary main_v113 main_v139 (broadcastInDim S64x1 ![0] bcast_S64_S64x1_0 : (⟨S64, .f32⟩ : BufTy).Contents (Elt F) → (⟨S64x1, .f32⟩ : BufTy).Contents (Elt F)),
    binary main_values_23 main_v139 main_v140 (cmpf .ogt : (⟨S64x1, .f32⟩ : BufTy).Contents (Elt F) → (⟨S64x1, .f32⟩ : BufTy).Contents (Elt F) → (⟨S64x1, .i1⟩ : BufTy).Contents (Elt F)),
    binary main_v138 main_indices_24 main_v141 (cmpi .sgt : (⟨S64x1, .i32⟩ : BufTy).Contents (Elt F) → (⟨S64x1, .i32⟩ : BufTy).Contents (Elt F) → (⟨S64x1, .i1⟩ : BufTy).Contents (Elt F)),
    binary main_v140 main_v141 main_v142 (andi : (⟨S64x1, .i1⟩ : BufTy).Contents (Elt F) → (⟨S64x1, .i1⟩ : BufTy).Contents (Elt F) → (⟨S64x1, .i1⟩ : BufTy).Contents (Elt F)),
    unary main_v142 main_v143 ((extui 32 · natLt_1_32) : (⟨S64x1, .i1⟩ : BufTy).Contents (Elt F) → (⟨S64x1, .i32⟩ : BufTy).Contents (Elt F)),
    TRef.nullary (TRef.of (T := ⟨S_, .i32⟩) main_call16_c) (constantI S_ 32 2147483647#32),
    TRef.unary (TRef.of (T := ⟨S_, .i32⟩) main_call16_c) (TRef.of (T := ⟨S_, .i32⟩) main_call16_v0) (broadcastInDim S_ ![] bcast_S_S_),
    TRef.binary (TRef.of (T := ⟨S64x1, .i32⟩) main_v143) (TRef.of (T := ⟨S_, .i32⟩) main_call16_v0) (TRef.of (T := ⟨S64x1, .i32⟩) main_v144) (fun x v => Host.reduceWindow IntOp.minsi ![1, 1] ![1, 1] ![0, 0] ![0, 0] x v reduceWindows_S64x1_S64x1_w1s1p0_0_w1s1p0_0 h_S_),
    nullary main_c_30 (constantI S_ 32 0#32) ]

/-- Window `main_part2`'s operations. Not an abbreviation: `main_eq` below splits `ops` into the windows and no further. -/
def ops_part2 : List (HloOp τ sig (Elt F)) :=
  ops_part2_0 ++ (ops_part2_1 ++ (ops_part2_2))

/-- @main's operations 236 … 265 of 338 (window `main_part3`). -/
abbrev ops_part3_0 : List (HloOp τ sig (Elt F)) :=
  [ unary main_c_30 main_v145 (broadcastInDim S64x1 ![] bcast_S_S64x1 : (⟨S_, .i32⟩ : BufTy).Contents (Elt F) → (⟨S64x1, .i32⟩ : BufTy).Contents (Elt F)),
    binary main_v144 main_v145 main_v146 (cmpi .sgt : (⟨S64x1, .i32⟩ : BufTy).Contents (Elt F) → (⟨S64x1, .i32⟩ : BufTy).Contents (Elt F) → (⟨S64x1, .i1⟩ : BufTy).Contents (Elt F)),
    nullary main_c_31 (constantI S_ 32 10#32),
    unary main_c_31 main_v147 (broadcastInDim S64x1 ![] bcast_S_S64x1 : (⟨S_, .i32⟩ : BufTy).Contents (Elt F) → (⟨S64x1, .i32⟩ : BufTy).Contents (Elt F)),
    binary main_indices_24 main_v147 main_v148 (addi : (⟨S64x1, .i32⟩ : BufTy).Contents (Elt F) → (⟨S64x1, .i32⟩ : BufTy).Contents (Elt F) → (⟨S64x1, .i32⟩ : BufTy).Contents (Elt F)),
    binary main_v138 main_v148 main_v149 (minsi : (⟨S64x1, .i32⟩ : BufTy).Contents (Elt F) → (⟨S64x1, .i32⟩ : BufTy).Contents (Elt F) → (⟨S64x1, .i32⟩ : BufTy).Contents (Elt F)),
    unary main_indices_24 main_v150 (broadcastInDim S64x1x1 ![0, 1] bcast_S64x1_S64x1x1_0_1 : (⟨S64x1, .i32⟩ : BufTy).Contents (Elt F) → (⟨S64x1x1, .i32⟩ : BufTy).Contents (Elt F)),
    nullary main_v151 (iotaInDim S10 32 0),
    unary main_v151 main_v152 (broadcastInDim S1x10 ![1] bcast_S10_S1x10_1 : (⟨S10, .i32⟩ : BufTy).Contents (Elt F) → (⟨S1x10, .i32⟩ : BufTy).Contents (Elt F)),
    unary main_v152 main_v153 (broadcastInDim S1x1x10 ![1, 2] bcast_S1x10_S1x1x10_1_2 : (⟨S1x10, .i32⟩ : BufTy).Contents (Elt F) → (⟨S1x1x10, .i32⟩ : BufTy).Contents (Elt F)),
    unary main_v150 main_v154 (broadcastInDim S64x1x10 ![0, 1, 2] bcast_S64x1x1_S64x1x10_0_1_2 : (⟨S64x1x1, .i32⟩ : BufTy).Contents (Elt F) → (⟨S64x1x10, .i32⟩ : BufTy).Contents (Elt F)),
    unary main_v153 main_v155 (broadcastInDim S64x1x10 ![0, 1, 2] bcast_S1x1x10_S64x1x10_0_1_2 : (⟨S1x1x10, .i32⟩ : BufTy).Contents (Elt F) → (⟨S64x1x10, .i32⟩ : BufTy).Contents (Elt F)),
    binary main_v154 main_v155 main_v156 (addi : (⟨S64x1x10, .i32⟩ : BufTy).Contents (Elt F) → (⟨S64x1x10, .i32⟩ : BufTy).Contents (Elt F) → (⟨S64x1x10, .i32⟩ : BufTy).Contents (Elt F)),
    unary main_v149 main_v157 (broadcastInDim S64x1x1 ![0, 1] bcast_S64x1_S64x1x1_0_1 : (⟨S64x1, .i32⟩ : BufTy).Contents (Elt F) → (⟨S64x1x1, .i32⟩ : BufTy).Contents (Elt F)),
    unary main_v157 main_v158 (broadcastInDim S64x1x10 ![0, 1, 2] bcast_S64x1x1_S64x1x10_0_1_2 : (⟨S64x1x1, .i32⟩ : BufTy).Contents (Elt F) → (⟨S64x1x10, .i32⟩ : BufTy).Contents (Elt F)),
    binary main_v156 main_v158 main_v159 (cmpi .slt : (⟨S64x1x10, .i32⟩ : BufTy).Contents (Elt F) → (⟨S64x1x10, .i32⟩ : BufTy).Contents (Elt F) → (⟨S64x1x10, .i1⟩ : BufTy).Contents (Elt F)),
    nullary main_c_32 (constantI S_ 32 0#32),
    nullary main_c_33 (constantI S_ 32 511#32),
    TRef.unary (TRef.of (T := ⟨S_, .i32⟩) main_c_32) (TRef.of (T := ⟨S_, .i32⟩) main_call17_v0) id,
    TRef.unary (TRef.of (T := ⟨S_, .i32⟩) main_call17_v0) (TRef.of (T := ⟨S64x1x10, .i32⟩) main_call17_v1) (broadcastInDim S64x1x10 ![] bcast_S_S64x1x10),
    TRef.binary (TRef.of (T := ⟨S64x1x10, .i32⟩) main_call17_v1) (TRef.of (T := ⟨S64x1x10, .i32⟩) main_v156) (TRef.of (T := ⟨S64x1x10, .i32⟩) main_call17_v2) maxsi,
    TRef.unary (TRef.of (T := ⟨S_, .i32⟩) main_c_33) (TRef.of (T := ⟨S_, .i32⟩) main_call17_v3) id,
    TRef.unary (TRef.of (T := ⟨S_, .i32⟩) main_call17_v3) (TRef.of (T := ⟨S64x1x10, .i32⟩) main_call17_v4) (broadcastInDim S64x1x10 ![] bcast_S_S64x1x10),
    TRef.binary (TRef.of (T := ⟨S64x1x10, .i32⟩) main_call17_v4) (TRef.of (T := ⟨S64x1x10, .i32⟩) main_call17_v2) (TRef.of (T := ⟨S64x1x10, .i32⟩) main_v160) minsi,
    nullary main_c_34 (constantI S_ 32 0#32),
    unary main_c_34 main_v161 (broadcastInDim S64x1x10 ![] bcast_S_S64x1x10 : (⟨S_, .i32⟩ : BufTy).Contents (Elt F) → (⟨S64x1x10, .i32⟩ : BufTy).Contents (Elt F)),
    binary main_v160 main_v161 main_v162 (cmpi .slt : (⟨S64x1x10, .i32⟩ : BufTy).Contents (Elt F) → (⟨S64x1x10, .i32⟩ : BufTy).Contents (Elt F) → (⟨S64x1x10, .i1⟩ : BufTy).Contents (Elt F)),
    nullary main_c_35 (constantI S_ 32 512#32),
    unary main_c_35 main_v163 (broadcastInDim S64x1x10 ![] bcast_S_S64x1x10 : (⟨S_, .i32⟩ : BufTy).Contents (Elt F) → (⟨S64x1x10, .i32⟩ : BufTy).Contents (Elt F)),
    binary main_v160 main_v163 main_v164 (addi : (⟨S64x1x10, .i32⟩ : BufTy).Contents (Elt F) → (⟨S64x1x10, .i32⟩ : BufTy).Contents (Elt F) → (⟨S64x1x10, .i32⟩ : BufTy).Contents (Elt F)) ]

/-- @main's operations 266 … 295 of 338 (window `main_part3`). -/
abbrev ops_part3_1 : List (HloOp τ sig (Elt F)) :=
  [ ternary main_v162 main_v164 main_v160 main_v165 (select : (⟨S64x1x10, .i1⟩ : BufTy).Contents (Elt F) → (⟨S64x1x10, .i32⟩ : BufTy).Contents (Elt F) → (⟨S64x1x10, .i32⟩ : BufTy).Contents (Elt F) → (⟨S64x1x10, .i32⟩ : BufTy).Contents (Elt F)),
    unary main_v165 main_v166 (broadcastInDim S64x1x10x1 ![0, 1, 2] bcast_S64x1x10_S64x1x10x1_0_1_2 : (⟨S64x1x10, .i32⟩ : BufTy).Contents (Elt F) → (⟨S64x1x10x1, .i32⟩ : BufTy).Contents (Elt F)),
    binary main_v13 main_v166 main_v167 ((fun x i => Host.gather gather_S64x512_S64x1x10x1_S64x1x10_n_1_0_0_1_3_11 x i) : (⟨S64x512, .f32⟩ : BufTy).Contents (Elt F) → (⟨S64x1x10x1, .i32⟩ : BufTy).Contents (Elt F) → (⟨S64x1x10, .f32⟩ : BufTy).Contents (Elt F)),
    nullary main_cst_36 (constant S_ .f32 0xFF800000#32),
    TRef.unary (TRef.of (T := ⟨S_, .f32⟩) main_cst_36) (TRef.of (T := ⟨S_, .f32⟩) main_call18_v0) id,
    TRef.unary (TRef.of (T := ⟨S_, .f32⟩) main_call18_v0) (TRef.of (T := ⟨S1x10, .f32⟩) main_call18_v1) (broadcastInDim S1x10 ![] bcast_S_S1x10),
    TRef.unary (TRef.of (T := ⟨S1x10, .f32⟩) main_call18_v1) (TRef.of (T := ⟨S64x1x10, .f32⟩) main_call18_v2) (broadcastInDim S64x1x10 ![1, 2] bcast_S1x10_S64x1x10_1_2),
    TRef.ternary (TRef.of (T := ⟨S64x1x10, .i1⟩) main_v159) (TRef.of (T := ⟨S64x1x10, .f32⟩) main_v167) (TRef.of (T := ⟨S64x1x10, .f32⟩) main_call18_v2) (TRef.of (T := ⟨S64x1x10, .f32⟩) main_v168) select,
    TRef.nullary (TRef.of (T := ⟨S64x1x10, .i32⟩) main_call19_v0) (iotaInDim S64x1x10 32 2),
    TRef.nullary (TRef.of (T := ⟨S_, .f32⟩) main_call19_cst) (constant S_ .f32 0xFF800000#32),
    TRef.nullary (TRef.of (T := ⟨S_, .i32⟩) main_call19_c) (constantI S_ 32 0#32),
    TRef.quaternary (TRef.of (T := ⟨S64x1x10, .f32⟩) main_v168) (TRef.of (T := ⟨S64x1x10, .i32⟩) main_call19_v0) (TRef.of (T := ⟨S_, .f32⟩) main_call19_cst) (TRef.of (T := ⟨S_, .i32⟩) main_call19_c) (TRef.of (T := ⟨S64x1, .f32⟩) main_call19_v1_0) (fun x y u v j => (Host.argReduce reducer_argmax_f32_i32 x y u v reducesTo_S64x1x10_S64x1_d2 h_S_ j).1),
    TRef.quaternary (TRef.of (T := ⟨S64x1x10, .f32⟩) main_v168) (TRef.of (T := ⟨S64x1x10, .i32⟩) main_call19_v0) (TRef.of (T := ⟨S_, .f32⟩) main_call19_cst) (TRef.of (T := ⟨S_, .i32⟩) main_call19_c) (TRef.of (T := ⟨S64x1, .i32⟩) main_v169) (fun x y u v j => (Host.argReduce reducer_argmax_f32_i32 x y u v reducesTo_S64x1x10_S64x1_d2 h_S_ j).2),
    binary main_indices_24 main_v169 main_v170 (addi : (⟨S64x1, .i32⟩ : BufTy).Contents (Elt F) → (⟨S64x1, .i32⟩ : BufTy).Contents (Elt F) → (⟨S64x1, .i32⟩ : BufTy).Contents (Elt F)),
    unary main_v146 main_v171 (broadcastInDim S64x1x1 ![0, 1] bcast_S64x1_S64x1x1_0_1 : (⟨S64x1, .i1⟩ : BufTy).Contents (Elt F) → (⟨S64x1x1, .i1⟩ : BufTy).Contents (Elt F)),
    unary main_indices_24 main_v172 (broadcastInDim S64x1x1 ![0, 1] bcast_S64x1_S64x1x1_0_1 : (⟨S64x1, .i32⟩ : BufTy).Contents (Elt F) → (⟨S64x1x1, .i32⟩ : BufTy).Contents (Elt F)),
    unary main_v170 main_v173 (broadcastInDim S64x1x1 ![0, 1] bcast_S64x1_S64x1x1_0_1 : (⟨S64x1, .i32⟩ : BufTy).Contents (Elt F) → (⟨S64x1x1, .i32⟩ : BufTy).Contents (Elt F)),
    unary main_v131 main_v174 (broadcastInDim S64x1x1 ![0, 1] bcast_S64x1_S64x1x1_0_1 : (⟨S64x1, .i32⟩ : BufTy).Contents (Elt F) → (⟨S64x1x1, .i32⟩ : BufTy).Contents (Elt F)),
    nary ![main_v172, main_v173, main_v174] main_v175 (fun u => fn_main_v175 (F := F) (u 0) (u 1) (u 2)),
    nullary main_c_37 (constantI S_ 32 0#32),
    TRef.unary (TRef.of (T := ⟨S_, .i32⟩) main_c_37) (TRef.of (T := ⟨S_, .i32⟩) main_call20_v0) id,
    TRef.unary (TRef.of (T := ⟨S64x1x1, .i1⟩) main_v171) (TRef.of (T := ⟨S64x1x3, .i1⟩) main_call20_v1) (broadcastInDim S64x1x3 ![0, 1, 2] bcast_S64x1x1_S64x1x3_0_1_2),
    TRef.unary (TRef.of (T := ⟨S_, .i32⟩) main_call20_v0) (TRef.of (T := ⟨S1x3, .i32⟩) main_call20_v2) (broadcastInDim S1x3 ![] bcast_S_S1x3),
    TRef.unary (TRef.of (T := ⟨S1x3, .i32⟩) main_call20_v2) (TRef.of (T := ⟨S64x1x3, .i32⟩) main_call20_v3) (broadcastInDim S64x1x3 ![1, 2] bcast_S1x3_S64x1x3_1_2),
    TRef.ternary (TRef.of (T := ⟨S64x1x3, .i1⟩) main_call20_v1) (TRef.of (T := ⟨S64x1x3, .i32⟩) main_v175) (TRef.of (T := ⟨S64x1x3, .i32⟩) main_call20_v3) (TRef.of (T := ⟨S64x1x3, .i32⟩) main_v176) select,
    unary main_v142 main_v177 (noti : (⟨S64x1, .i1⟩ : BufTy).Contents (Elt F) → (⟨S64x1, .i1⟩ : BufTy).Contents (Elt F)),
    TRef.nullary (TRef.of (T := ⟨S64x1, .i32⟩) main_call21_v0) (iotaInDim S64x1 32 1),
    TRef.nullary (TRef.of (T := ⟨S_, .i1⟩) main_call21_c) (constantI S_ 1 0#1),
    TRef.nullary (TRef.of (T := ⟨S_, .i32⟩) main_call21_c_0) (constantI S_ 32 0#32),
    TRef.quaternary (TRef.of (T := ⟨S64x1, .i1⟩) main_v177) (TRef.of (T := ⟨S64x1, .i32⟩) main_call21_v0) (TRef.of (T := ⟨S_, .i1⟩) main_call21_c) (TRef.of (T := ⟨S_, .i32⟩) main_call21_c_0) (TRef.of (T := ⟨S64, .i1⟩) main_call21_v1_0) (fun x y u v j => (Host.reduce2 reducer_argmax_i1_i32 x y u v reducesTo_S64x1_S64_d1 h_S_ j).1) ]

/-- @main's operations 296 … 318 of 338 (window `main_part3`). -/
abbrev ops_part3_2 : List (HloOp τ sig (Elt F)) :=
  [ TRef.quaternary (TRef.of (T := ⟨S64x1, .i1⟩) main_v177) (TRef.of (T := ⟨S64x1, .i32⟩) main_call21_v0) (TRef.of (T := ⟨S_, .i1⟩) main_call21_c) (TRef.of (T := ⟨S_, .i32⟩) main_call21_c_0) (TRef.of (T := ⟨S64, .i32⟩) main_v178) (fun x y u v j => (Host.reduce2 reducer_argmax_i1_i32 x y u v reducesTo_S64x1_S64_d1 h_S_ j).2),
    nullary main_v179 (iotaInDim S1 32 0),
    unary main_v179 main_v180 (broadcastInDim S1x1 ![1] bcast_S1_S1x1_1 : (⟨S1, .i32⟩ : BufTy).Contents (Elt F) → (⟨S1x1, .i32⟩ : BufTy).Contents (Elt F)),
    unary main_v178 main_v181 (broadcastInDim S64x1 ![0] bcast_S64_S64x1_0 : (⟨S64, .i32⟩ : BufTy).Contents (Elt F) → (⟨S64x1, .i32⟩ : BufTy).Contents (Elt F)),
    unary main_v180 main_v182 (broadcastInDim S64x1 ![0, 1] bcast_S1x1_S64x1_0_1 : (⟨S1x1, .i32⟩ : BufTy).Contents (Elt F) → (⟨S64x1, .i32⟩ : BufTy).Contents (Elt F)),
    binary main_v182 main_v181 main_v183 (cmpi .eq : (⟨S64x1, .i32⟩ : BufTy).Contents (Elt F) → (⟨S64x1, .i32⟩ : BufTy).Contents (Elt F) → (⟨S64x1, .i1⟩ : BufTy).Contents (Elt F)),
    unary main_v142 main_v184 (noti : (⟨S64x1, .i1⟩ : BufTy).Contents (Elt F) → (⟨S64x1, .i1⟩ : BufTy).Contents (Elt F)),
    nullary main_c_38 (constantI S_ 1 0#1),
    binary main_v184 main_c_38 main_v185 ((fun x v => Host.reduce IntOp.ori x v reducesTo_S64x1_S64_d1 h_S_) : (⟨S64x1, .i1⟩ : BufTy).Contents (Elt F) → (⟨S_, .i1⟩ : BufTy).Contents (Elt F) → (⟨S64, .i1⟩ : BufTy).Contents (Elt F)),
    binary main_v183 main_v140 main_v186 (andi : (⟨S64x1, .i1⟩ : BufTy).Contents (Elt F) → (⟨S64x1, .i1⟩ : BufTy).Contents (Elt F) → (⟨S64x1, .i1⟩ : BufTy).Contents (Elt F)),
    nullary main_c_39 (constantI S_ 1 0#1),
    binary main_v186 main_c_39 main_v187 ((fun x v => Host.reduce IntOp.ori x v reducesTo_S64x1_S64_d1 h_S_) : (⟨S64x1, .i1⟩ : BufTy).Contents (Elt F) → (⟨S_, .i1⟩ : BufTy).Contents (Elt F) → (⟨S64, .i1⟩ : BufTy).Contents (Elt F)),
    unary main_v187 main_v188 (noti : (⟨S64, .i1⟩ : BufTy).Contents (Elt F) → (⟨S64, .i1⟩ : BufTy).Contents (Elt F)),
    binary main_v185 main_v188 main_v189 (andi : (⟨S64, .i1⟩ : BufTy).Contents (Elt F) → (⟨S64, .i1⟩ : BufTy).Contents (Elt F) → (⟨S64, .i1⟩ : BufTy).Contents (Elt F)),
    unary main_v11 main_v190 ((extractStridedSlice S64x1 ![0, 0] · slices_S64x512_S64x1_0_0) : (⟨S64x512, .f32⟩ : BufTy).Contents (Elt F) → (⟨S64x1, .f32⟩ : BufTy).Contents (Elt F)),
    reshape main_v190 main_v191 (rfl : (.f32 : EltTy) = .f32) shapeCasts_S64x1_S64,
    nullary main_cst_40 (constant S_ .f32 0x00000000#32),
    TRef.unary (TRef.of (T := ⟨S_, .f32⟩) main_cst_40) (TRef.of (T := ⟨S_, .f32⟩) main_call22_v0) id,
    TRef.unary (TRef.of (T := ⟨S_, .f32⟩) main_call22_v0) (TRef.of (T := ⟨S1, .f32⟩) main_call22_v1) (broadcastInDim S1 ![] bcast_S_S1),
    TRef.unary (TRef.of (T := ⟨S1, .f32⟩) main_call22_v1) (TRef.of (T := ⟨S64x1, .f32⟩) main_call22_v2) (broadcastInDim S64x1 ![1] bcast_S1_S64x1_1),
    TRef.ternary (TRef.of (T := ⟨S64x1, .i1⟩) main_v183) (TRef.of (T := ⟨S64x1, .f32⟩) main_values_23) (TRef.of (T := ⟨S64x1, .f32⟩) main_call22_v2) (TRef.of (T := ⟨S64x1, .f32⟩) main_v192) select,
    nullary main_cst_41 (constant S_ .f32 0x00000000#32),
    binary main_v192 main_cst_41 main_v193 ((fun x v => Host.reduceAdd x v reducesTo_S64x1_S64_d1 h_S_) : (⟨S64x1, .f32⟩ : BufTy).Contents (Elt F) → (⟨S_, .f32⟩ : BufTy).Contents (Elt F) → (⟨S64, .f32⟩ : BufTy).Contents (Elt F)) ]

/-- Window `main_part3`'s operations. Not an abbreviation: `main_eq` below splits `ops` into the windows and no further. -/
def ops_part3 : List (HloOp τ sig (Elt F)) :=
  ops_part3_0 ++ (ops_part3_1 ++ (ops_part3_2))

/-- @main's operations 319 … 338 of 338 (window `main_part4`). -/
abbrev ops_part4 : List (HloOp τ sig (Elt F)) :=
  [ binary main_v191 main_v193 main_v194 (subf : (⟨S64, .f32⟩ : BufTy).Contents (Elt F) → (⟨S64, .f32⟩ : BufTy).Contents (Elt F) → (⟨S64, .f32⟩ : BufTy).Contents (Elt F)),
    nullary main_cst_42 (constant S_ .f32 0x00000000#32),
    TRef.unary (TRef.of (T := ⟨S_, .f32⟩) main_cst_42) (TRef.of (T := ⟨S_, .f32⟩) main_call23_v0) id,
    TRef.unary (TRef.of (T := ⟨S_, .f32⟩) main_call23_v0) (TRef.of (T := ⟨S64, .f32⟩) main_call23_v1) (broadcastInDim S64 ![] bcast_S_S64),
    TRef.ternary (TRef.of (T := ⟨S64, .i1⟩) main_v189) (TRef.of (T := ⟨S64, .f32⟩) main_v194) (TRef.of (T := ⟨S64, .f32⟩) main_call23_v1) (TRef.of (T := ⟨S64, .f32⟩) main_v195) select,
    unary main_arg3 main_v196 ((extractStridedSlice S64x1 ![0, 0] · slices_S64x20_S64x1_0_0) : (⟨S64x20, .i32⟩ : BufTy).Contents (Elt F) → (⟨S64x1, .i32⟩ : BufTy).Contents (Elt F)),
    reshape main_v196 main_v197 (rfl : (.i32 : EltTy) = .i32) shapeCasts_S64x1_S64,
    nullary main_c_43 (constantI S_ 32 0#32),
    unary main_c_43 main_v198 (broadcastInDim S64 ![] bcast_S_S64 : (⟨S_, .i32⟩ : BufTy).Contents (Elt F) → (⟨S64, .i32⟩ : BufTy).Contents (Elt F)),
    binary main_v197 main_v198 main_v199 (cmpi .sgt : (⟨S64, .i32⟩ : BufTy).Contents (Elt F) → (⟨S64, .i32⟩ : BufTy).Contents (Elt F) → (⟨S64, .i1⟩ : BufTy).Contents (Elt F)),
    nullary main_c_44 (constantI S_ 32 0#32),
    TRef.unary (TRef.of (T := ⟨S_, .i32⟩) main_c_44) (TRef.of (T := ⟨S_, .i32⟩) main_call24_v0) id,
    TRef.unary (TRef.of (T := ⟨S_, .i32⟩) main_call24_v0) (TRef.of (T := ⟨S1x3, .i32⟩) main_call24_v1) (broadcastInDim S1x3 ![] bcast_S_S1x3),
    TRef.unary (TRef.of (T := ⟨S1x3, .i32⟩) main_call24_v1) (TRef.of (T := ⟨S64x1x3, .i32⟩) main_call24_v2) (broadcastInDim S64x1x3 ![1, 2] bcast_S1x3_S64x1x3_1_2),
    TRef.unary (TRef.of (T := ⟨S64, .i1⟩) main_v199) (TRef.of (T := ⟨S64x1x3, .i1⟩) main_call24_v3) (broadcastInDim S64x1x3 ![0] bcast_S64_S64x1x3_0),
    TRef.ternary (TRef.of (T := ⟨S64x1x3, .i1⟩) main_call24_v3) (TRef.of (T := ⟨S64x1x3, .i32⟩) main_v176) (TRef.of (T := ⟨S64x1x3, .i32⟩) main_call24_v2) (TRef.of (T := ⟨S64x1x3, .i32⟩) main_v200) select,
    nullary main_cst_45 (constant S_ .f32 0x00000000#32),
    TRef.unary (TRef.of (T := ⟨S_, .f32⟩) main_cst_45) (TRef.of (T := ⟨S_, .f32⟩) main_call25_v0) id,
    TRef.unary (TRef.of (T := ⟨S_, .f32⟩) main_call25_v0) (TRef.of (T := ⟨S64, .f32⟩) main_call25_v1) (broadcastInDim S64 ![] bcast_S_S64),
    TRef.ternary (TRef.of (T := ⟨S64, .i1⟩) main_v199) (TRef.of (T := ⟨S64, .f32⟩) main_v195) (TRef.of (T := ⟨S64, .f32⟩) main_call25_v1) (TRef.of (T := ⟨S64, .f32⟩) main_v201) select ]

/-- @main's 338 operations, in order (a called function's operations stand in its call's place, spelt `TRef.…`). -/
abbrev ops : List (HloOp τ sig (Elt F)) :=
  ops_part0 ++ (ops_part1 ++ (ops_part2 ++ (ops_part3 ++ (ops_part4))))

theorem main_part0_eq (c : Dev nD) : main_part0 (F := F) c = seq ops_part0 := by
  unfold main_part0 ops_part0
  simp only [seq_append, seq, fn_where.body, fn_argmax.body, fn_where_0.body, bind_assoc, pure_bind]
  rfl
theorem main_part1_eq (c : Dev nD) : main_part1 (F := F) c = seq ops_part1 := rfl
theorem main_part2_eq (c : Dev nD) : main_part2 (F := F) c = seq ops_part2 := rfl
theorem main_part3_eq (c : Dev nD) : main_part3 (F := F) c = seq ops_part3 := rfl
theorem main_part4_eq (c : Dev nD) : main_part4 (F := F) c = seq ops_part4 := rfl
theorem main_eq (c : Dev nD) : main (F := F) c = seq ops := by
  simp only [ops, seq_append, ← main_part0_eq c, ← main_part1_eq c, ← main_part2_eq c, ← main_part3_eq c, ← main_part4_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_part0_0_sub : (ops_part0_0 : List (HloOp τ sig (Elt F))).Forall fun op => op.bufs ⊆ tcRefs τ sig :=
  ⟨unary_bufs_sub .., reshape_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., unary_bufs_sub .., unary_bufs_sub .., unary_bufs_sub .., binary_bufs_sub .., nullary_bufs_sub .., unary_bufs_sub .., unary_bufs_sub .., unary_bufs_sub .., ternary_bufs_sub ..⟩
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part0_1_sub : (ops_part0_1 : List (HloOp τ sig (Elt F))).Forall fun op => op.bufs ⊆ tcRefs τ sig :=
  ⟨unary_bufs_sub .., unary_bufs_sub .., unary_bufs_sub .., unary_bufs_sub .., unary_bufs_sub .., unary_bufs_sub .., binary_bufs_sub .., unary_bufs_sub .., nullary_bufs_sub .., unary_bufs_sub .., binary_bufs_sub .., unary_bufs_sub .., binary_bufs_sub .., nullary_bufs_sub .., binary_bufs_sub .., nullary_bufs_sub .., nullary_bufs_sub .., nullary_bufs_sub .., quaternary_bufs_sub .., quaternary_bufs_sub .., nullary_bufs_sub .., unary_bufs_sub .., unary_bufs_sub .., unary_bufs_sub .., ternary_bufs_sub .., nullary_bufs_sub .., unary_bufs_sub .., binary_bufs_sub .., nullary_bufs_sub .., unary_bufs_sub ..⟩
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part0_2_sub : (ops_part0_2 : List (HloOp τ sig (Elt F))).Forall fun op => op.bufs ⊆ tcRefs τ sig :=
  ⟨binary_bufs_sub .., ternary_bufs_sub .., unary_bufs_sub .., binary_bufs_sub .., unary_bufs_sub .., unary_bufs_sub .., binary_bufs_sub .., binary_bufs_sub .., binary_bufs_sub .., unary_bufs_sub ..⟩
theorem ops_part0_2_fresh : (ops_part0_2 : List (HloOp τ sig (Elt F))).Forall fun op => op.fresh = ∅ :=
  ⟨rfl, rfl, rfl, rfl, rfl, rfl, rfl, rfl, rfl, rfl⟩
theorem ops_part1_0_sub : (ops_part1_0 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., binary_bufs_sub .., unary_bufs_sub .., nullary_bufs_sub .., unary_bufs_sub .., unary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub ..⟩
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part1_1_sub : (ops_part1_1 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., nullary_bufs_sub .., nullary_bufs_sub .., quaternary_bufs_sub .., quaternary_bufs_sub .., binary_bufs_sub .., unary_bufs_sub .., unary_bufs_sub .., unary_bufs_sub .., unary_bufs_sub .., nary_bufs_sub .., nullary_bufs_sub .., unary_bufs_sub .., unary_bufs_sub .., unary_bufs_sub .., unary_bufs_sub .., ternary_bufs_sub .., unary_bufs_sub ..⟩
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part1_2_sub : (ops_part1_2 : List (HloOp τ sig (Elt F))).Forall fun op => op.bufs ⊆ tcRefs τ sig :=
  ⟨nullary_bufs_sub .., nullary_bufs_sub .., nullary_bufs_sub .., quaternary_bufs_sub .., quaternary_bufs_sub .., nullary_bufs_sub .., unary_bufs_sub .., unary_bufs_sub .., unary_bufs_sub .., unary_bufs_sub .., binary_bufs_sub .., unary_bufs_sub .., nullary_bufs_sub .., binary_bufs_sub .., binary_bufs_sub .., nullary_bufs_sub .., binary_bufs_sub .., unary_bufs_sub .., binary_bufs_sub .., unary_bufs_sub .., reshape_bufs_sub .., nullary_bufs_sub ..⟩
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem ops_part2_0_sub : (ops_part2_0 : List (HloOp τ sig (Elt F))).Forall fun op => op.bufs ⊆ tcRefs τ sig :=
  ⟨unary_bufs_sub .., unary_bufs_sub .., unary_bufs_sub .., ternary_bufs_sub .., nullary_bufs_sub .., binary_bufs_sub .., binary_bufs_sub .., nullary_bufs_sub .., unary_bufs_sub .., unary_bufs_sub .., ternary_bufs_sub .., unary_bufs_sub .., reshape_bufs_sub .., nullary_bufs_sub .., unary_bufs_sub .., binary_bufs_sub .., nullary_bufs_sub .., unary_bufs_sub .., unary_bufs_sub .., unary_bufs_sub .., unary_bufs_sub .., ternary_bufs_sub .., nullary_bufs_sub .., unary_bufs_sub .., unary_bufs_sub .., ternary_bufs_sub .., unary_bufs_sub .., reshape_bufs_sub .., nullary_bufs_sub .., unary_bufs_sub ..⟩
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part2_1_sub : (ops_part2_1 : List (HloOp τ sig (Elt F))).Forall fun op => op.bufs ⊆ tcRefs τ sig :=
  ⟨binary_bufs_sub .., nullary_bufs_sub .., unary_bufs_sub .., unary_bufs_sub .., unary_bufs_sub .., unary_bufs_sub .., binary_bufs_sub .., nullary_bufs_sub .., unary_bufs_sub .., unary_bufs_sub .., unary_bufs_sub .., ternary_bufs_sub .., unary_bufs_sub .., unary_bufs_sub .., unary_bufs_sub .., unary_bufs_sub .., unary_bufs_sub .., binary_bufs_sub .., unary_bufs_sub .., nullary_bufs_sub .., unary_bufs_sub .., binary_bufs_sub .., binary_bufs_sub .., nullary_bufs_sub .., binary_bufs_sub .., nullary_bufs_sub .., nullary_bufs_sub .., nullary_bufs_sub .., quaternary_bufs_sub .., quaternary_bufs_sub ..⟩
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part2_2_sub : (ops_part2_2 : List (HloOp τ sig (Elt F))).Forall fun op => op.bufs ⊆ tcRefs τ sig :=
  ⟨nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., binary_bufs_sub .., unary_bufs_sub .., nullary_bufs_sub .., unary_bufs_sub .., binary_bufs_sub .., nullary_bufs_sub ..⟩
theorem ops_part2_2_fresh : (ops_part2_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem ops_part3_0_sub : (ops_part3_0 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., nullary_bufs_sub .., unary_bufs_sub .., unary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub ..⟩
theorem ops_part3_0_fresh : (ops_part3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part3_1_sub : (ops_part3_1 : List (HloOp τ sig (Elt F))).Forall fun op => op.bufs ⊆ tcRefs τ sig :=
  ⟨ternary_bufs_sub .., unary_bufs_sub .., binary_bufs_sub .., nullary_bufs_sub .., unary_bufs_sub .., unary_bufs_sub .., unary_bufs_sub .., ternary_bufs_sub .., nullary_bufs_sub .., nullary_bufs_sub .., nullary_bufs_sub .., quaternary_bufs_sub .., quaternary_bufs_sub .., binary_bufs_sub .., unary_bufs_sub .., unary_bufs_sub .., unary_bufs_sub .., unary_bufs_sub .., nary_bufs_sub .., nullary_bufs_sub .., unary_bufs_sub .., unary_bufs_sub .., unary_bufs_sub .., unary_bufs_sub .., ternary_bufs_sub .., unary_bufs_sub .., nullary_bufs_sub .., nullary_bufs_sub .., nullary_bufs_sub .., quaternary_bufs_sub ..⟩
theorem ops_part3_1_fresh : (ops_part3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_part3_2_sub : (ops_part3_2 : List (HloOp τ sig (Elt F))).Forall fun op => op.bufs ⊆ tcRefs τ sig :=
  ⟨quaternary_bufs_sub .., nullary_bufs_sub .., unary_bufs_sub .., unary_bufs_sub .., unary_bufs_sub .., binary_bufs_sub .., unary_bufs_sub .., nullary_bufs_sub .., binary_bufs_sub .., binary_bufs_sub .., nullary_bufs_sub .., binary_bufs_sub .., unary_bufs_sub .., binary_bufs_sub .., unary_bufs_sub .., reshape_bufs_sub .., nullary_bufs_sub .., unary_bufs_sub .., unary_bufs_sub .., unary_bufs_sub .., ternary_bufs_sub .., nullary_bufs_sub .., binary_bufs_sub ..⟩
theorem ops_part3_2_fresh : (ops_part3_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem ops_part4_sub : (ops_part4 : List (HloOp τ sig (Elt F))).Forall fun op => op.bufs ⊆ tcRefs τ sig :=
  ⟨binary_bufs_sub .., nullary_bufs_sub .., unary_bufs_sub .., unary_bufs_sub .., ternary_bufs_sub .., unary_bufs_sub .., reshape_bufs_sub .., nullary_bufs_sub .., unary_bufs_sub .., binary_bufs_sub .., nullary_bufs_sub .., unary_bufs_sub .., unary_bufs_sub .., unary_bufs_sub .., unary_bufs_sub .., ternary_bufs_sub .., nullary_bufs_sub .., unary_bufs_sub .., unary_bufs_sub .., ternary_bufs_sub ..⟩
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, ops_part2, ops_part3, List.mem_append, or_assoc] at h
    rcases h with h | h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_0_sub op h, List.forall_iff_forall_mem.mp ops_part2_1_sub op h, List.forall_iff_forall_mem.mp ops_part2_2_sub op h, List.forall_iff_forall_mem.mp ops_part3_0_sub op h, List.forall_iff_forall_mem.mp ops_part3_1_sub op h, List.forall_iff_forall_mem.mp ops_part3_2_sub op h, List.forall_iff_forall_mem.mp ops_part4_sub op h]
theorem ops_fresh : ∀ op ∈ (ops : List (HloOp τ sig (Elt F))), op.fresh = ∅ := fun op h => by
    simp only [ops, ops_part0, ops_part1, ops_part2, ops_part3, List.mem_append, or_assoc] at h
    rcases h with h | h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_0_fresh op h, List.forall_iff_forall_mem.mp ops_part2_1_fresh op h, List.forall_iff_forall_mem.mp ops_part2_2_fresh op h, List.forall_iff_forall_mem.mp ops_part3_0_fresh op h, List.forall_iff_forall_mem.mp ops_part3_1_fresh op h, List.forall_iff_forall_mem.mp ops_part3_2_fresh op h, List.forall_iff_forall_mem.mp ops_part4_fresh op h]

end Cert.ReferenceIdeal.Value

end
-- ==== Proof.RefTerms.lean ====
/- The value each operation of the reference writes, one definition per buffer, as a function of the buffers' contents at launch. -/
module

public import proofs.«01_k».proof.Proof.RefOps

@[expose] public section

set_option maxRecDepth 16384
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

def r_v0 (V0 : Val F) : (⟨S64x1x1024, .f32⟩ : BufTy).Contents (Elt F) :=
  extractStridedSlice S64x1x1024 ![0, 0, 0] (V0 (Proc.devRef .tc main_arg0)) slices_S64x512x1024_S64x1x1024_0_0_0
def r_v2 (V0 : Val F) : (⟨S64x512x4, .f32⟩ : BufTy).Contents (Elt F) :=
  Host.dotGeneral dot_S64x512x1024_S1024x4_S64x512x4_2_0_01_1_n_n none (V0 (Proc.devRef .tc main_arg0)) (V0 (Proc.devRef .tc main_arg1))
def r_v3 (V0 : Val F) : (⟨S1x1x4, .f32⟩ : BufTy).Contents (Elt F) :=
  broadcastInDim S1x1x4 ![2] bcast_S4_S1x1x4_2 (V0 (Proc.devRef .tc main_arg2))
def r_v4 (V0 : Val F) : (⟨S64x512x4, .f32⟩ : BufTy).Contents (Elt F) :=
  broadcastInDim S64x512x4 ![0, 1, 2] bcast_S1x1x4_S64x512x4_0_1_2 (r_v3 V0)
def r_v5 (V0 : Val F) : (⟨S64x512x4, .f32⟩ : BufTy).Contents (Elt F) :=
  addf (r_v2 V0) (r_v4 V0)
def r_v6 (V0 : Val F) : (⟨S64x512x1, .f32⟩ : BufTy).Contents (Elt F) :=
  extractStridedSlice S64x512x1 ![0, 0, 0] (r_v5 V0) slices_S64x512x4_S64x512x1_0_0_0
def r_v7 (V0 : Val F) : (⟨S64x512, .f32⟩ : BufTy).Contents (Elt F) :=
  shapeCast _ (r_v6 V0) shapeCasts_S64x512x1_S64x512
def r_v8 (V0 : Val F) : (⟨S64x512x1, .f32⟩ : BufTy).Contents (Elt F) :=
  extractStridedSlice S64x512x1 ![0, 0, 1] (r_v5 V0) slices_S64x512x4_S64x512x1_0_0_1
def r_v9 (V0 : Val F) : (⟨S64x512, .f32⟩ : BufTy).Contents (Elt F) :=
  shapeCast _ (r_v8 V0) shapeCasts_S64x512x1_S64x512
def r_v10 (V0 : Val F) : (⟨S64x512x1, .f32⟩ : BufTy).Contents (Elt F) :=
  extractStridedSlice S64x512x1 ![0, 0, 2] (r_v5 V0) slices_S64x512x4_S64x512x1_0_0_2
def r_v11 (V0 : Val F) : (⟨S64x512, .f32⟩ : BufTy).Contents (Elt F) :=
  shapeCast _ (r_v10 V0) shapeCasts_S64x512x1_S64x512
def r_v12 (V0 : Val F) : (⟨S64x512x1, .f32⟩ : BufTy).Contents (Elt F) :=
  extractStridedSlice S64x512x1 ![0, 0, 3] (r_v5 V0) slices_S64x512x4_S64x512x1_0_0_3
def r_v13 (V0 : Val F) : (⟨S64x512, .f32⟩ : BufTy).Contents (Elt F) :=
  shapeCast _ (r_v12 V0) shapeCasts_S64x512x1_S64x512
def r_v14 (V0 : Val F) : (⟨S64x1, .f32⟩ : BufTy).Contents (Elt F) :=
  extractStridedSlice S64x1 ![0, 0] (r_v7 V0) slices_S64x512_S64x1_0_0
def r_v15 (V0 : Val F) : (⟨S64, .f32⟩ : BufTy).Contents (Elt F) :=
  shapeCast _ (r_v14 V0) shapeCasts_S64x1_S64
def r_cst (V0 : Val F) : (⟨S_, .f32⟩ : BufTy).Contents (Elt F) :=
  constant S_ .f32 0x00000000#32
def r_v16 (V0 : Val F) : (⟨S64, .f32⟩ : BufTy).Contents (Elt F) :=
  broadcastInDim S64 ![] bcast_S_S64 (r_cst V0)
def r_v17 (V0 : Val F) : (⟨S64, .f32⟩ : BufTy).Contents (Elt F) :=
  subf (r_v15 V0) (r_v16 V0)
def r_v18 (V0 : Val F) : (⟨S512, .i32⟩ : BufTy).Contents (Elt F) :=
  iotaInDim S512 32 0
def r_v19 (V0 : Val F) : (⟨S1x512, .i32⟩ : BufTy).Contents (Elt F) :=
  broadcastInDim S1x512 ![1] bcast_S512_S1x512_1 (r_v18 V0)
def r_v20 (V0 : Val F) : (⟨S64x1, .i32⟩ : BufTy).Contents (Elt F) :=
  broadcastInDim S64x1 ![0] bcast_S64_S64x1_0 (V0 (Proc.devRef .tc main_arg4))
def r_v21 (V0 : Val F) : (⟨S64x512, .i32⟩ : BufTy).Contents (Elt F) :=
  broadcastInDim S64x512 ![0, 1] bcast_S1x512_S64x512_0_1 (r_v19 V0)
def r_v22 (V0 : Val F) : (⟨S64x512, .i32⟩ : BufTy).Contents (Elt F) :=
  broadcastInDim S64x512 ![0, 1] bcast_S64x1_S64x512_0_1 (r_v20 V0)
def r_v23 (V0 : Val F) : (⟨S64x512, .i1⟩ : BufTy).Contents (Elt F) :=
  cmpi .sge (r_v21 V0) (r_v22 V0)
def r_cst_0 (V0 : Val F) : (⟨S_, .f32⟩ : BufTy).Contents (Elt F) :=
  constant S_ .f32 0xFF800000#32
def r_call0_v0 (V0 : Val F) : (⟨S_, .f32⟩ : BufTy).Contents (Elt F) :=
  id (r_cst_0 V0)
def r_call0_v1 (V0 : Val F) : (⟨S512, .f32⟩ : BufTy).Contents (Elt F) :=
  broadcastInDim S512 ![] bcast_S_S512 (r_call0_v0 V0)
def r_call0_v2 (V0 : Val F) : (⟨S64x512, .f32⟩ : BufTy).Contents (Elt F) :=
  broadcastInDim S64x512 ![1] bcast_S512_S64x512_1 (r_call0_v1 V0)
def r_v24 (V0 : Val F) : (⟨S64x512, .f32⟩ : BufTy).Contents (Elt F) :=
  select (r_v23 V0) (r_v7 V0) (r_call0_v2 V0)
def r_values (V0 : Val F) : (⟨S64x3, .f32⟩ : BufTy).Contents (Elt F) :=
  (Host.topK S64x3 1 (FloatOps.cmpfTotal .gt) (r_v24 V0) sliceFits_S64x512_S64x3).1
def r_indices (V0 : Val F) : (⟨S64x3, .i32⟩ : BufTy).Contents (Elt F) :=
  (Host.topK S64x3 1 (FloatOps.cmpfTotal .gt) (r_v24 V0) sliceFits_S64x512_S64x3).2
def r_v25 (V0 : Val F) : (⟨S64x1x20, .i32⟩ : BufTy).Contents (Elt F) :=
  broadcastInDim S64x1x20 ![0, 2] bcast_S64x20_S64x1x20_0_2 (V0 (Proc.devRef .tc main_arg3))
def r_v26 (V0 : Val F) : (⟨S64x3x1, .i32⟩ : BufTy).Contents (Elt F) :=
  broadcastInDim S64x3x1 ![0, 1] bcast_S64x3_S64x3x1_0_1 (r_indices V0)
def r_v27 (V0 : Val F) : (⟨S64x3x20, .i32⟩ : BufTy).Contents (Elt F) :=
  broadcastInDim S64x3x20 ![0, 1, 2] bcast_S64x1x20_S64x3x20_0_1_2 (r_v25 V0)
def r_v28 (V0 : Val F) : (⟨S64x3x20, .i32⟩ : BufTy).Contents (Elt F) :=
  broadcastInDim S64x3x20 ![0, 1, 2] bcast_S64x3x1_S64x3x20_0_1_2 (r_v26 V0)
def r_v29 (V0 : Val F) : (⟨S64x3x20, .i1⟩ : BufTy).Contents (Elt F) :=
  cmpi .sgt (r_v27 V0) (r_v28 V0)
def r_v30 (V0 : Val F) : (⟨S64x1x20, .i32⟩ : BufTy).Contents (Elt F) :=
  broadcastInDim S64x1x20 ![0, 2] bcast_S64x20_S64x1x20_0_2 (V0 (Proc.devRef .tc main_arg3))
def r_c (V0 : Val F) : (⟨S_, .i32⟩ : BufTy).Contents (Elt F) :=
  constantI S_ 32 0#32
def r_v31 (V0 : Val F) : (⟨S64x1x20, .i32⟩ : BufTy).Contents (Elt F) :=
  broadcastInDim S64x1x20 ![] bcast_S_S64x1x20 (r_c V0)
def r_v32 (V0 : Val F) : (⟨S64x1x20, .i1⟩ : BufTy).Contents (Elt F) :=
  cmpi .sle (r_v30 V0) (r_v31 V0)
def r_v33 (V0 : Val F) : (⟨S64x3x20, .i1⟩ : BufTy).Contents (Elt F) :=
  broadcastInDim S64x3x20 ![0, 1, 2] bcast_S64x1x20_S64x3x20_0_1_2 (r_v32 V0)
def r_v34 (V0 : Val F) : (⟨S64x3x20, .i1⟩ : BufTy).Contents (Elt F) :=
  ori (r_v29 V0) (r_v33 V0)
def r_c_1 (V0 : Val F) : (⟨S_, .i1⟩ : BufTy).Contents (Elt F) :=
  constantI S_ 1 0#1
def r_v35 (V0 : Val F) : (⟨S64x3, .i1⟩ : BufTy).Contents (Elt F) :=
  Host.reduce IntOp.ori (r_v34 V0) (r_c_1 V0) reducesTo_S64x3x20_S64x3_d2 h_S_
def r_call1_v0 (V0 : Val F) : (⟨S64x3x20, .i32⟩ : BufTy).Contents (Elt F) :=
  iotaInDim S64x3x20 32 2
def r_call1_c (V0 : Val F) : (⟨S_, .i1⟩ : BufTy).Contents (Elt F) :=
  constantI S_ 1 0#1
def r_call1_c_0 (V0 : Val F) : (⟨S_, .i32⟩ : BufTy).Contents (Elt F) :=
  constantI S_ 32 0#32
def r_call1_v1_0 (V0 : Val F) : (⟨S64x3, .i1⟩ : BufTy).Contents (Elt F) :=
  (fun j => (Host.reduce2 reducer_argmax_i1_i32 (r_v34 V0) (r_call1_v0 V0) (r_call1_c V0) (r_call1_c_0 V0) reducesTo_S64x3x20_S64x3_d2 h_S_ j).1)
def r_v36 (V0 : Val F) : (⟨S64x3, .i32⟩ : BufTy).Contents (Elt F) :=
  (fun j => (Host.reduce2 reducer_argmax_i1_i32 (r_v34 V0) (r_call1_v0 V0) (r_call1_c V0) (r_call1_c_0 V0) reducesTo_S64x3x20_S64x3_d2 h_S_ j).2)
def r_c_2 (V0 : Val F) : (⟨S_, .i32⟩ : BufTy).Contents (Elt F) :=
  constantI S_ 32 19#32
def r_call2_v0 (V0 : Val F) : (⟨S_, .i32⟩ : BufTy).Contents (Elt F) :=
  id (r_c_2 V0)
def r_call2_v1 (V0 : Val F) : (⟨S3, .i32⟩ : BufTy).Contents (Elt F) :=
  broadcastInDim S3 ![] bcast_S_S3 (r_call2_v0 V0)
def r_call2_v2 (V0 : Val F) : (⟨S64x3, .i32⟩ : BufTy).Contents (Elt F) :=
  broadcastInDim S64x3 ![1] bcast_S3_S64x3_1 (r_call2_v1 V0)
def r_v37 (V0 : Val F) : (⟨S64x3, .i32⟩ : BufTy).Contents (Elt F) :=
  select (r_v35 V0) (r_v36 V0) (r_call2_v2 V0)
def r_c_3 (V0 : Val F) : (⟨S_, .i32⟩ : BufTy).Contents (Elt F) :=
  constantI S_ 32 0#32
def r_v38 (V0 : Val F) : (⟨S64x3, .i32⟩ : BufTy).Contents (Elt F) :=
  broadcastInDim S64x3 ![] bcast_S_S64x3 (r_c_3 V0)
def r_v39 (V0 : Val F) : (⟨S64x3, .i1⟩ : BufTy).Contents (Elt F) :=
  cmpi .slt (r_v37 V0) (r_v38 V0)
def r_c_4 (V0 : Val F) : (⟨S_, .i32⟩ : BufTy).Contents (Elt F) :=
  constantI S_ 32 20#32
def r_v40 (V0 : Val F) : (⟨S64x3, .i32⟩ : BufTy).Contents (Elt F) :=
  broadcastInDim S64x3 ![] bcast_S_S64x3 (r_c_4 V0)
def r_v41 (V0 : Val F) : (⟨S64x3, .i32⟩ : BufTy).Contents (Elt F) :=
  addi (r_v37 V0) (r_v40 V0)
def r_v42 (V0 : Val F) : (⟨S64x3, .i32⟩ : BufTy).Contents (Elt F) :=
  select (r_v39 V0) (r_v41 V0) (r_v37 V0)
def r_v43 (V0 : Val F) : (⟨S64x3x1, .i32⟩ : BufTy).Contents (Elt F) :=
  broadcastInDim S64x3x1 ![0, 1] bcast_S64x3_S64x3x1_0_1 (r_v42 V0)
def r_v44 (V0 : Val F) : (⟨S64x3, .i32⟩ : BufTy).Contents (Elt F) :=
  Host.gather gather_S64x20_S64x3x1_S64x3_n_1_0_0_1_2_11 (V0 (Proc.devRef .tc main_arg3)) (r_v43 V0)
def r_v45 (V0 : Val F) : (⟨S64x1, .f32⟩ : BufTy).Contents (Elt F) :=
  broadcastInDim S64x1 ![0] bcast_S64_S64x1_0 (r_v17 V0)
def r_v46 (V0 : Val F) : (⟨S64x3, .f32⟩ : BufTy).Contents (Elt F) :=
  broadcastInDim S64x3 ![0, 1] bcast_S64x1_S64x3_0_1 (r_v45 V0)
def r_v47 (V0 : Val F) : (⟨S64x3, .i1⟩ : BufTy).Contents (Elt F) :=
  cmpf .ogt (r_values V0) (r_v46 V0)
def r_v48 (V0 : Val F) : (⟨S64x3, .i1⟩ : BufTy).Contents (Elt F) :=
  cmpi .sgt (r_v44 V0) (r_indices V0)
def r_v49 (V0 : Val F) : (⟨S64x3, .i1⟩ : BufTy).Contents (Elt F) :=
  andi (r_v47 V0) (r_v48 V0)
def r_v50 (V0 : Val F) : (⟨S64x3, .i32⟩ : BufTy).Contents (Elt F) :=
  extui 32 (r_v49 V0) natLt_1_32
def r_call3_c (V0 : Val F) : (⟨S_, .i32⟩ : BufTy).Contents (Elt F) :=
  constantI S_ 32 2147483647#32
def r_call3_v0 (V0 : Val F) : (⟨S_, .i32⟩ : BufTy).Contents (Elt F) :=
  broadcastInDim S_ ![] bcast_S_S_ (r_call3_c V0)
def r_v51 (V0 : Val F) : (⟨S64x3, .i32⟩ : BufTy).Contents (Elt F) :=
  Host.reduceWindow IntOp.minsi ![1, 3] ![1, 1] ![0, 2] ![0, 0] (r_v50 V0) (r_call3_v0 V0) reduceWindows_S64x3_S64x3_w1s1p0_0_w3s1p2_0 h_S_
def r_c_5 (V0 : Val F) : (⟨S_, .i32⟩ : BufTy).Contents (Elt F) :=
  constantI S_ 32 0#32
def r_v52 (V0 : Val F) : (⟨S64x3, .i32⟩ : BufTy).Contents (Elt F) :=
  broadcastInDim S64x3 ![] bcast_S_S64x3 (r_c_5 V0)
def r_v53 (V0 : Val F) : (⟨S64x3, .i1⟩ : BufTy).Contents (Elt F) :=
  cmpi .sgt (r_v51 V0) (r_v52 V0)
def r_c_6 (V0 : Val F) : (⟨S_, .i32⟩ : BufTy).Contents (Elt F) :=
  constantI S_ 32 10#32
def r_v54 (V0 : Val F) : (⟨S64x3, .i32⟩ : BufTy).Contents (Elt F) :=
  broadcastInDim S64x3 ![] bcast_S_S64x3 (r_c_6 V0)
def r_v55 (V0 : Val F) : (⟨S64x3, .i32⟩ : BufTy).Contents (Elt F) :=
  addi (r_indices V0) (r_v54 V0)
def r_v56 (V0 : Val F) : (⟨S64x3, .i32⟩ : BufTy).Contents (Elt F) :=
  minsi (r_v44 V0) (r_v55 V0)
def r_v57 (V0 : Val F) : (⟨S64x3x1, .i32⟩ : BufTy).Contents (Elt F) :=
  broadcastInDim S64x3x1 ![0, 1] bcast_S64x3_S64x3x1_0_1 (r_indices V0)
def r_v58 (V0 : Val F) : (⟨S10, .i32⟩ : BufTy).Contents (Elt F) :=
  iotaInDim S10 32 0
def r_v59 (V0 : Val F) : (⟨S1x10, .i32⟩ : BufTy).Contents (Elt F) :=
  broadcastInDim S1x10 ![1] bcast_S10_S1x10_1 (r_v58 V0)
def r_v60 (V0 : Val F) : (⟨S1x1x10, .i32⟩ : BufTy).Contents (Elt F) :=
  broadcastInDim S1x1x10 ![1, 2] bcast_S1x10_S1x1x10_1_2 (r_v59 V0)
def r_v61 (V0 : Val F) : (⟨S64x3x10, .i32⟩ : BufTy).Contents (Elt F) :=
  broadcastInDim S64x3x10 ![0, 1, 2] bcast_S64x3x1_S64x3x10_0_1_2 (r_v57 V0)
def r_v62 (V0 : Val F) : (⟨S64x3x10, .i32⟩ : BufTy).Contents (Elt F) :=
  broadcastInDim S64x3x10 ![0, 1, 2] bcast_S1x1x10_S64x3x10_0_1_2 (r_v60 V0)
def r_v63 (V0 : Val F) : (⟨S64x3x10, .i32⟩ : BufTy).Contents (Elt F) :=
  addi (r_v61 V0) (r_v62 V0)
def r_v64 (V0 : Val F) : (⟨S64x3x1, .i32⟩ : BufTy).Contents (Elt F) :=
  broadcastInDim S64x3x1 ![0, 1] bcast_S64x3_S64x3x1_0_1 (r_v56 V0)
def r_v65 (V0 : Val F) : (⟨S64x3x10, .i32⟩ : BufTy).Contents (Elt F) :=
  broadcastInDim S64x3x10 ![0, 1, 2] bcast_S64x3x1_S64x3x10_0_1_2 (r_v64 V0)
def r_v66 (V0 : Val F) : (⟨S64x3x10, .i1⟩ : BufTy).Contents (Elt F) :=
  cmpi .slt (r_v63 V0) (r_v65 V0)
def r_c_7 (V0 : Val F) : (⟨S_, .i32⟩ : BufTy).Contents (Elt F) :=
  constantI S_ 32 0#32
def r_c_8 (V0 : Val F) : (⟨S_, .i32⟩ : BufTy).Contents (Elt F) :=
  constantI S_ 32 511#32
def r_call4_v0 (V0 : Val F) : (⟨S_, .i32⟩ : BufTy).Contents (Elt F) :=
  id (r_c_7 V0)
def r_call4_v1 (V0 : Val F) : (⟨S64x3x10, .i32⟩ : BufTy).Contents (Elt F) :=
  broadcastInDim S64x3x10 ![] bcast_S_S64x3x10 (r_call4_v0 V0)
def r_call4_v2 (V0 : Val F) : (⟨S64x3x10, .i32⟩ : BufTy).Contents (Elt F) :=
  maxsi (r_call4_v1 V0) (r_v63 V0)
def r_call4_v3 (V0 : Val F) : (⟨S_, .i32⟩ : BufTy).Contents (Elt F) :=
  id (r_c_8 V0)
def r_call4_v4 (V0 : Val F) : (⟨S64x3x10, .i32⟩ : BufTy).Contents (Elt F) :=
  broadcastInDim S64x3x10 ![] bcast_S_S64x3x10 (r_call4_v3 V0)
def r_v67 (V0 : Val F) : (⟨S64x3x10, .i32⟩ : BufTy).Contents (Elt F) :=
  minsi (r_call4_v4 V0) (r_call4_v2 V0)
def r_c_9 (V0 : Val F) : (⟨S_, .i32⟩ : BufTy).Contents (Elt F) :=
  constantI S_ 32 0#32
def r_v68 (V0 : Val F) : (⟨S64x3x10, .i32⟩ : BufTy).Contents (Elt F) :=
  broadcastInDim S64x3x10 ![] bcast_S_S64x3x10 (r_c_9 V0)
def r_v69 (V0 : Val F) : (⟨S64x3x10, .i1⟩ : BufTy).Contents (Elt F) :=
  cmpi .slt (r_v67 V0) (r_v68 V0)
def r_c_10 (V0 : Val F) : (⟨S_, .i32⟩ : BufTy).Contents (Elt F) :=
  constantI S_ 32 512#32
def r_v70 (V0 : Val F) : (⟨S64x3x10, .i32⟩ : BufTy).Contents (Elt F) :=
  broadcastInDim S64x3x10 ![] bcast_S_S64x3x10 (r_c_10 V0)
def r_v71 (V0 : Val F) : (⟨S64x3x10, .i32⟩ : BufTy).Contents (Elt F) :=
  addi (r_v67 V0) (r_v70 V0)
def r_v72 (V0 : Val F) : (⟨S64x3x10, .i32⟩ : BufTy).Contents (Elt F) :=
  select (r_v69 V0) (r_v71 V0) (r_v67 V0)
def r_v73 (V0 : Val F) : (⟨S64x3x10x1, .i32⟩ : BufTy).Contents (Elt F) :=
  broadcastInDim S64x3x10x1 ![0, 1, 2] bcast_S64x3x10_S64x3x10x1_0_1_2 (r_v72 V0)
def r_v74 (V0 : Val F) : (⟨S64x3x10, .f32⟩ : BufTy).Contents (Elt F) :=
  Host.gather gather_S64x512_S64x3x10x1_S64x3x10_n_1_0_0_1_3_11 (r_v9 V0) (r_v73 V0)
def r_cst_11 (V0 : Val F) : (⟨S_, .f32⟩ : BufTy).Contents (Elt F) :=
  constant S_ .f32 0xFF800000#32
def r_call5_v0 (V0 : Val F) : (⟨S_, .f32⟩ : BufTy).Contents (Elt F) :=
  id (r_cst_11 V0)
def r_call5_v1 (V0 : Val F) : (⟨S3x10, .f32⟩ : BufTy).Contents (Elt F) :=
  broadcastInDim S3x10 ![] bcast_S_S3x10 (r_call5_v0 V0)
def r_call5_v2 (V0 : Val F) : (⟨S64x3x10, .f32⟩ : BufTy).Contents (Elt F) :=
  broadcastInDim S64x3x10 ![1, 2] bcast_S3x10_S64x3x10_1_2 (r_call5_v1 V0)
def r_v75 (V0 : Val F) : (⟨S64x3x10, .f32⟩ : BufTy).Contents (Elt F) :=
  select (r_v66 V0) (r_v74 V0) (r_call5_v2 V0)
def r_call6_v0 (V0 : Val F) : (⟨S64x3x10, .i32⟩ : BufTy).Contents (Elt F) :=
  iotaInDim S64x3x10 32 2
def r_call6_cst (V0 : Val F) : (⟨S_, .f32⟩ : BufTy).Contents (Elt F) :=
  constant S_ .f32 0xFF800000#32
def r_call6_c (V0 : Val F) : (⟨S_, .i32⟩ : BufTy).Contents (Elt F) :=
  constantI S_ 32 0#32
def r_call6_v1_0 (V0 : Val F) : (⟨S64x3, .f32⟩ : BufTy).Contents (Elt F) :=
  (fun j => (Host.argReduce reducer_argmax_f32_i32 (r_v75 V0) (r_call6_v0 V0) (r_call6_cst V0) (r_call6_c V0) reducesTo_S64x3x10_S64x3_d2 h_S_ j).1)
def r_v76 (V0 : Val F) : (⟨S64x3, .i32⟩ : BufTy).Contents (Elt F) :=
  (fun j => (Host.argReduce reducer_argmax_f32_i32 (r_v75 V0) (r_call6_v0 V0) (r_call6_cst V0) (r_call6_c V0) reducesTo_S64x3x10_S64x3_d2 h_S_ j).2)
def r_v77 (V0 : Val F) : (⟨S64x3, .i32⟩ : BufTy).Contents (Elt F) :=
  addi (r_indices V0) (r_v76 V0)
def r_v78 (V0 : Val F) : (⟨S64x3x1, .i1⟩ : BufTy).Contents (Elt F) :=
  broadcastInDim S64x3x1 ![0, 1] bcast_S64x3_S64x3x1_0_1 (r_v53 V0)
def r_v79 (V0 : Val F) : (⟨S64x3x1, .i32⟩ : BufTy).Contents (Elt F) :=
  broadcastInDim S64x3x1 ![0, 1] bcast_S64x3_S64x3x1_0_1 (r_indices V0)
def r_v80 (V0 : Val F) : (⟨S64x3x1, .i32⟩ : BufTy).Contents (Elt F) :=
  broadcastInDim S64x3x1 ![0, 1] bcast_S64x3_S64x3x1_0_1 (r_v77 V0)
def r_v81 (V0 : Val F) : (⟨S64x3x1, .i32⟩ : BufTy).Contents (Elt F) :=
  broadcastInDim S64x3x1 ![0, 1] bcast_S64x3_S64x3x1_0_1 (r_v37 V0)
def r_v82 (V0 : Val F) : (⟨S64x3x3, .i32⟩ : BufTy).Contents (Elt F) :=
  (concatenate S64x3x3 2 [⟨S64x3x1, ((r_v79 V0) : (⟨S64x3x1, .i32⟩ : BufTy).Contents (Elt F))⟩, ⟨S64x3x1, ((r_v80 V0) : (⟨S64x3x1, .i32⟩ : BufTy).Contents (Elt F))⟩, ⟨S64x3x1, ((r_v81 V0) : (⟨S64x3x1, .i32⟩ : BufTy).Contents (Elt F))⟩] concatenates_S64x3x1_S64x3x1_S64x3x1_S64x3x3_d2 : (⟨S64x3x3, .i32⟩ : BufTy).Contents (Elt F))
def r_c_12 (V0 : Val F) : (⟨S_, .i32⟩ : BufTy).Contents (Elt F) :=
  constantI S_ 32 0#32
def r_call7_v0 (V0 : Val F) : (⟨S_, .i32⟩ : BufTy).Contents (Elt F) :=
  id (r_c_12 V0)
def r_call7_v1 (V0 : Val F) : (⟨S64x3x3, .i1⟩ : BufTy).Contents (Elt F) :=
  broadcastInDim S64x3x3 ![0, 1, 2] bcast_S64x3x1_S64x3x3_0_1_2 (r_v78 V0)
def r_call7_v2 (V0 : Val F) : (⟨S3x3, .i32⟩ : BufTy).Contents (Elt F) :=
  broadcastInDim S3x3 ![] bcast_S_S3x3 (r_call7_v0 V0)
def r_call7_v3 (V0 : Val F) : (⟨S64x3x3, .i32⟩ : BufTy).Contents (Elt F) :=
  broadcastInDim S64x3x3 ![1, 2] bcast_S3x3_S64x3x3_1_2 (r_call7_v2 V0)
def r_v83 (V0 : Val F) : (⟨S64x3x3, .i32⟩ : BufTy).Contents (Elt F) :=
  select (r_call7_v1 V0) (r_v82 V0) (r_call7_v3 V0)
def r_v84 (V0 : Val F) : (⟨S64x3, .i1⟩ : BufTy).Contents (Elt F) :=
  noti (r_v49 V0)
def r_call8_v0 (V0 : Val F) : (⟨S64x3, .i32⟩ : BufTy).Contents (Elt F) :=
  iotaInDim S64x3 32 1
def r_call8_c (V0 : Val F) : (⟨S_, .i1⟩ : BufTy).Contents (Elt F) :=
  constantI S_ 1 0#1
def r_call8_c_0 (V0 : Val F) : (⟨S_, .i32⟩ : BufTy).Contents (Elt F) :=
  constantI S_ 32 0#32
def r_call8_v1_0 (V0 : Val F) : (⟨S64, .i1⟩ : BufTy).Contents (Elt F) :=
  (fun j => (Host.reduce2 reducer_argmax_i1_i32 (r_v84 V0) (r_call8_v0 V0) (r_call8_c V0) (r_call8_c_0 V0) reducesTo_S64x3_S64_d1 h_S_ j).1)
def r_v85 (V0 : Val F) : (⟨S64, .i32⟩ : BufTy).Contents (Elt F) :=
  (fun j => (Host.reduce2 reducer_argmax_i1_i32 (r_v84 V0) (r_call8_v0 V0) (r_call8_c V0) (r_call8_c_0 V0) reducesTo_S64x3_S64_d1 h_S_ j).2)
def r_v86 (V0 : Val F) : (⟨S3, .i32⟩ : BufTy).Contents (Elt F) :=
  iotaInDim S3 32 0
def r_v87 (V0 : Val F) : (⟨S1x3, .i32⟩ : BufTy).Contents (Elt F) :=
  broadcastInDim S1x3 ![1] bcast_S3_S1x3_1 (r_v86 V0)
def r_v88 (V0 : Val F) : (⟨S64x1, .i32⟩ : BufTy).Contents (Elt F) :=
  broadcastInDim S64x1 ![0] bcast_S64_S64x1_0 (r_v85 V0)
def r_v89 (V0 : Val F) : (⟨S64x3, .i32⟩ : BufTy).Contents (Elt F) :=
  broadcastInDim S64x3 ![0, 1] bcast_S1x3_S64x3_0_1 (r_v87 V0)
def r_v90 (V0 : Val F) : (⟨S64x3, .i32⟩ : BufTy).Contents (Elt F) :=
  broadcastInDim S64x3 ![0, 1] bcast_S64x1_S64x3_0_1 (r_v88 V0)
def r_v91 (V0 : Val F) : (⟨S64x3, .i1⟩ : BufTy).Contents (Elt F) :=
  cmpi .eq (r_v89 V0) (r_v90 V0)
def r_v92 (V0 : Val F) : (⟨S64x3, .i1⟩ : BufTy).Contents (Elt F) :=
  noti (r_v49 V0)
def r_c_13 (V0 : Val F) : (⟨S_, .i1⟩ : BufTy).Contents (Elt F) :=
  constantI S_ 1 0#1
def r_v93 (V0 : Val F) : (⟨S64, .i1⟩ : BufTy).Contents (Elt F) :=
  Host.reduce IntOp.ori (r_v92 V0) (r_c_13 V0) reducesTo_S64x3_S64_d1 h_S_
def r_v94 (V0 : Val F) : (⟨S64x3, .i1⟩ : BufTy).Contents (Elt F) :=
  andi (r_v91 V0) (r_v47 V0)
def r_c_14 (V0 : Val F) : (⟨S_, .i1⟩ : BufTy).Contents (Elt F) :=
  constantI S_ 1 0#1
def r_v95 (V0 : Val F) : (⟨S64, .i1⟩ : BufTy).Contents (Elt F) :=
  Host.reduce IntOp.ori (r_v94 V0) (r_c_14 V0) reducesTo_S64x3_S64_d1 h_S_
def r_v96 (V0 : Val F) : (⟨S64, .i1⟩ : BufTy).Contents (Elt F) :=
  noti (r_v95 V0)
def r_v97 (V0 : Val F) : (⟨S64, .i1⟩ : BufTy).Contents (Elt F) :=
  andi (r_v93 V0) (r_v96 V0)
def r_v98 (V0 : Val F) : (⟨S64x1, .f32⟩ : BufTy).Contents (Elt F) :=
  extractStridedSlice S64x1 ![0, 0] (r_v7 V0) slices_S64x512_S64x1_0_0
def r_v99 (V0 : Val F) : (⟨S64, .f32⟩ : BufTy).Contents (Elt F) :=
  shapeCast _ (r_v98 V0) shapeCasts_S64x1_S64
def r_cst_15 (V0 : Val F) : (⟨S_, .f32⟩ : BufTy).Contents (Elt F) :=
  constant S_ .f32 0x00000000#32
def r_call9_v0 (V0 : Val F) : (⟨S_, .f32⟩ : BufTy).Contents (Elt F) :=
  id (r_cst_15 V0)
def r_call9_v1 (V0 : Val F) : (⟨S3, .f32⟩ : BufTy).Contents (Elt F) :=
  broadcastInDim S3 ![] bcast_S_S3 (r_call9_v0 V0)
def r_call9_v2 (V0 : Val F) : (⟨S64x3, .f32⟩ : BufTy).Contents (Elt F) :=
  broadcastInDim S64x3 ![1] bcast_S3_S64x3_1 (r_call9_v1 V0)
def r_v100 (V0 : Val F) : (⟨S64x3, .f32⟩ : BufTy).Contents (Elt F) :=
  select (r_v91 V0) (r_values V0) (r_call9_v2 V0)
def r_cst_16 (V0 : Val F) : (⟨S_, .f32⟩ : BufTy).Contents (Elt F) :=
  constant S_ .f32 0x00000000#32
def r_v101 (V0 : Val F) : (⟨S64, .f32⟩ : BufTy).Contents (Elt F) :=
  Host.reduceAdd (r_v100 V0) (r_cst_16 V0) reducesTo_S64x3_S64_d1 h_S_
def r_v102 (V0 : Val F) : (⟨S64, .f32⟩ : BufTy).Contents (Elt F) :=
  subf (r_v99 V0) (r_v101 V0)
def r_cst_17 (V0 : Val F) : (⟨S_, .f32⟩ : BufTy).Contents (Elt F) :=
  constant S_ .f32 0x00000000#32
def r_call10_v0 (V0 : Val F) : (⟨S_, .f32⟩ : BufTy).Contents (Elt F) :=
  id (r_cst_17 V0)
def r_call10_v1 (V0 : Val F) : (⟨S64, .f32⟩ : BufTy).Contents (Elt F) :=
  broadcastInDim S64 ![] bcast_S_S64 (r_call10_v0 V0)
def r_v103 (V0 : Val F) : (⟨S64, .f32⟩ : BufTy).Contents (Elt F) :=
  select (r_v97 V0) (r_v102 V0) (r_call10_v1 V0)
def r_v104 (V0 : Val F) : (⟨S64x1, .i32⟩ : BufTy).Contents (Elt F) :=
  extractStridedSlice S64x1 ![0, 0] (V0 (Proc.devRef .tc main_arg3)) slices_S64x20_S64x1_0_0
def r_v105 (V0 : Val F) : (⟨S64, .i32⟩ : BufTy).Contents (Elt F) :=
  shapeCast _ (r_v104 V0) shapeCasts_S64x1_S64
def r_c_18 (V0 : Val F) : (⟨S_, .i32⟩ : BufTy).Contents (Elt F) :=
  constantI S_ 32 0#32
def r_v106 (V0 : Val F) : (⟨S64, .i32⟩ : BufTy).Contents (Elt F) :=
  broadcastInDim S64 ![] bcast_S_S64 (r_c_18 V0)
def r_v107 (V0 : Val F) : (⟨S64, .i1⟩ : BufTy).Contents (Elt F) :=
  cmpi .sgt (r_v105 V0) (r_v106 V0)
def r_c_19 (V0 : Val F) : (⟨S_, .i32⟩ : BufTy).Contents (Elt F) :=
  constantI S_ 32 0#32
def r_call11_v0 (V0 : Val F) : (⟨S_, .i32⟩ : BufTy).Contents (Elt F) :=
  id (r_c_19 V0)
def r_call11_v1 (V0 : Val F) : (⟨S3x3, .i32⟩ : BufTy).Contents (Elt F) :=
  broadcastInDim S3x3 ![] bcast_S_S3x3 (r_call11_v0 V0)
def r_call11_v2 (V0 : Val F) : (⟨S64x3x3, .i32⟩ : BufTy).Contents (Elt F) :=
  broadcastInDim S64x3x3 ![1, 2] bcast_S3x3_S64x3x3_1_2 (r_call11_v1 V0)
def r_call11_v3 (V0 : Val F) : (⟨S64x3x3, .i1⟩ : BufTy).Contents (Elt F) :=
  broadcastInDim S64x3x3 ![0] bcast_S64_S64x3x3_0 (r_v107 V0)
def r_cst_20 (V0 : Val F) : (⟨S_, .f32⟩ : BufTy).Contents (Elt F) :=
  constant S_ .f32 0x00000000#32
def r_call12_v0 (V0 : Val F) : (⟨S_, .f32⟩ : BufTy).Contents (Elt F) :=
  id (r_cst_20 V0)
def r_call12_v1 (V0 : Val F) : (⟨S64, .f32⟩ : BufTy).Contents (Elt F) :=
  broadcastInDim S64 ![] bcast_S_S64 (r_call12_v0 V0)
def r_v109 (V0 : Val F) : (⟨S64, .f32⟩ : BufTy).Contents (Elt F) :=
  select (r_v107 V0) (r_v103 V0) (r_call12_v1 V0)
def r_v110 (V0 : Val F) : (⟨S64x1, .f32⟩ : BufTy).Contents (Elt F) :=
  extractStridedSlice S64x1 ![0, 0] (r_v11 V0) slices_S64x512_S64x1_0_0
def r_v111 (V0 : Val F) : (⟨S64, .f32⟩ : BufTy).Contents (Elt F) :=
  shapeCast _ (r_v110 V0) shapeCasts_S64x1_S64
def r_cst_21 (V0 : Val F) : (⟨S_, .f32⟩ : BufTy).Contents (Elt F) :=
  constant S_ .f32 0x00000000#32
def r_v112 (V0 : Val F) : (⟨S64, .f32⟩ : BufTy).Contents (Elt F) :=
  broadcastInDim S64 ![] bcast_S_S64 (r_cst_21 V0)
def r_v113 (V0 : Val F) : (⟨S64, .f32⟩ : BufTy).Contents (Elt F) :=
  subf (r_v111 V0) (r_v112 V0)
def r_v114 (V0 : Val F) : (⟨S512, .i32⟩ : BufTy).Contents (Elt F) :=
  iotaInDim S512 32 0
def r_v115 (V0 : Val F) : (⟨S1x512, .i32⟩ : BufTy).Contents (Elt F) :=
  broadcastInDim S1x512 ![1] bcast_S512_S1x512_1 (r_v114 V0)
def r_v116 (V0 : Val F) : (⟨S64x1, .i32⟩ : BufTy).Contents (Elt F) :=
  broadcastInDim S64x1 ![0] bcast_S64_S64x1_0 (V0 (Proc.devRef .tc main_arg4))
def r_v117 (V0 : Val F) : (⟨S64x512, .i32⟩ : BufTy).Contents (Elt F) :=
  broadcastInDim S64x512 ![0, 1] bcast_S1x512_S64x512_0_1 (r_v115 V0)
def r_v118 (V0 : Val F) : (⟨S64x512, .i32⟩ : BufTy).Contents (Elt F) :=
  broadcastInDim S64x512 ![0, 1] bcast_S64x1_S64x512_0_1 (r_v116 V0)
def r_v119 (V0 : Val F) : (⟨S64x512, .i1⟩ : BufTy).Contents (Elt F) :=
  cmpi .sge (r_v117 V0) (r_v118 V0)
def r_cst_22 (V0 : Val F) : (⟨S_, .f32⟩ : BufTy).Contents (Elt F) :=
  constant S_ .f32 0xFF800000#32
def r_call13_v0 (V0 : Val F) : (⟨S_, .f32⟩ : BufTy).Contents (Elt F) :=
  id (r_cst_22 V0)
def r_call13_v1 (V0 : Val F) : (⟨S512, .f32⟩ : BufTy).Contents (Elt F) :=
  broadcastInDim S512 ![] bcast_S_S512 (r_call13_v0 V0)
def r_call13_v2 (V0 : Val F) : (⟨S64x512, .f32⟩ : BufTy).Contents (Elt F) :=
  broadcastInDim S64x512 ![1] bcast_S512_S64x512_1 (r_call13_v1 V0)
def r_v120 (V0 : Val F) : (⟨S64x512, .f32⟩ : BufTy).Contents (Elt F) :=
  select (r_v119 V0) (r_v11 V0) (r_call13_v2 V0)
def r_values_23 (V0 : Val F) : (⟨S64x1, .f32⟩ : BufTy).Contents (Elt F) :=
  (Host.topK S64x1 1 (FloatOps.cmpfTotal .gt) (r_v120 V0) sliceFits_S64x512_S64x1).1
def r_indices_24 (V0 : Val F) : (⟨S64x1, .i32⟩ : BufTy).Contents (Elt F) :=
  (Host.topK S64x1 1 (FloatOps.cmpfTotal .gt) (r_v120 V0) sliceFits_S64x512_S64x1).2
def r_v121 (V0 : Val F) : (⟨S64x1x20, .i32⟩ : BufTy).Contents (Elt F) :=
  broadcastInDim S64x1x20 ![0, 2] bcast_S64x20_S64x1x20_0_2 (V0 (Proc.devRef .tc main_arg3))
def r_v122 (V0 : Val F) : (⟨S64x1x1, .i32⟩ : BufTy).Contents (Elt F) :=
  broadcastInDim S64x1x1 ![0, 1] bcast_S64x1_S64x1x1_0_1 (r_indices_24 V0)
def r_v123 (V0 : Val F) : (⟨S64x1x20, .i32⟩ : BufTy).Contents (Elt F) :=
  broadcastInDim S64x1x20 ![0, 1, 2] bcast_S64x1x1_S64x1x20_0_1_2 (r_v122 V0)
def r_v124 (V0 : Val F) : (⟨S64x1x20, .i1⟩ : BufTy).Contents (Elt F) :=
  cmpi .sgt (r_v121 V0) (r_v123 V0)
def r_v125 (V0 : Val F) : (⟨S64x1x20, .i32⟩ : BufTy).Contents (Elt F) :=
  broadcastInDim S64x1x20 ![0, 2] bcast_S64x20_S64x1x20_0_2 (V0 (Proc.devRef .tc main_arg3))
def r_c_25 (V0 : Val F) : (⟨S_, .i32⟩ : BufTy).Contents (Elt F) :=
  constantI S_ 32 0#32
def r_v126 (V0 : Val F) : (⟨S64x1x20, .i32⟩ : BufTy).Contents (Elt F) :=
  broadcastInDim S64x1x20 ![] bcast_S_S64x1x20 (r_c_25 V0)
def r_v127 (V0 : Val F) : (⟨S64x1x20, .i1⟩ : BufTy).Contents (Elt F) :=
  cmpi .sle (r_v125 V0) (r_v126 V0)
def r_v128 (V0 : Val F) : (⟨S64x1x20, .i1⟩ : BufTy).Contents (Elt F) :=
  ori (r_v124 V0) (r_v127 V0)
def r_c_26 (V0 : Val F) : (⟨S_, .i1⟩ : BufTy).Contents (Elt F) :=
  constantI S_ 1 0#1
def r_v129 (V0 : Val F) : (⟨S64x1, .i1⟩ : BufTy).Contents (Elt F) :=
  Host.reduce IntOp.ori (r_v128 V0) (r_c_26 V0) reducesTo_S64x1x20_S64x1_d2 h_S_
def r_call14_v0 (V0 : Val F) : (⟨S64x1x20, .i32⟩ : BufTy).Contents (Elt F) :=
  iotaInDim S64x1x20 32 2
def r_call14_c (V0 : Val F) : (⟨S_, .i1⟩ : BufTy).Contents (Elt F) :=
  constantI S_ 1 0#1
def r_call14_c_0 (V0 : Val F) : (⟨S_, .i32⟩ : BufTy).Contents (Elt F) :=
  constantI S_ 32 0#32
def r_call14_v1_0 (V0 : Val F) : (⟨S64x1, .i1⟩ : BufTy).Contents (Elt F) :=
  (fun j => (Host.reduce2 reducer_argmax_i1_i32 (r_v128 V0) (r_call14_v0 V0) (r_call14_c V0) (r_call14_c_0 V0) reducesTo_S64x1x20_S64x1_d2 h_S_ j).1)
def r_v130 (V0 : Val F) : (⟨S64x1, .i32⟩ : BufTy).Contents (Elt F) :=
  (fun j => (Host.reduce2 reducer_argmax_i1_i32 (r_v128 V0) (r_call14_v0 V0) (r_call14_c V0) (r_call14_c_0 V0) reducesTo_S64x1x20_S64x1_d2 h_S_ j).2)
def r_c_27 (V0 : Val F) : (⟨S_, .i32⟩ : BufTy).Contents (Elt F) :=
  constantI S_ 32 19#32
def r_call15_v0 (V0 : Val F) : (⟨S_, .i32⟩ : BufTy).Contents (Elt F) :=
  id (r_c_27 V0)
def r_call15_v1 (V0 : Val F) : (⟨S1, .i32⟩ : BufTy).Contents (Elt F) :=
  broadcastInDim S1 ![] bcast_S_S1 (r_call15_v0 V0)
def r_call15_v2 (V0 : Val F) : (⟨S64x1, .i32⟩ : BufTy).Contents (Elt F) :=
  broadcastInDim S64x1 ![1] bcast_S1_S64x1_1 (r_call15_v1 V0)
def r_v131 (V0 : Val F) : (⟨S64x1, .i32⟩ : BufTy).Contents (Elt F) :=
  select (r_v129 V0) (r_v130 V0) (r_call15_v2 V0)
def r_c_28 (V0 : Val F) : (⟨S_, .i32⟩ : BufTy).Contents (Elt F) :=
  constantI S_ 32 0#32
def r_v132 (V0 : Val F) : (⟨S64x1, .i32⟩ : BufTy).Contents (Elt F) :=
  broadcastInDim S64x1 ![] bcast_S_S64x1 (r_c_28 V0)
def r_v133 (V0 : Val F) : (⟨S64x1, .i1⟩ : BufTy).Contents (Elt F) :=
  cmpi .slt (r_v131 V0) (r_v132 V0)
def r_c_29 (V0 : Val F) : (⟨S_, .i32⟩ : BufTy).Contents (Elt F) :=
  constantI S_ 32 20#32
def r_v134 (V0 : Val F) : (⟨S64x1, .i32⟩ : BufTy).Contents (Elt F) :=
  broadcastInDim S64x1 ![] bcast_S_S64x1 (r_c_29 V0)
def r_v135 (V0 : Val F) : (⟨S64x1, .i32⟩ : BufTy).Contents (Elt F) :=
  addi (r_v131 V0) (r_v134 V0)
def r_v136 (V0 : Val F) : (⟨S64x1, .i32⟩ : BufTy).Contents (Elt F) :=
  select (r_v133 V0) (r_v135 V0) (r_v131 V0)
def r_v137 (V0 : Val F) : (⟨S64x1x1, .i32⟩ : BufTy).Contents (Elt F) :=
  broadcastInDim S64x1x1 ![0, 1] bcast_S64x1_S64x1x1_0_1 (r_v136 V0)
def r_v138 (V0 : Val F) : (⟨S64x1, .i32⟩ : BufTy).Contents (Elt F) :=
  Host.gather gather_S64x20_S64x1x1_S64x1_n_1_0_0_1_2_11 (V0 (Proc.devRef .tc main_arg3)) (r_v137 V0)
def r_v139 (V0 : Val F) : (⟨S64x1, .f32⟩ : BufTy).Contents (Elt F) :=
  broadcastInDim S64x1 ![0] bcast_S64_S64x1_0 (r_v113 V0)
def r_v140 (V0 : Val F) : (⟨S64x1, .i1⟩ : BufTy).Contents (Elt F) :=
  cmpf .ogt (r_values_23 V0) (r_v139 V0)
def r_v141 (V0 : Val F) : (⟨S64x1, .i1⟩ : BufTy).Contents (Elt F) :=
  cmpi .sgt (r_v138 V0) (r_indices_24 V0)
def r_v142 (V0 : Val F) : (⟨S64x1, .i1⟩ : BufTy).Contents (Elt F) :=
  andi (r_v140 V0) (r_v141 V0)
def r_v143 (V0 : Val F) : (⟨S64x1, .i32⟩ : BufTy).Contents (Elt F) :=
  extui 32 (r_v142 V0) natLt_1_32
def r_call16_c (V0 : Val F) : (⟨S_, .i32⟩ : BufTy).Contents (Elt F) :=
  constantI S_ 32 2147483647#32
def r_call16_v0 (V0 : Val F) : (⟨S_, .i32⟩ : BufTy).Contents (Elt F) :=
  broadcastInDim S_ ![] bcast_S_S_ (r_call16_c V0)
def r_v144 (V0 : Val F) : (⟨S64x1, .i32⟩ : BufTy).Contents (Elt F) :=
  Host.reduceWindow IntOp.minsi ![1, 1] ![1, 1] ![0, 0] ![0, 0] (r_v143 V0) (r_call16_v0 V0) reduceWindows_S64x1_S64x1_w1s1p0_0_w1s1p0_0 h_S_
def r_c_30 (V0 : Val F) : (⟨S_, .i32⟩ : BufTy).Contents (Elt F) :=
  constantI S_ 32 0#32
def r_v145 (V0 : Val F) : (⟨S64x1, .i32⟩ : BufTy).Contents (Elt F) :=
  broadcastInDim S64x1 ![] bcast_S_S64x1 (r_c_30 V0)
def r_v146 (V0 : Val F) : (⟨S64x1, .i1⟩ : BufTy).Contents (Elt F) :=
  cmpi .sgt (r_v144 V0) (r_v145 V0)
def r_c_31 (V0 : Val F) : (⟨S_, .i32⟩ : BufTy).Contents (Elt F) :=
  constantI S_ 32 10#32
def r_v147 (V0 : Val F) : (⟨S64x1, .i32⟩ : BufTy).Contents (Elt F) :=
  broadcastInDim S64x1 ![] bcast_S_S64x1 (r_c_31 V0)
def r_v148 (V0 : Val F) : (⟨S64x1, .i32⟩ : BufTy).Contents (Elt F) :=
  addi (r_indices_24 V0) (r_v147 V0)
def r_v149 (V0 : Val F) : (⟨S64x1, .i32⟩ : BufTy).Contents (Elt F) :=
  minsi (r_v138 V0) (r_v148 V0)
def r_v150 (V0 : Val F) : (⟨S64x1x1, .i32⟩ : BufTy).Contents (Elt F) :=
  broadcastInDim S64x1x1 ![0, 1] bcast_S64x1_S64x1x1_0_1 (r_indices_24 V0)
def r_v151 (V0 : Val F) : (⟨S10, .i32⟩ : BufTy).Contents (Elt F) :=
  iotaInDim S10 32 0
def r_v152 (V0 : Val F) : (⟨S1x10, .i32⟩ : BufTy).Contents (Elt F) :=
  broadcastInDim S1x10 ![1] bcast_S10_S1x10_1 (r_v151 V0)
def r_v153 (V0 : Val F) : (⟨S1x1x10, .i32⟩ : BufTy).Contents (Elt F) :=
  broadcastInDim S1x1x10 ![1, 2] bcast_S1x10_S1x1x10_1_2 (r_v152 V0)
def r_v154 (V0 : Val F) : (⟨S64x1x10, .i32⟩ : BufTy).Contents (Elt F) :=
  broadcastInDim S64x1x10 ![0, 1, 2] bcast_S64x1x1_S64x1x10_0_1_2 (r_v150 V0)
def r_v155 (V0 : Val F) : (⟨S64x1x10, .i32⟩ : BufTy).Contents (Elt F) :=
  broadcastInDim S64x1x10 ![0, 1, 2] bcast_S1x1x10_S64x1x10_0_1_2 (r_v153 V0)
def r_v156 (V0 : Val F) : (⟨S64x1x10, .i32⟩ : BufTy).Contents (Elt F) :=
  addi (r_v154 V0) (r_v155 V0)
def r_v157 (V0 : Val F) : (⟨S64x1x1, .i32⟩ : BufTy).Contents (Elt F) :=
  broadcastInDim S64x1x1 ![0, 1] bcast_S64x1_S64x1x1_0_1 (r_v149 V0)
def r_v158 (V0 : Val F) : (⟨S64x1x10, .i32⟩ : BufTy).Contents (Elt F) :=
  broadcastInDim S64x1x10 ![0, 1, 2] bcast_S64x1x1_S64x1x10_0_1_2 (r_v157 V0)
def r_v159 (V0 : Val F) : (⟨S64x1x10, .i1⟩ : BufTy).Contents (Elt F) :=
  cmpi .slt (r_v156 V0) (r_v158 V0)
def r_c_32 (V0 : Val F) : (⟨S_, .i32⟩ : BufTy).Contents (Elt F) :=
  constantI S_ 32 0#32
def r_c_33 (V0 : Val F) : (⟨S_, .i32⟩ : BufTy).Contents (Elt F) :=
  constantI S_ 32 511#32
def r_call17_v0 (V0 : Val F) : (⟨S_, .i32⟩ : BufTy).Contents (Elt F) :=
  id (r_c_32 V0)
def r_call17_v1 (V0 : Val F) : (⟨S64x1x10, .i32⟩ : BufTy).Contents (Elt F) :=
  broadcastInDim S64x1x10 ![] bcast_S_S64x1x10 (r_call17_v0 V0)
def r_call17_v2 (V0 : Val F) : (⟨S64x1x10, .i32⟩ : BufTy).Contents (Elt F) :=
  maxsi (r_call17_v1 V0) (r_v156 V0)
def r_call17_v3 (V0 : Val F) : (⟨S_, .i32⟩ : BufTy).Contents (Elt F) :=
  id (r_c_33 V0)
def r_call17_v4 (V0 : Val F) : (⟨S64x1x10, .i32⟩ : BufTy).Contents (Elt F) :=
  broadcastInDim S64x1x10 ![] bcast_S_S64x1x10 (r_call17_v3 V0)
def r_v160 (V0 : Val F) : (⟨S64x1x10, .i32⟩ : BufTy).Contents (Elt F) :=
  minsi (r_call17_v4 V0) (r_call17_v2 V0)
def r_c_34 (V0 : Val F) : (⟨S_, .i32⟩ : BufTy).Contents (Elt F) :=
  constantI S_ 32 0#32
def r_v161 (V0 : Val F) : (⟨S64x1x10, .i32⟩ : BufTy).Contents (Elt F) :=
  broadcastInDim S64x1x10 ![] bcast_S_S64x1x10 (r_c_34 V0)
def r_v162 (V0 : Val F) : (⟨S64x1x10, .i1⟩ : BufTy).Contents (Elt F) :=
  cmpi .slt (r_v160 V0) (r_v161 V0)
def r_c_35 (V0 : Val F) : (⟨S_, .i32⟩ : BufTy).Contents (Elt F) :=
  constantI S_ 32 512#32
def r_v163 (V0 : Val F) : (⟨S64x1x10, .i32⟩ : BufTy).Contents (Elt F) :=
  broadcastInDim S64x1x10 ![] bcast_S_S64x1x10 (r_c_35 V0)
def r_v164 (V0 : Val F) : (⟨S64x1x10, .i32⟩ : BufTy).Contents (Elt F) :=
  addi (r_v160 V0) (r_v163 V0)
def r_v165 (V0 : Val F) : (⟨S64x1x10, .i32⟩ : BufTy).Contents (Elt F) :=
  select (r_v162 V0) (r_v164 V0) (r_v160 V0)
def r_v166 (V0 : Val F) : (⟨S64x1x10x1, .i32⟩ : BufTy).Contents (Elt F) :=
  broadcastInDim S64x1x10x1 ![0, 1, 2] bcast_S64x1x10_S64x1x10x1_0_1_2 (r_v165 V0)
def r_v167 (V0 : Val F) : (⟨S64x1x10, .f32⟩ : BufTy).Contents (Elt F) :=
  Host.gather gather_S64x512_S64x1x10x1_S64x1x10_n_1_0_0_1_3_11 (r_v13 V0) (r_v166 V0)
def r_cst_36 (V0 : Val F) : (⟨S_, .f32⟩ : BufTy).Contents (Elt F) :=
  constant S_ .f32 0xFF800000#32
def r_call18_v0 (V0 : Val F) : (⟨S_, .f32⟩ : BufTy).Contents (Elt F) :=
  id (r_cst_36 V0)
def r_call18_v1 (V0 : Val F) : (⟨S1x10, .f32⟩ : BufTy).Contents (Elt F) :=
  broadcastInDim S1x10 ![] bcast_S_S1x10 (r_call18_v0 V0)
def r_call18_v2 (V0 : Val F) : (⟨S64x1x10, .f32⟩ : BufTy).Contents (Elt F) :=
  broadcastInDim S64x1x10 ![1, 2] bcast_S1x10_S64x1x10_1_2 (r_call18_v1 V0)
def r_v168 (V0 : Val F) : (⟨S64x1x10, .f32⟩ : BufTy).Contents (Elt F) :=
  select (r_v159 V0) (r_v167 V0) (r_call18_v2 V0)
def r_call19_v0 (V0 : Val F) : (⟨S64x1x10, .i32⟩ : BufTy).Contents (Elt F) :=
  iotaInDim S64x1x10 32 2
def r_call19_cst (V0 : Val F) : (⟨S_, .f32⟩ : BufTy).Contents (Elt F) :=
  constant S_ .f32 0xFF800000#32
def r_call19_c (V0 : Val F) : (⟨S_, .i32⟩ : BufTy).Contents (Elt F) :=
  constantI S_ 32 0#32
def r_call19_v1_0 (V0 : Val F) : (⟨S64x1, .f32⟩ : BufTy).Contents (Elt F) :=
  (fun j => (Host.argReduce reducer_argmax_f32_i32 (r_v168 V0) (r_call19_v0 V0) (r_call19_cst V0) (r_call19_c V0) reducesTo_S64x1x10_S64x1_d2 h_S_ j).1)
def r_v169 (V0 : Val F) : (⟨S64x1, .i32⟩ : BufTy).Contents (Elt F) :=
  (fun j => (Host.argReduce reducer_argmax_f32_i32 (r_v168 V0) (r_call19_v0 V0) (r_call19_cst V0) (r_call19_c V0) reducesTo_S64x1x10_S64x1_d2 h_S_ j).2)
def r_v170 (V0 : Val F) : (⟨S64x1, .i32⟩ : BufTy).Contents (Elt F) :=
  addi (r_indices_24 V0) (r_v169 V0)
def r_v171 (V0 : Val F) : (⟨S64x1x1, .i1⟩ : BufTy).Contents (Elt F) :=
  broadcastInDim S64x1x1 ![0, 1] bcast_S64x1_S64x1x1_0_1 (r_v146 V0)
def r_v172 (V0 : Val F) : (⟨S64x1x1, .i32⟩ : BufTy).Contents (Elt F) :=
  broadcastInDim S64x1x1 ![0, 1] bcast_S64x1_S64x1x1_0_1 (r_indices_24 V0)
def r_v173 (V0 : Val F) : (⟨S64x1x1, .i32⟩ : BufTy).Contents (Elt F) :=
  broadcastInDim S64x1x1 ![0, 1] bcast_S64x1_S64x1x1_0_1 (r_v170 V0)
def r_v174 (V0 : Val F) : (⟨S64x1x1, .i32⟩ : BufTy).Contents (Elt F) :=
  broadcastInDim S64x1x1 ![0, 1] bcast_S64x1_S64x1x1_0_1 (r_v131 V0)
def r_v175 (V0 : Val F) : (⟨S64x1x3, .i32⟩ : BufTy).Contents (Elt F) :=
  (concatenate S64x1x3 2 [⟨S64x1x1, ((r_v172 V0) : (⟨S64x1x1, .i32⟩ : BufTy).Contents (Elt F))⟩, ⟨S64x1x1, ((r_v173 V0) : (⟨S64x1x1, .i32⟩ : BufTy).Contents (Elt F))⟩, ⟨S64x1x1, ((r_v174 V0) : (⟨S64x1x1, .i32⟩ : BufTy).Contents (Elt F))⟩] concatenates_S64x1x1_S64x1x1_S64x1x1_S64x1x3_d2 : (⟨S64x1x3, .i32⟩ : BufTy).Contents (Elt F))
def r_c_37 (V0 : Val F) : (⟨S_, .i32⟩ : BufTy).Contents (Elt F) :=
  constantI S_ 32 0#32
def r_call20_v0 (V0 : Val F) : (⟨S_, .i32⟩ : BufTy).Contents (Elt F) :=
  id (r_c_37 V0)
def r_call20_v1 (V0 : Val F) : (⟨S64x1x3, .i1⟩ : BufTy).Contents (Elt F) :=
  broadcastInDim S64x1x3 ![0, 1, 2] bcast_S64x1x1_S64x1x3_0_1_2 (r_v171 V0)
def r_call20_v2 (V0 : Val F) : (⟨S1x3, .i32⟩ : BufTy).Contents (Elt F) :=
  broadcastInDim S1x3 ![] bcast_S_S1x3 (r_call20_v0 V0)
def r_call20_v3 (V0 : Val F) : (⟨S64x1x3, .i32⟩ : BufTy).Contents (Elt F) :=
  broadcastInDim S64x1x3 ![1, 2] bcast_S1x3_S64x1x3_1_2 (r_call20_v2 V0)
def r_v176 (V0 : Val F) : (⟨S64x1x3, .i32⟩ : BufTy).Contents (Elt F) :=
  select (r_call20_v1 V0) (r_v175 V0) (r_call20_v3 V0)
def r_v177 (V0 : Val F) : (⟨S64x1, .i1⟩ : BufTy).Contents (Elt F) :=
  noti (r_v142 V0)
def r_call21_v0 (V0 : Val F) : (⟨S64x1, .i32⟩ : BufTy).Contents (Elt F) :=
  iotaInDim S64x1 32 1
def r_call21_c (V0 : Val F) : (⟨S_, .i1⟩ : BufTy).Contents (Elt F) :=
  constantI S_ 1 0#1
def r_call21_c_0 (V0 : Val F) : (⟨S_, .i32⟩ : BufTy).Contents (Elt F) :=
  constantI S_ 32 0#32
def r_call21_v1_0 (V0 : Val F) : (⟨S64, .i1⟩ : BufTy).Contents (Elt F) :=
  (fun j => (Host.reduce2 reducer_argmax_i1_i32 (r_v177 V0) (r_call21_v0 V0) (r_call21_c V0) (r_call21_c_0 V0) reducesTo_S64x1_S64_d1 h_S_ j).1)
def r_v178 (V0 : Val F) : (⟨S64, .i32⟩ : BufTy).Contents (Elt F) :=
  (fun j => (Host.reduce2 reducer_argmax_i1_i32 (r_v177 V0) (r_call21_v0 V0) (r_call21_c V0) (r_call21_c_0 V0) reducesTo_S64x1_S64_d1 h_S_ j).2)
def r_v179 (V0 : Val F) : (⟨S1, .i32⟩ : BufTy).Contents (Elt F) :=
  iotaInDim S1 32 0
def r_v180 (V0 : Val F) : (⟨S1x1, .i32⟩ : BufTy).Contents (Elt F) :=
  broadcastInDim S1x1 ![1] bcast_S1_S1x1_1 (r_v179 V0)
def r_v181 (V0 : Val F) : (⟨S64x1, .i32⟩ : BufTy).Contents (Elt F) :=
  broadcastInDim S64x1 ![0] bcast_S64_S64x1_0 (r_v178 V0)
def r_v182 (V0 : Val F) : (⟨S64x1, .i32⟩ : BufTy).Contents (Elt F) :=
  broadcastInDim S64x1 ![0, 1] bcast_S1x1_S64x1_0_1 (r_v180 V0)
def r_v183 (V0 : Val F) : (⟨S64x1, .i1⟩ : BufTy).Contents (Elt F) :=
  cmpi .eq (r_v182 V0) (r_v181 V0)
def r_v184 (V0 : Val F) : (⟨S64x1, .i1⟩ : BufTy).Contents (Elt F) :=
  noti (r_v142 V0)
def r_c_38 (V0 : Val F) : (⟨S_, .i1⟩ : BufTy).Contents (Elt F) :=
  constantI S_ 1 0#1
def r_v185 (V0 : Val F) : (⟨S64, .i1⟩ : BufTy).Contents (Elt F) :=
  Host.reduce IntOp.ori (r_v184 V0) (r_c_38 V0) reducesTo_S64x1_S64_d1 h_S_
def r_v186 (V0 : Val F) : (⟨S64x1, .i1⟩ : BufTy).Contents (Elt F) :=
  andi (r_v183 V0) (r_v140 V0)
def r_c_39 (V0 : Val F) : (⟨S_, .i1⟩ : BufTy).Contents (Elt F) :=
  constantI S_ 1 0#1
def r_v187 (V0 : Val F) : (⟨S64, .i1⟩ : BufTy).Contents (Elt F) :=
  Host.reduce IntOp.ori (r_v186 V0) (r_c_39 V0) reducesTo_S64x1_S64_d1 h_S_
def r_v188 (V0 : Val F) : (⟨S64, .i1⟩ : BufTy).Contents (Elt F) :=
  noti (r_v187 V0)
def r_v189 (V0 : Val F) : (⟨S64, .i1⟩ : BufTy).Contents (Elt F) :=
  andi (r_v185 V0) (r_v188 V0)
def r_v190 (V0 : Val F) : (⟨S64x1, .f32⟩ : BufTy).Contents (Elt F) :=
  extractStridedSlice S64x1 ![0, 0] (r_v11 V0) slices_S64x512_S64x1_0_0
def r_v191 (V0 : Val F) : (⟨S64, .f32⟩ : BufTy).Contents (Elt F) :=
  shapeCast _ (r_v190 V0) shapeCasts_S64x1_S64
def r_cst_40 (V0 : Val F) : (⟨S_, .f32⟩ : BufTy).Contents (Elt F) :=
  constant S_ .f32 0x00000000#32
def r_call22_v0 (V0 : Val F) : (⟨S_, .f32⟩ : BufTy).Contents (Elt F) :=
  id (r_cst_40 V0)
def r_call22_v1 (V0 : Val F) : (⟨S1, .f32⟩ : BufTy).Contents (Elt F) :=
  broadcastInDim S1 ![] bcast_S_S1 (r_call22_v0 V0)
def r_call22_v2 (V0 : Val F) : (⟨S64x1, .f32⟩ : BufTy).Contents (Elt F) :=
  broadcastInDim S64x1 ![1] bcast_S1_S64x1_1 (r_call22_v1 V0)
def r_v192 (V0 : Val F) : (⟨S64x1, .f32⟩ : BufTy).Contents (Elt F) :=
  select (r_v183 V0) (r_values_23 V0) (r_call22_v2 V0)
def r_cst_41 (V0 : Val F) : (⟨S_, .f32⟩ : BufTy).Contents (Elt F) :=
  constant S_ .f32 0x00000000#32
def r_v193 (V0 : Val F) : (⟨S64, .f32⟩ : BufTy).Contents (Elt F) :=
  Host.reduceAdd (r_v192 V0) (r_cst_41 V0) reducesTo_S64x1_S64_d1 h_S_
def r_v194 (V0 : Val F) : (⟨S64, .f32⟩ : BufTy).Contents (Elt F) :=
  subf (r_v191 V0) (r_v193 V0)
def r_cst_42 (V0 : Val F) : (⟨S_, .f32⟩ : BufTy).Contents (Elt F) :=
  constant S_ .f32 0x00000000#32
def r_call23_v0 (V0 : Val F) : (⟨S_, .f32⟩ : BufTy).Contents (Elt F) :=
  id (r_cst_42 V0)
def r_call23_v1 (V0 : Val F) : (⟨S64, .f32⟩ : BufTy).Contents (Elt F) :=
  broadcastInDim S64 ![] bcast_S_S64 (r_call23_v0 V0)
def r_v195 (V0 : Val F) : (⟨S64, .f32⟩ : BufTy).Contents (Elt F) :=
  select (r_v189 V0) (r_v194 V0) (r_call23_v1 V0)
def r_v196 (V0 : Val F) : (⟨S64x1, .i32⟩ : BufTy).Contents (Elt F) :=
  extractStridedSlice S64x1 ![0, 0] (V0 (Proc.devRef .tc main_arg3)) slices_S64x20_S64x1_0_0
def r_v197 (V0 : Val F) : (⟨S64, .i32⟩ : BufTy).Contents (Elt F) :=
  shapeCast _ (r_v196 V0) shapeCasts_S64x1_S64
def r_c_43 (V0 : Val F) : (⟨S_, .i32⟩ : BufTy).Contents (Elt F) :=
  constantI S_ 32 0#32
def r_v198 (V0 : Val F) : (⟨S64, .i32⟩ : BufTy).Contents (Elt F) :=
  broadcastInDim S64 ![] bcast_S_S64 (r_c_43 V0)
def r_v199 (V0 : Val F) : (⟨S64, .i1⟩ : BufTy).Contents (Elt F) :=
  cmpi .sgt (r_v197 V0) (r_v198 V0)
def r_c_44 (V0 : Val F) : (⟨S_, .i32⟩ : BufTy).Contents (Elt F) :=
  constantI S_ 32 0#32
def r_call24_v0 (V0 : Val F) : (⟨S_, .i32⟩ : BufTy).Contents (Elt F) :=
  id (r_c_44 V0)
def r_call24_v1 (V0 : Val F) : (⟨S1x3, .i32⟩ : BufTy).Contents (Elt F) :=
  broadcastInDim S1x3 ![] bcast_S_S1x3 (r_call24_v0 V0)
def r_call24_v2 (V0 : Val F) : (⟨S64x1x3, .i32⟩ : BufTy).Contents (Elt F) :=
  broadcastInDim S64x1x3 ![1, 2] bcast_S1x3_S64x1x3_1_2 (r_call24_v1 V0)
def r_call24_v3 (V0 : Val F) : (⟨S64x1x3, .i1⟩ : BufTy).Contents (Elt F) :=
  broadcastInDim S64x1x3 ![0] bcast_S64_S64x1x3_0 (r_v199 V0)
def r_cst_45 (V0 : Val F) : (⟨S_, .f32⟩ : BufTy).Contents (Elt F) :=
  constant S_ .f32 0x00000000#32
def r_call25_v0 (V0 : Val F) : (⟨S_, .f32⟩ : BufTy).Contents (Elt F) :=
  id (r_cst_45 V0)
def r_call25_v1 (V0 : Val F) : (⟨S64, .f32⟩ : BufTy).Contents (Elt F) :=
  broadcastInDim S64 ![] bcast_S_S64 (r_call25_v0 V0)
def r_v201 (V0 : Val F) : (⟨S64, .f32⟩ : BufTy).Contents (Elt F) :=
  select (r_v199 V0) (r_v195 V0) (r_call25_v1 V0)
def r_v1 (V0 : Val F) : (⟨S64x1024, .f32⟩ : BufTy).Contents (Elt F) :=
  shapeCast _ (r_v0 V0) shapeCasts_S64x1x1024_S64x1024
def r_v200 (V0 : Val F) : (⟨S64x1x3, .i32⟩ : BufTy).Contents (Elt F) :=
  select (r_call24_v3 V0) (r_v176 V0) (r_call24_v2 V0)
def r_v108 (V0 : Val F) : (⟨S64x3x3, .i32⟩ : BufTy).Contents (Elt F) :=
  select (r_call11_v3 V0) (r_v83 V0) (r_call11_v2 V0)

end Cert.ReferenceIdeal.Value

end
-- ==== Proof.RefRunA.lean ====
/- The reference run through its first windows: after each of them every buffer still needed holds the value RefTerms names. -/
module

public import proofs.«01_k».proof.Proof.RefTerms

@[expose] public section

set_option maxRecDepth 16384
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

variable (V0 : Val F)

/-- The device's buffer contents before @main's first window. -/
def val0 (V0 : Val F) : Val F := V0
theorem val0_main_arg0 : val0 V0 (no_index (Proc.devRef .tc main_arg0)) = V0 (Proc.devRef .tc main_arg0) := rfl
theorem val0_main_arg1 : val0 V0 (no_index (Proc.devRef .tc main_arg1)) = V0 (Proc.devRef .tc main_arg1) := rfl
theorem val0_main_arg2 : val0 V0 (no_index (Proc.devRef .tc main_arg2)) = V0 (Proc.devRef .tc main_arg2) := rfl
theorem val0_main_arg3 : val0 V0 (no_index (Proc.devRef .tc main_arg3)) = V0 (Proc.devRef .tc main_arg3) := rfl
theorem val0_main_arg4 : val0 V0 (no_index (Proc.devRef .tc main_arg4)) = V0 (Proc.devRef .tc main_arg4) := rfl
theorem val0_main_arg5 : val0 V0 (no_index (Proc.devRef .tc main_arg5)) = V0 (Proc.devRef .tc main_arg5) := rfl
theorem val0_main_arg6 : val0 V0 (no_index (Proc.devRef .tc main_arg6)) = V0 (Proc.devRef .tc main_arg6) := rfl
theorem val0_main_arg7 : val0 V0 (no_index (Proc.devRef .tc main_arg7)) = V0 (Proc.devRef .tc main_arg7) := rfl
theorem val0_main_arg8 : val0 V0 (no_index (Proc.devRef .tc main_arg8)) = V0 (Proc.devRef .tc main_arg8) := rfl

/-- The device's buffer contents after @main's first 30 operations. -/
def val0_1 (V0 : Val F) : Val F := after ops_part0_0 (val0 V0)
/-- The buffers that window `ops_part0_0`'s operations write. -/
abbrev ops_part0_0_W : List (Ref sig .tc) := [main_v0, main_v1, main_v2, main_v3, main_v4, main_v5, main_v6, main_v7, main_v8, main_v9, main_v10, main_v11, main_v12, main_v13, main_v14, main_v15, main_cst, main_v16, main_v17, main_v18, main_v19, main_v20, main_v21, main_v22, main_v23, main_cst_0, main_call0_v0, main_call0_v1, main_call0_v2, main_v24]
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Val F) (r : Ref sig .tc) (h : r ∉ ops_part0_0_W) :
    val0_1 V0 (Proc.devRef .tc r) = val0 V0 (Proc.devRef .tc r) :=
  after_of_writes_sub ops_part0_0 _ ops_part0_0_writes h
theorem val0_1_main_arg0 : val0_1 V0 (no_index (Proc.devRef .tc main_arg0)) = V0 (Proc.devRef .tc main_arg0) :=
  (val0_1_keep V0 main_arg0 (by decide)).trans (val0_main_arg0 V0)
theorem val0_1_main_arg1 : val0_1 V0 (no_index (Proc.devRef .tc main_arg1)) = V0 (Proc.devRef .tc main_arg1) :=
  (val0_1_keep V0 main_arg1 (by decide)).trans (val0_main_arg1 V0)
theorem val0_1_main_arg2 : val0_1 V0 (no_index (Proc.devRef .tc main_arg2)) = V0 (Proc.devRef .tc main_arg2) :=
  (val0_1_keep V0 main_arg2 (by decide)).trans (val0_main_arg2 V0)
theorem val0_1_main_arg3 : val0_1 V0 (no_index (Proc.devRef .tc main_arg3)) = V0 (Proc.devRef .tc main_arg3) :=
  (val0_1_keep V0 main_arg3 (by decide)).trans (val0_main_arg3 V0)
theorem val0_1_main_arg4 : val0_1 V0 (no_index (Proc.devRef .tc main_arg4)) = V0 (Proc.devRef .tc main_arg4) :=
  (val0_1_keep V0 main_arg4 (by decide)).trans (val0_main_arg4 V0)
theorem val0_1_main_arg5 : val0_1 V0 (no_index (Proc.devRef .tc main_arg5)) = V0 (Proc.devRef .tc main_arg5) :=
  (val0_1_keep V0 main_arg5 (by decide)).trans (val0_main_arg5 V0)
theorem val0_1_main_arg6 : val0_1 V0 (no_index (Proc.devRef .tc main_arg6)) = V0 (Proc.devRef .tc main_arg6) :=
  (val0_1_keep V0 main_arg6 (by decide)).trans (val0_main_arg6 V0)
theorem val0_1_main_arg7 : val0_1 V0 (no_index (Proc.devRef .tc main_arg7)) = V0 (Proc.devRef .tc main_arg7) :=
  (val0_1_keep V0 main_arg7 (by decide)).trans (val0_main_arg7 V0)
theorem val0_1_main_arg8 : val0_1 V0 (no_index (Proc.devRef .tc main_arg8)) = V0 (Proc.devRef .tc main_arg8) :=
  (val0_1_keep V0 main_arg8 (by decide)).trans (val0_main_arg8 V0)
theorem val0_1_main_v1 : val0_1 V0 (no_index (Proc.devRef .tc main_v1)) = r_v1 V0 := by
  unfold val0_1
  simp only [ops_part0_0, TRef.ternary, TRef.unary, TRef.toBuf, TRef.ofBuf, cast_eq]
  after_results_simp
  simp only [val0_main_arg0] <;> rfl
theorem val0_1_main_v7 : val0_1 V0 (no_index (Proc.devRef .tc main_v7)) = r_v7 V0 := by
  unfold val0_1
  simp only [ops_part0_0, TRef.ternary, TRef.unary, TRef.toBuf, TRef.ofBuf, cast_eq]
  after_results_simp
  simp only [val0_main_arg2, val0_main_arg1, val0_main_arg0] <;> rfl
theorem val0_1_main_v9 : val0_1 V0 (no_index (Proc.devRef .tc main_v9)) = r_v9 V0 := by
  unfold val0_1
  simp only [ops_part0_0, TRef.ternary, TRef.unary, TRef.toBuf, TRef.ofBuf, cast_eq]
  after_results_simp
  simp only [val0_main_arg2, val0_main_arg1, val0_main_arg0] <;> rfl
theorem val0_1_main_v11 : val0_1 V0 (no_index (Proc.devRef .tc main_v11)) = r_v11 V0 := by
  unfold val0_1
  simp only [ops_part0_0, TRef.ternary, TRef.unary, TRef.toBuf, TRef.ofBuf, cast_eq]
  after_results_simp
  simp only [val0_main_arg2, val0_main_arg1, val0_main_arg0] <;> rfl
theorem val0_1_main_v13 : val0_1 V0 (no_index (Proc.devRef .tc main_v13)) = r_v13 V0 := by
  unfold val0_1
  simp only [ops_part0_0, TRef.ternary, TRef.unary, TRef.toBuf, TRef.ofBuf, cast_eq]
  after_results_simp
  simp only [val0_main_arg2, val0_main_arg1, val0_main_arg0] <;> rfl
theorem val0_1_main_v17 : val0_1 V0 (no_index (Proc.devRef .tc main_v17)) = r_v17 V0 := by
  unfold val0_1
  simp only [ops_part0_0, TRef.ternary, TRef.unary, TRef.toBuf, TRef.ofBuf, cast_eq]
  after_results_simp
  simp only [val0_main_arg2, val0_main_arg1, val0_main_arg0] <;> rfl
theorem val0_1_main_v24 : val0_1 V0 (no_index (Proc.devRef .tc main_v24)) = r_v24 V0 := by
  unfold val0_1
  simp only [ops_part0_0, TRef.ternary, TRef.unary, TRef.toBuf, TRef.ofBuf, cast_eq]
  after_results_simp
  simp only [val0_main_arg2, val0_main_arg1, val0_main_arg0, val0_main_arg4] <;> rfl

/-- The device's buffer contents after @main's first 60 operations. -/
def val0_2 (V0 : Val F) : Val F := after ops_part0_1 (val0_1 V0)
/-- The buffers that window `ops_part0_1`'s operations write. -/
abbrev ops_part0_1_W : List (Ref sig .tc) := [main_values, main_indices, main_v25, main_v26, main_v27, main_v28, main_v29, main_v30, main_c, main_v31, main_v32, main_v33, main_v34, main_c_1, main_v35, main_call1_v0, main_call1_c, main_call1_c_0, main_call1_v1_0, main_v36, main_c_2, main_call2_v0, main_call2_v1, main_call2_v2, main_v37, main_c_3, main_v38, main_v39, main_c_4, main_v40]
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Val F) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 : val0_2 V0 (no_index (Proc.devRef .tc main_arg0)) = V0 (Proc.devRef .tc main_arg0) :=
  (val0_2_keep V0 main_arg0 (by decide)).trans (val0_1_main_arg0 V0)
theorem val0_2_main_arg1 : val0_2 V0 (no_index (Proc.devRef .tc main_arg1)) = V0 (Proc.devRef .tc main_arg1) :=
  (val0_2_keep V0 main_arg1 (by decide)).trans (val0_1_main_arg1 V0)
theorem val0_2_main_arg2 : val0_2 V0 (no_index (Proc.devRef .tc main_arg2)) = V0 (Proc.devRef .tc main_arg2) :=
  (val0_2_keep V0 main_arg2 (by decide)).trans (val0_1_main_arg2 V0)
theorem val0_2_main_arg3 : val0_2 V0 (no_index (Proc.devRef .tc main_arg3)) = V0 (Proc.devRef .tc main_arg3) :=
  (val0_2_keep V0 main_arg3 (by decide)).trans (val0_1_main_arg3 V0)
theorem val0_2_main_arg4 : val0_2 V0 (no_index (Proc.devRef .tc main_arg4)) = V0 (Proc.devRef .tc main_arg4) :=
  (val0_2_keep V0 main_arg4 (by decide)).trans (val0_1_main_arg4 V0)
theorem val0_2_main_arg5 : val0_2 V0 (no_index (Proc.devRef .tc main_arg5)) = V0 (Proc.devRef .tc main_arg5) :=
  (val0_2_keep V0 main_arg5 (by decide)).trans (val0_1_main_arg5 V0)
theorem val0_2_main_arg6 : val0_2 V0 (no_index (Proc.devRef .tc main_arg6)) = V0 (Proc.devRef .tc main_arg6) :=
  (val0_2_keep V0 main_arg6 (by decide)).trans (val0_1_main_arg6 V0)
theorem val0_2_main_arg7 : val0_2 V0 (no_index (Proc.devRef .tc main_arg7)) = V0 (Proc.devRef .tc main_arg7) :=
  (val0_2_keep V0 main_arg7 (by decide)).trans (val0_1_main_arg7 V0)
theorem val0_2_main_arg8 : val0_2 V0 (no_index (Proc.devRef .tc main_arg8)) = V0 (Proc.devRef .tc main_arg8) :=
  (val0_2_keep V0 main_arg8 (by decide)).trans (val0_1_main_arg8 V0)
theorem val0_2_main_v1 : val0_2 V0 (no_index (Proc.devRef .tc main_v1)) = r_v1 V0 :=
  (val0_2_keep V0 main_v1 (by decide)).trans (val0_1_main_v1 V0)
theorem val0_2_main_v7 : val0_2 V0 (no_index (Proc.devRef .tc main_v7)) = r_v7 V0 :=
  (val0_2_keep V0 main_v7 (by decide)).trans (val0_1_main_v7 V0)
theorem val0_2_main_v9 : val0_2 V0 (no_index (Proc.devRef .tc main_v9)) = r_v9 V0 :=
  (val0_2_keep V0 main_v9 (by decide)).trans (val0_1_main_v9 V0)
theorem val0_2_main_v11 : val0_2 V0 (no_index (Proc.devRef .tc main_v11)) = r_v11 V0 :=
  (val0_2_keep V0 main_v11 (by decide)).trans (val0_1_main_v11 V0)
theorem val0_2_main_v13 : val0_2 V0 (no_index (Proc.devRef .tc main_v13)) = r_v13 V0 :=
  (val0_2_keep V0 main_v13 (by decide)).trans (val0_1_main_v13 V0)
theorem val0_2_main_v17 : val0_2 V0 (no_index (Proc.devRef .tc main_v17)) = r_v17 V0 :=
  (val0_2_keep V0 main_v17 (by decide)).trans (val0_1_main_v17 V0)
theorem val0_2_main_values : val0_2 V0 (no_index (Proc.devRef .tc main_values)) = r_values V0 := by
  unfold val0_2
  simp only [ops_part0_1, TRef.nullary, TRef.quaternary, TRef.ternary, TRef.unary, TRef.toBuf, TRef.ofBuf, cast_eq]
  after_results_simp
  simp only [val0_1_main_v24] <;> rfl
theorem val0_2_main_indices : val0_2 V0 (no_index (Proc.devRef .tc main_indices)) = r_indices V0 := by
  unfold val0_2
  simp only [ops_part0_1, TRef.nullary, TRef.quaternary, TRef.ternary, TRef.unary, TRef.toBuf, TRef.ofBuf, cast_eq]
  after_results_simp
  simp only [val0_1_main_v24] <;> rfl
theorem val0_2_main_v37 : val0_2 V0 (no_index (Proc.devRef .tc main_v37)) = r_v37 V0 := by
  unfold val0_2
  simp only [ops_part0_1, TRef.nullary, TRef.quaternary, TRef.ternary, TRef.unary, TRef.toBuf, TRef.ofBuf, cast_eq]
  after_results_simp
  simp only [val0_1_main_arg3, val0_1_main_v24] <;> rfl
theorem val0_2_main_v39 : val0_2 V0 (no_index (Proc.devRef .tc main_v39)) = r_v39 V0 := by
  unfold val0_2
  simp only [ops_part0_1, TRef.nullary, TRef.quaternary, TRef.ternary, TRef.unary, TRef.toBuf, TRef.ofBuf, cast_eq]
  after_results_simp
  simp only [val0_1_main_arg3, val0_1_main_v24] <;> rfl
theorem val0_2_main_v40 : val0_2 V0 (no_index (Proc.devRef .tc main_v40)) = r_v40 V0 := by
  unfold val0_2
  simp only [ops_part0_1, TRef.nullary, TRef.quaternary, TRef.ternary, TRef.unary, TRef.toBuf, TRef.ofBuf, cast_eq]
  after_results_simp
  all_goals rfl

/-- The device's buffer contents after @main's first 1 window. -/
def val1 (V0 : Val F) : Val F := after ops_part0_2 (val0_2 V0)
/-- The buffers that window `ops_part0_2`'s operations write. -/
abbrev ops_part0_2_W : List (Ref sig .tc) := [main_v41, main_v42, main_v43, main_v44, main_v45, main_v46, main_v47, main_v48, main_v49, main_v50]
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Val F) (r : Ref sig .tc) (h : r ∉ ops_part0_2_W) :
    val1 V0 (Proc.devRef .tc r) = val0_2 V0 (Proc.devRef .tc r) :=
  after_of_writes_sub ops_part0_2 _ ops_part0_2_writes h
theorem val1_main_arg0 : val1 V0 (no_index (Proc.devRef .tc main_arg0)) = V0 (Proc.devRef .tc main_arg0) :=
  (val1_keep V0 main_arg0 (by decide)).trans (val0_2_main_arg0 V0)
theorem val1_main_arg1 : val1 V0 (no_index (Proc.devRef .tc main_arg1)) = V0 (Proc.devRef .tc main_arg1) :=
  (val1_keep V0 main_arg1 (by decide)).trans (val0_2_main_arg1 V0)
theorem val1_main_arg2 : val1 V0 (no_index (Proc.devRef .tc main_arg2)) = V0 (Proc.devRef .tc main_arg2) :=
  (val1_keep V0 main_arg2 (by decide)).trans (val0_2_main_arg2 V0)
theorem val1_main_arg3 : val1 V0 (no_index (Proc.devRef .tc main_arg3)) = V0 (Proc.devRef .tc main_arg3) :=
  (val1_keep V0 main_arg3 (by decide)).trans (val0_2_main_arg3 V0)
theorem val1_main_arg4 : val1 V0 (no_index (Proc.devRef .tc main_arg4)) = V0 (Proc.devRef .tc main_arg4) :=
  (val1_keep V0 main_arg4 (by decide)).trans (val0_2_main_arg4 V0)
theorem val1_main_arg5 : val1 V0 (no_index (Proc.devRef .tc main_arg5)) = V0 (Proc.devRef .tc main_arg5) :=
  (val1_keep V0 main_arg5 (by decide)).trans (val0_2_main_arg5 V0)
theorem val1_main_arg6 : val1 V0 (no_index (Proc.devRef .tc main_arg6)) = V0 (Proc.devRef .tc main_arg6) :=
  (val1_keep V0 main_arg6 (by decide)).trans (val0_2_main_arg6 V0)
theorem val1_main_arg7 : val1 V0 (no_index (Proc.devRef .tc main_arg7)) = V0 (Proc.devRef .tc main_arg7) :=
  (val1_keep V0 main_arg7 (by decide)).trans (val0_2_main_arg7 V0)
theorem val1_main_arg8 : val1 V0 (no_index (Proc.devRef .tc main_arg8)) = V0 (Proc.devRef .tc main_arg8) :=
  (val1_keep V0 main_arg8 (by decide)).trans (val0_2_main_arg8 V0)
theorem val1_main_v1 : val1 V0 (no_index (Proc.devRef .tc main_v1)) = r_v1 V0 :=
  (val1_keep V0 main_v1 (by decide)).trans (val0_2_main_v1 V0)
theorem val1_main_v7 : val1 V0 (no_index (Proc.devRef .tc main_v7)) = r_v7 V0 :=
  (val1_keep V0 main_v7 (by decide)).trans (val0_2_main_v7 V0)
theorem val1_main_v9 : val1 V0 (no_index (Proc.devRef .tc main_v9)) = r_v9 V0 :=
  (val1_keep V0 main_v9 (by decide)).trans (val0_2_main_v9 V0)
theorem val1_main_v11 : val1 V0 (no_index (Proc.devRef .tc main_v11)) = r_v11 V0 :=
  (val1_keep V0 main_v11 (by decide)).trans (val0_2_main_v11 V0)
theorem val1_main_v13 : val1 V0 (no_index (Proc.devRef .tc main_v13)) = r_v13 V0 :=
  (val1_keep V0 main_v13 (by decide)).trans (val0_2_main_v13 V0)
theorem val1_main_values : val1 V0 (no_index (Proc.devRef .tc main_values)) = r_values V0 :=
  (val1_keep V0 main_values (by decide)).trans (val0_2_main_values V0)
theorem val1_main_indices : val1 V0 (no_index (Proc.devRef .tc main_indices)) = r_indices V0 :=
  (val1_keep V0 main_indices (by decide)).trans (val0_2_main_indices V0)
theorem val1_main_v37 : val1 V0 (no_index (Proc.devRef .tc main_v37)) = r_v37 V0 :=
  (val1_keep V0 main_v37 (by decide)).trans (val0_2_main_v37 V0)
theorem val1_main_v44 : val1 V0 (no_index (Proc.devRef .tc main_v44)) = r_v44 V0 := by
  unfold val1
  simp only [ops_part0_2]
  after_results_simp
  simp only [val0_2_main_v37, val0_2_main_v40, val0_2_main_v39, val0_2_main_arg3] <;> rfl
theorem val1_main_v47 : val1 V0 (no_index (Proc.devRef .tc main_v47)) = r_v47 V0 := by
  unfold val1
  simp only [ops_part0_2]
  after_results_simp
  simp only [val0_2_main_v17, val0_2_main_values] <;> rfl
theorem val1_main_v49 : val1 V0 (no_index (Proc.devRef .tc main_v49)) = r_v49 V0 := by
  unfold val1
  simp only [ops_part0_2]
  after_results_simp
  simp only [val0_2_main_indices, val0_2_main_v37, val0_2_main_v40, val0_2_main_v39, val0_2_main_arg3, val0_2_main_v17, val0_2_main_values] <;> rfl
theorem val1_main_v50 : val1 V0 (no_index (Proc.devRef .tc main_v50)) = r_v50 V0 := by
  unfold val1
  simp only [ops_part0_2]
  after_results_simp
  simp only [val0_2_main_indices, val0_2_main_v37, val0_2_main_v40, val0_2_main_v39, val0_2_main_arg3, val0_2_main_v17, val0_2_main_values] <;> rfl

/-- The device's buffer contents after @main's first 100 operations. -/
def val1_1 (V0 : Val F) : Val F := after ops_part1_0 (val1 V0)
/-- The buffers that window `ops_part1_0`'s operations write. -/
abbrev ops_part1_0_W : List (Ref sig .tc) := [main_call3_c, main_call3_v0, main_v51, main_c_5, main_v52, main_v53, main_c_6, main_v54, main_v55, main_v56, main_v57, main_v58, main_v59, main_v60, main_v61, main_v62, main_v63, main_v64, main_v65, main_v66, main_c_7, main_c_8, main_call4_v0, main_call4_v1, main_call4_v2, main_call4_v3, main_call4_v4, main_v67, main_c_9, main_v68]
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Val F) (r : Ref sig .tc) (h : r ∉ ops_part1_0_W) :
    val1_1 V0 (Proc.devRef .tc r) = val1 V0 (Proc.devRef .tc r) :=
  after_of_writes_sub ops_part1_0 _ ops_part1_0_writes h
theorem val1_1_main_arg0 : val1_1 V0 (no_index (Proc.devRef .tc main_arg0)) = V0 (Proc.devRef .tc main_arg0) :=
  (val1_1_keep V0 main_arg0 (by decide)).trans (val1_main_arg0 V0)
theorem val1_1_main_arg1 : val1_1 V0 (no_index (Proc.devRef .tc main_arg1)) = V0 (Proc.devRef .tc main_arg1) :=
  (val1_1_keep V0 main_arg1 (by decide)).trans (val1_main_arg1 V0)
theorem val1_1_main_arg2 : val1_1 V0 (no_index (Proc.devRef .tc main_arg2)) = V0 (Proc.devRef .tc main_arg2) :=
  (val1_1_keep V0 main_arg2 (by decide)).trans (val1_main_arg2 V0)
theorem val1_1_main_arg3 : val1_1 V0 (no_index (Proc.devRef .tc main_arg3)) = V0 (Proc.devRef .tc main_arg3) :=
  (val1_1_keep V0 main_arg3 (by decide)).trans (val1_main_arg3 V0)
theorem val1_1_main_arg4 : val1_1 V0 (no_index (Proc.devRef .tc main_arg4)) = V0 (Proc.devRef .tc main_arg4) :=
  (val1_1_keep V0 main_arg4 (by decide)).trans (val1_main_arg4 V0)
theorem val1_1_main_arg5 : val1_1 V0 (no_index (Proc.devRef .tc main_arg5)) = V0 (Proc.devRef .tc main_arg5) :=
  (val1_1_keep V0 main_arg5 (by decide)).trans (val1_main_arg5 V0)
theorem val1_1_main_arg6 : val1_1 V0 (no_index (Proc.devRef .tc main_arg6)) = V0 (Proc.devRef .tc main_arg6) :=
  (val1_1_keep V0 main_arg6 (by decide)).trans (val1_main_arg6 V0)
theorem val1_1_main_arg7 : val1_1 V0 (no_index (Proc.devRef .tc main_arg7)) = V0 (Proc.devRef .tc main_arg7) :=
  (val1_1_keep V0 main_arg7 (by decide)).trans (val1_main_arg7 V0)
theorem val1_1_main_arg8 : val1_1 V0 (no_index (Proc.devRef .tc main_arg8)) = V0 (Proc.devRef .tc main_arg8) :=
  (val1_1_keep V0 main_arg8 (by decide)).trans (val1_main_arg8 V0)
theorem val1_1_main_v1 : val1_1 V0 (no_index (Proc.devRef .tc main_v1)) = r_v1 V0 :=
  (val1_1_keep V0 main_v1 (by decide)).trans (val1_main_v1 V0)
theorem val1_1_main_v7 : val1_1 V0 (no_index (Proc.devRef .tc main_v7)) = r_v7 V0 :=
  (val1_1_keep V0 main_v7 (by decide)).trans (val1_main_v7 V0)
theorem val1_1_main_v9 : val1_1 V0 (no_index (Proc.devRef .tc main_v9)) = r_v9 V0 :=
  (val1_1_keep V0 main_v9 (by decide)).trans (val1_main_v9 V0)
theorem val1_1_main_v11 : val1_1 V0 (no_index (Proc.devRef .tc main_v11)) = r_v11 V0 :=
  (val1_1_keep V0 main_v11 (by decide)).trans (val1_main_v11 V0)
theorem val1_1_main_v13 : val1_1 V0 (no_index (Proc.devRef .tc main_v13)) = r_v13 V0 :=
  (val1_1_keep V0 main_v13 (by decide)).trans (val1_main_v13 V0)
theorem val1_1_main_values : val1_1 V0 (no_index (Proc.devRef .tc main_values)) = r_values V0 :=
  (val1_1_keep V0 main_values (by decide)).trans (val1_main_values V0)
theorem val1_1_main_indices : val1_1 V0 (no_index (Proc.devRef .tc main_indices)) = r_indices V0 :=
  (val1_1_keep V0 main_indices (by decide)).trans (val1_main_indices V0)
theorem val1_1_main_v37 : val1_1 V0 (no_index (Proc.devRef .tc main_v37)) = r_v37 V0 :=
  (val1_1_keep V0 main_v37 (by decide)).trans (val1_main_v37 V0)
theorem val1_1_main_v47 : val1_1 V0 (no_index (Proc.devRef .tc main_v47)) = r_v47 V0 :=
  (val1_1_keep V0 main_v47 (by decide)).trans (val1_main_v47 V0)
theorem val1_1_main_v49 : val1_1 V0 (no_index (Proc.devRef .tc main_v49)) = r_v49 V0 :=
  (val1_1_keep V0 main_v49 (by decide)).trans (val1_main_v49 V0)
theorem val1_1_main_v53 : val1_1 V0 (no_index (Proc.devRef .tc main_v53)) = r_v53 V0 := by
  unfold val1_1
  simp only [ops_part1_0, TRef.binary, TRef.nullary, TRef.unary, TRef.toBuf, TRef.ofBuf, cast_eq]
  after_results_simp
  simp only [val1_main_v50] <;> rfl
theorem val1_1_main_v66 : val1_1 V0 (no_index (Proc.devRef .tc main_v66)) = r_v66 V0 := by
  unfold val1_1
  simp only [ops_part1_0, TRef.binary, TRef.nullary, TRef.unary, TRef.toBuf, TRef.ofBuf, cast_eq]
  after_results_simp
  simp only [val1_main_indices, val1_main_v44] <;> rfl
theorem val1_1_main_v67 : val1_1 V0 (no_index (Proc.devRef .tc main_v67)) = r_v67 V0 := by
  unfold val1_1
  simp only [ops_part1_0, TRef.binary, TRef.nullary, TRef.unary, TRef.toBuf, TRef.ofBuf, cast_eq]
  after_results_simp
  simp only [val1_main_indices] <;> rfl
theorem val1_1_main_v68 : val1_1 V0 (no_index (Proc.devRef .tc main_v68)) = r_v68 V0 := by
  unfold val1_1
  simp only [ops_part1_0, TRef.binary, TRef.nullary, TRef.unary, TRef.toBuf, TRef.ofBuf, cast_eq]
  after_results_simp
  all_goals rfl

/-- The device's buffer contents after @main's first 130 operations. -/
def val1_2 (V0 : Val F) : Val F := after ops_part1_1 (val1_1 V0)
/-- The buffers that window `ops_part1_1`'s operations write. -/
abbrev ops_part1_1_W : List (Ref sig .tc) := [main_v69, main_c_10, main_v70, main_v71, main_v72, main_v73, main_v74, main_cst_11, main_call5_v0, main_call5_v1, main_call5_v2, main_v75, main_call6_v0, main_call6_cst, main_call6_c, main_call6_v1_0, main_v76, main_v77, main_v78, main_v79, main_v80, main_v81, main_v82, main_c_12, main_call7_v0, main_call7_v1, main_call7_v2, main_call7_v3, main_v83, main_v84]
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Val F) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 : val1_2 V0 (no_index (Proc.devRef .tc main_arg0)) = V0 (Proc.devRef .tc main_arg0) :=
  (val1_2_keep V0 main_arg0 (by decide)).trans (val1_1_main_arg0 V0)
theorem val1_2_main_arg1 : val1_2 V0 (no_index (Proc.devRef .tc main_arg1)) = V0 (Proc.devRef .tc main_arg1) :=
  (val1_2_keep V0 main_arg1 (by decide)).trans (val1_1_main_arg1 V0)
theorem val1_2_main_arg2 : val1_2 V0 (no_index (Proc.devRef .tc main_arg2)) = V0 (Proc.devRef .tc main_arg2) :=
  (val1_2_keep V0 main_arg2 (by decide)).trans (val1_1_main_arg2 V0)
theorem val1_2_main_arg3 : val1_2 V0 (no_index (Proc.devRef .tc main_arg3)) = V0 (Proc.devRef .tc main_arg3) :=
  (val1_2_keep V0 main_arg3 (by decide)).trans (val1_1_main_arg3 V0)
theorem val1_2_main_arg4 : val1_2 V0 (no_index (Proc.devRef .tc main_arg4)) = V0 (Proc.devRef .tc main_arg4) :=
  (val1_2_keep V0 main_arg4 (by decide)).trans (val1_1_main_arg4 V0)
theorem val1_2_main_arg5 : val1_2 V0 (no_index (Proc.devRef .tc main_arg5)) = V0 (Proc.devRef .tc main_arg5) :=
  (val1_2_keep V0 main_arg5 (by decide)).trans (val1_1_main_arg5 V0)
theorem val1_2_main_arg6 : val1_2 V0 (no_index (Proc.devRef .tc main_arg6)) = V0 (Proc.devRef .tc main_arg6) :=
  (val1_2_keep V0 main_arg6 (by decide)).trans (val1_1_main_arg6 V0)
theorem val1_2_main_arg7 : val1_2 V0 (no_index (Proc.devRef .tc main_arg7)) = V0 (Proc.devRef .tc main_arg7) :=
  (val1_2_keep V0 main_arg7 (by decide)).trans (val1_1_main_arg7 V0)
theorem val1_2_main_arg8 : val1_2 V0 (no_index (Proc.devRef .tc main_arg8)) = V0 (Proc.devRef .tc main_arg8) :=
  (val1_2_keep V0 main_arg8 (by decide)).trans (val1_1_main_arg8 V0)
theorem val1_2_main_v1 : val1_2 V0 (no_index (Proc.devRef .tc main_v1)) = r_v1 V0 :=
  (val1_2_keep V0 main_v1 (by decide)).trans (val1_1_main_v1 V0)
theorem val1_2_main_v7 : val1_2 V0 (no_index (Proc.devRef .tc main_v7)) = r_v7 V0 :=
  (val1_2_keep V0 main_v7 (by decide)).trans (val1_1_main_v7 V0)
theorem val1_2_main_v11 : val1_2 V0 (no_index (Proc.devRef .tc main_v11)) = r_v11 V0 :=
  (val1_2_keep V0 main_v11 (by decide)).trans (val1_1_main_v11 V0)
theorem val1_2_main_v13 : val1_2 V0 (no_index (Proc.devRef .tc main_v13)) = r_v13 V0 :=
  (val1_2_keep V0 main_v13 (by decide)).trans (val1_1_main_v13 V0)
theorem val1_2_main_values : val1_2 V0 (no_index (Proc.devRef .tc main_values)) = r_values V0 :=
  (val1_2_keep V0 main_values (by decide)).trans (val1_1_main_values V0)
theorem val1_2_main_v47 : val1_2 V0 (no_index (Proc.devRef .tc main_v47)) = r_v47 V0 :=
  (val1_2_keep V0 main_v47 (by decide)).trans (val1_1_main_v47 V0)
theorem val1_2_main_v49 : val1_2 V0 (no_index (Proc.devRef .tc main_v49)) = r_v49 V0 :=
  (val1_2_keep V0 main_v49 (by decide)).trans (val1_1_main_v49 V0)
theorem val1_2_main_v83 : val1_2 V0 (no_index (Proc.devRef .tc main_v83)) = r_v83 V0 := by
  unfold val1_2
  simp only [ops_part1_1, TRef.nullary, TRef.quaternary, TRef.ternary, TRef.unary, TRef.toBuf, TRef.ofBuf, cast_eq]
  after_results_simp
  try dsimp only [Matrix.cons_val]
  try after_results_simp
  simp only [val1_1_main_v37, val1_1_main_v67, val1_1_main_v68, val1_1_main_v9, val1_1_main_v66, val1_1_main_indices, val1_1_main_v53] <;> rfl
theorem val1_2_main_v84 : val1_2 V0 (no_index (Proc.devRef .tc main_v84)) = r_v84 V0 := by
  unfold val1_2
  simp only [ops_part1_1, TRef.nullary, TRef.quaternary, TRef.ternary, TRef.unary, TRef.toBuf, TRef.ofBuf, cast_eq]
  after_results_simp
  try dsimp only [Matrix.cons_val]
  try after_results_simp
  simp only [val1_1_main_v49] <;> rfl

end Cert.ReferenceIdeal.Value

end
-- ==== Proof.RefRun.lean ====
/- The reference run through its later windows: after each window every buffer still needed holds the value RefTerms names, and so do the results at the end. -/
module

public import proofs.«01_k».proof.Proof.RefRunA

@[expose] public section

set_option maxRecDepth 16384
set_option maxHeartbeats 4000000

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

variable (V0 : Val F)

/-- The device's buffer contents after @main's first 2 windows. -/
def val2 (V0 : Val F) : Val F := after ops_part1_2 (val1_2 V0)
/-- The buffers that window `ops_part1_2`'s operations write. -/
abbrev ops_part1_2_W : List (Ref sig .tc) := [main_call8_v0, main_call8_c, main_call8_c_0, main_call8_v1_0, main_v85, main_v86, main_v87, main_v88, main_v89, main_v90, main_v91, main_v92, main_c_13, main_v93, main_v94, main_c_14, main_v95, main_v96, main_v97, main_v98, main_v99, main_cst_15]
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Val F) (r : Ref sig .tc) (h : r ∉ ops_part1_2_W) :
    val2 V0 (Proc.devRef .tc r) = val1_2 V0 (Proc.devRef .tc r) :=
  after_of_writes_sub ops_part1_2 _ ops_part1_2_writes h
theorem val2_main_arg0 : val2 V0 (no_index (Proc.devRef .tc main_arg0)) = V0 (Proc.devRef .tc main_arg0) :=
  (val2_keep V0 main_arg0 (by decide)).trans (val1_2_main_arg0 V0)
theorem val2_main_arg1 : val2 V0 (no_index (Proc.devRef .tc main_arg1)) = V0 (Proc.devRef .tc main_arg1) :=
  (val2_keep V0 main_arg1 (by decide)).trans (val1_2_main_arg1 V0)
theorem val2_main_arg2 : val2 V0 (no_index (Proc.devRef .tc main_arg2)) = V0 (Proc.devRef .tc main_arg2) :=
  (val2_keep V0 main_arg2 (by decide)).trans (val1_2_main_arg2 V0)
theorem val2_main_arg3 : val2 V0 (no_index (Proc.devRef .tc main_arg3)) = V0 (Proc.devRef .tc main_arg3) :=
  (val2_keep V0 main_arg3 (by decide)).trans (val1_2_main_arg3 V0)
theorem val2_main_arg4 : val2 V0 (no_index (Proc.devRef .tc main_arg4)) = V0 (Proc.devRef .tc main_arg4) :=
  (val2_keep V0 main_arg4 (by decide)).trans (val1_2_main_arg4 V0)
theorem val2_main_arg5 : val2 V0 (no_index (Proc.devRef .tc main_arg5)) = V0 (Proc.devRef .tc main_arg5) :=
  (val2_keep V0 main_arg5 (by decide)).trans (val1_2_main_arg5 V0)
theorem val2_main_arg6 : val2 V0 (no_index (Proc.devRef .tc main_arg6)) = V0 (Proc.devRef .tc main_arg6) :=
  (val2_keep V0 main_arg6 (by decide)).trans (val1_2_main_arg6 V0)
theorem val2_main_arg7 : val2 V0 (no_index (Proc.devRef .tc main_arg7)) = V0 (Proc.devRef .tc main_arg7) :=
  (val2_keep V0 main_arg7 (by decide)).trans (val1_2_main_arg7 V0)
theorem val2_main_arg8 : val2 V0 (no_index (Proc.devRef .tc main_arg8)) = V0 (Proc.devRef .tc main_arg8) :=
  (val2_keep V0 main_arg8 (by decide)).trans (val1_2_main_arg8 V0)
theorem val2_main_v1 : val2 V0 (no_index (Proc.devRef .tc main_v1)) = r_v1 V0 :=
  (val2_keep V0 main_v1 (by decide)).trans (val1_2_main_v1 V0)
theorem val2_main_v11 : val2 V0 (no_index (Proc.devRef .tc main_v11)) = r_v11 V0 :=
  (val2_keep V0 main_v11 (by decide)).trans (val1_2_main_v11 V0)
theorem val2_main_v13 : val2 V0 (no_index (Proc.devRef .tc main_v13)) = r_v13 V0 :=
  (val2_keep V0 main_v13 (by decide)).trans (val1_2_main_v13 V0)
theorem val2_main_values : val2 V0 (no_index (Proc.devRef .tc main_values)) = r_values V0 :=
  (val2_keep V0 main_values (by decide)).trans (val1_2_main_values V0)
theorem val2_main_v83 : val2 V0 (no_index (Proc.devRef .tc main_v83)) = r_v83 V0 :=
  (val2_keep V0 main_v83 (by decide)).trans (val1_2_main_v83 V0)
theorem val2_main_v91 : val2 V0 (no_index (Proc.devRef .tc main_v91)) = r_v91 V0 := by
  unfold val2
  simp only [ops_part1_2, TRef.nullary, TRef.quaternary, TRef.toBuf, TRef.ofBuf, cast_eq]
  after_results_simp
  simp only [val1_2_main_v84] <;> rfl
theorem val2_main_v97 : val2 V0 (no_index (Proc.devRef .tc main_v97)) = r_v97 V0 := by
  unfold val2
  simp only [ops_part1_2, TRef.nullary, TRef.quaternary, TRef.toBuf, TRef.ofBuf, cast_eq]
  after_results_simp
  simp only [val1_2_main_v47, val1_2_main_v84, val1_2_main_v49] <;> rfl
theorem val2_main_v99 : val2 V0 (no_index (Proc.devRef .tc main_v99)) = r_v99 V0 := by
  unfold val2
  simp only [ops_part1_2, TRef.nullary, TRef.quaternary, TRef.toBuf, TRef.ofBuf, cast_eq]
  after_results_simp
  simp only [val1_2_main_v7] <;> rfl
theorem val2_main_cst_15 : val2 V0 (no_index (Proc.devRef .tc main_cst_15)) = r_cst_15 V0 := by
  unfold val2
  simp only [ops_part1_2, TRef.nullary, TRef.quaternary, TRef.toBuf, TRef.ofBuf, cast_eq]
  after_results_simp
  all_goals rfl

/-- The device's buffer contents after @main's first 182 operations. -/
def val2_1 (V0 : Val F) : Val F := after ops_part2_0 (val2 V0)
/-- The buffers that window `ops_part2_0`'s operations write. -/
abbrev ops_part2_0_W : List (Ref sig .tc) := [main_call9_v0, main_call9_v1, main_call9_v2, main_v100, main_cst_16, main_v101, main_v102, main_cst_17, main_call10_v0, main_call10_v1, main_v103, main_v104, main_v105, main_c_18, main_v106, main_v107, main_c_19, main_call11_v0, main_call11_v1, main_call11_v2, main_call11_v3, main_v108, main_cst_20, main_call12_v0, main_call12_v1, main_v109, main_v110, main_v111, main_cst_21, main_v112]
theorem ops_part2_0_writes : (ops_part2_0 : List (HloOp τ sig (Elt F))).Forall fun op => op.writes ⊆ (ops_part2_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_0` does not write keeps its contents through it. -/
theorem val2_1_keep (V0 : Val F) (r : Ref sig .tc) (h : r ∉ ops_part2_0_W) :
    val2_1 V0 (Proc.devRef .tc r) = val2 V0 (Proc.devRef .tc r) :=
  after_of_writes_sub ops_part2_0 _ ops_part2_0_writes h
theorem val2_1_main_arg0 : val2_1 V0 (no_index (Proc.devRef .tc main_arg0)) = V0 (Proc.devRef .tc main_arg0) :=
  (val2_1_keep V0 main_arg0 (by decide)).trans (val2_main_arg0 V0)
theorem val2_1_main_arg1 : val2_1 V0 (no_index (Proc.devRef .tc main_arg1)) = V0 (Proc.devRef .tc main_arg1) :=
  (val2_1_keep V0 main_arg1 (by decide)).trans (val2_main_arg1 V0)
theorem val2_1_main_arg2 : val2_1 V0 (no_index (Proc.devRef .tc main_arg2)) = V0 (Proc.devRef .tc main_arg2) :=
  (val2_1_keep V0 main_arg2 (by decide)).trans (val2_main_arg2 V0)
theorem val2_1_main_arg3 : val2_1 V0 (no_index (Proc.devRef .tc main_arg3)) = V0 (Proc.devRef .tc main_arg3) :=
  (val2_1_keep V0 main_arg3 (by decide)).trans (val2_main_arg3 V0)
theorem val2_1_main_arg4 : val2_1 V0 (no_index (Proc.devRef .tc main_arg4)) = V0 (Proc.devRef .tc main_arg4) :=
  (val2_1_keep V0 main_arg4 (by decide)).trans (val2_main_arg4 V0)
theorem val2_1_main_arg5 : val2_1 V0 (no_index (Proc.devRef .tc main_arg5)) = V0 (Proc.devRef .tc main_arg5) :=
  (val2_1_keep V0 main_arg5 (by decide)).trans (val2_main_arg5 V0)
theorem val2_1_main_arg6 : val2_1 V0 (no_index (Proc.devRef .tc main_arg6)) = V0 (Proc.devRef .tc main_arg6) :=
  (val2_1_keep V0 main_arg6 (by decide)).trans (val2_main_arg6 V0)
theorem val2_1_main_arg7 : val2_1 V0 (no_index (Proc.devRef .tc main_arg7)) = V0 (Proc.devRef .tc main_arg7) :=
  (val2_1_keep V0 main_arg7 (by decide)).trans (val2_main_arg7 V0)
theorem val2_1_main_arg8 : val2_1 V0 (no_index (Proc.devRef .tc main_arg8)) = V0 (Proc.devRef .tc main_arg8) :=
  (val2_1_keep V0 main_arg8 (by decide)).trans (val2_main_arg8 V0)
theorem val2_1_main_v1 : val2_1 V0 (no_index (Proc.devRef .tc main_v1)) = r_v1 V0 :=
  (val2_1_keep V0 main_v1 (by decide)).trans (val2_main_v1 V0)
theorem val2_1_main_v11 : val2_1 V0 (no_index (Proc.devRef .tc main_v11)) = r_v11 V0 :=
  (val2_1_keep V0 main_v11 (by decide)).trans (val2_main_v11 V0)
theorem val2_1_main_v13 : val2_1 V0 (no_index (Proc.devRef .tc main_v13)) = r_v13 V0 :=
  (val2_1_keep V0 main_v13 (by decide)).trans (val2_main_v13 V0)
theorem val2_1_main_v108 : val2_1 V0 (no_index (Proc.devRef .tc main_v108)) = r_v108 V0 := by
  unfold val2_1
  simp only [ops_part2_0, TRef.ternary, TRef.unary, TRef.toBuf, TRef.ofBuf, cast_eq]
  after_results_simp
  simp only [val2_main_v83, val2_main_arg3] <;> rfl
theorem val2_1_main_v111 : val2_1 V0 (no_index (Proc.devRef .tc main_v111)) = r_v111 V0 := by
  unfold val2_1
  simp only [ops_part2_0, TRef.ternary, TRef.unary, TRef.toBuf, TRef.ofBuf, cast_eq]
  after_results_simp
  simp only [val2_main_v11] <;> rfl
theorem val2_1_main_v112 : val2_1 V0 (no_index (Proc.devRef .tc main_v112)) = r_v112 V0 := by
  unfold val2_1
  simp only [ops_part2_0, TRef.ternary, TRef.unary, TRef.toBuf, TRef.ofBuf, cast_eq]
  after_results_simp
  all_goals rfl

/-- The device's buffer contents after @main's first 212 operations. -/
def val2_2 (V0 : Val F) : Val F := after ops_part2_1 (val2_1 V0)
/-- The buffers that window `ops_part2_1`'s operations write. -/
abbrev ops_part2_1_W : List (Ref sig .tc) := [main_v113, main_v114, main_v115, main_v116, main_v117, main_v118, main_v119, main_cst_22, main_call13_v0, main_call13_v1, main_call13_v2, main_v120, main_values_23, main_indices_24, main_v121, main_v122, main_v123, main_v124, main_v125, main_c_25, main_v126, main_v127, main_v128, main_c_26, main_v129, main_call14_v0, main_call14_c, main_call14_c_0, main_call14_v1_0, main_v130]
theorem ops_part2_1_writes : (ops_part2_1 : List (HloOp τ sig (Elt F))).Forall fun op => op.writes ⊆ (ops_part2_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_1` does not write keeps its contents through it. -/
theorem val2_2_keep (V0 : Val F) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 : val2_2 V0 (no_index (Proc.devRef .tc main_arg0)) = V0 (Proc.devRef .tc main_arg0) :=
  (val2_2_keep V0 main_arg0 (by decide)).trans (val2_1_main_arg0 V0)
theorem val2_2_main_arg1 : val2_2 V0 (no_index (Proc.devRef .tc main_arg1)) = V0 (Proc.devRef .tc main_arg1) :=
  (val2_2_keep V0 main_arg1 (by decide)).trans (val2_1_main_arg1 V0)
theorem val2_2_main_arg2 : val2_2 V0 (no_index (Proc.devRef .tc main_arg2)) = V0 (Proc.devRef .tc main_arg2) :=
  (val2_2_keep V0 main_arg2 (by decide)).trans (val2_1_main_arg2 V0)
theorem val2_2_main_arg3 : val2_2 V0 (no_index (Proc.devRef .tc main_arg3)) = V0 (Proc.devRef .tc main_arg3) :=
  (val2_2_keep V0 main_arg3 (by decide)).trans (val2_1_main_arg3 V0)
theorem val2_2_main_arg4 : val2_2 V0 (no_index (Proc.devRef .tc main_arg4)) = V0 (Proc.devRef .tc main_arg4) :=
  (val2_2_keep V0 main_arg4 (by decide)).trans (val2_1_main_arg4 V0)
theorem val2_2_main_arg5 : val2_2 V0 (no_index (Proc.devRef .tc main_arg5)) = V0 (Proc.devRef .tc main_arg5) :=
  (val2_2_keep V0 main_arg5 (by decide)).trans (val2_1_main_arg5 V0)
theorem val2_2_main_arg6 : val2_2 V0 (no_index (Proc.devRef .tc main_arg6)) = V0 (Proc.devRef .tc main_arg6) :=
  (val2_2_keep V0 main_arg6 (by decide)).trans (val2_1_main_arg6 V0)
theorem val2_2_main_arg7 : val2_2 V0 (no_index (Proc.devRef .tc main_arg7)) = V0 (Proc.devRef .tc main_arg7) :=
  (val2_2_keep V0 main_arg7 (by decide)).trans (val2_1_main_arg7 V0)
theorem val2_2_main_arg8 : val2_2 V0 (no_index (Proc.devRef .tc main_arg8)) = V0 (Proc.devRef .tc main_arg8) :=
  (val2_2_keep V0 main_arg8 (by decide)).trans (val2_1_main_arg8 V0)
theorem val2_2_main_v1 : val2_2 V0 (no_index (Proc.devRef .tc main_v1)) = r_v1 V0 :=
  (val2_2_keep V0 main_v1 (by decide)).trans (val2_1_main_v1 V0)
theorem val2_2_main_v11 : val2_2 V0 (no_index (Proc.devRef .tc main_v11)) = r_v11 V0 :=
  (val2_2_keep V0 main_v11 (by decide)).trans (val2_1_main_v11 V0)
theorem val2_2_main_v13 : val2_2 V0 (no_index (Proc.devRef .tc main_v13)) = r_v13 V0 :=
  (val2_2_keep V0 main_v13 (by decide)).trans (val2_1_main_v13 V0)
theorem val2_2_main_v108 : val2_2 V0 (no_index (Proc.devRef .tc main_v108)) = r_v108 V0 :=
  (val2_2_keep V0 main_v108 (by decide)).trans (val2_1_main_v108 V0)
theorem val2_2_main_v113 : val2_2 V0 (no_index (Proc.devRef .tc main_v113)) = r_v113 V0 := by
  unfold val2_2
  simp only [ops_part2_1, TRef.nullary, TRef.quaternary, TRef.ternary, TRef.unary, TRef.toBuf, TRef.ofBuf, cast_eq]
  after_results_simp
  simp only [val2_1_main_v112, val2_1_main_v111] <;> rfl
theorem val2_2_main_values_23 : val2_2 V0 (no_index (Proc.devRef .tc main_values_23)) = r_values_23 V0 := by
  unfold val2_2
  simp only [ops_part2_1, TRef.nullary, TRef.quaternary, TRef.ternary, TRef.unary, TRef.toBuf, TRef.ofBuf, cast_eq]
  after_results_simp
  simp only [val2_1_main_v11, val2_1_main_arg4] <;> rfl
theorem val2_2_main_indices_24 : val2_2 V0 (no_index (Proc.devRef .tc main_indices_24)) = r_indices_24 V0 := by
  unfold val2_2
  simp only [ops_part2_1, TRef.nullary, TRef.quaternary, TRef.ternary, TRef.unary, TRef.toBuf, TRef.ofBuf, cast_eq]
  after_results_simp
  simp only [val2_1_main_v11, val2_1_main_arg4] <;> rfl
theorem val2_2_main_v129 : val2_2 V0 (no_index (Proc.devRef .tc main_v129)) = r_v129 V0 := by
  unfold val2_2
  simp only [ops_part2_1, TRef.nullary, TRef.quaternary, TRef.ternary, TRef.unary, TRef.toBuf, TRef.ofBuf, cast_eq]
  after_results_simp
  simp only [val2_1_main_arg3, val2_1_main_v11, val2_1_main_arg4] <;> rfl
theorem val2_2_main_v130 : val2_2 V0 (no_index (Proc.devRef .tc main_v130)) = r_v130 V0 := by
  unfold val2_2
  simp only [ops_part2_1, TRef.nullary, TRef.quaternary, TRef.ternary, TRef.unary, TRef.toBuf, TRef.ofBuf, cast_eq]
  after_results_simp
  simp only [val2_1_main_arg3, val2_1_main_v11, val2_1_main_arg4] <;> rfl

/-- The device's buffer contents after @main's first 3 windows. -/
def val3 (V0 : Val F) : Val F := after ops_part2_2 (val2_2 V0)
/-- The buffers that window `ops_part2_2`'s operations write. -/
abbrev ops_part2_2_W : List (Ref sig .tc) := [main_c_27, main_call15_v0, main_call15_v1, main_call15_v2, main_v131, main_c_28, main_v132, main_v133, main_c_29, main_v134, main_v135, main_v136, main_v137, main_v138, main_v139, main_v140, main_v141, main_v142, main_v143, main_call16_c, main_call16_v0, main_v144, main_c_30]
theorem ops_part2_2_writes : (ops_part2_2 : List (HloOp τ sig (Elt F))).Forall fun op => op.writes ⊆ (ops_part2_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_2` does not write keeps its contents through it. -/
theorem val3_keep (V0 : Val F) (r : Ref sig .tc) (h : r ∉ ops_part2_2_W) :
    val3 V0 (Proc.devRef .tc r) = val2_2 V0 (Proc.devRef .tc r) :=
  after_of_writes_sub ops_part2_2 _ ops_part2_2_writes h
theorem val3_main_arg0 : val3 V0 (no_index (Proc.devRef .tc main_arg0)) = V0 (Proc.devRef .tc main_arg0) :=
  (val3_keep V0 main_arg0 (by decide)).trans (val2_2_main_arg0 V0)
theorem val3_main_arg1 : val3 V0 (no_index (Proc.devRef .tc main_arg1)) = V0 (Proc.devRef .tc main_arg1) :=
  (val3_keep V0 main_arg1 (by decide)).trans (val2_2_main_arg1 V0)
theorem val3_main_arg2 : val3 V0 (no_index (Proc.devRef .tc main_arg2)) = V0 (Proc.devRef .tc main_arg2) :=
  (val3_keep V0 main_arg2 (by decide)).trans (val2_2_main_arg2 V0)
theorem val3_main_arg3 : val3 V0 (no_index (Proc.devRef .tc main_arg3)) = V0 (Proc.devRef .tc main_arg3) :=
  (val3_keep V0 main_arg3 (by decide)).trans (val2_2_main_arg3 V0)
theorem val3_main_arg4 : val3 V0 (no_index (Proc.devRef .tc main_arg4)) = V0 (Proc.devRef .tc main_arg4) :=
  (val3_keep V0 main_arg4 (by decide)).trans (val2_2_main_arg4 V0)
theorem val3_main_arg5 : val3 V0 (no_index (Proc.devRef .tc main_arg5)) = V0 (Proc.devRef .tc main_arg5) :=
  (val3_keep V0 main_arg5 (by decide)).trans (val2_2_main_arg5 V0)
theorem val3_main_arg6 : val3 V0 (no_index (Proc.devRef .tc main_arg6)) = V0 (Proc.devRef .tc main_arg6) :=
  (val3_keep V0 main_arg6 (by decide)).trans (val2_2_main_arg6 V0)
theorem val3_main_arg7 : val3 V0 (no_index (Proc.devRef .tc main_arg7)) = V0 (Proc.devRef .tc main_arg7) :=
  (val3_keep V0 main_arg7 (by decide)).trans (val2_2_main_arg7 V0)
theorem val3_main_arg8 : val3 V0 (no_index (Proc.devRef .tc main_arg8)) = V0 (Proc.devRef .tc main_arg8) :=
  (val3_keep V0 main_arg8 (by decide)).trans (val2_2_main_arg8 V0)
theorem val3_main_v1 : val3 V0 (no_index (Proc.devRef .tc main_v1)) = r_v1 V0 :=
  (val3_keep V0 main_v1 (by decide)).trans (val2_2_main_v1 V0)
theorem val3_main_v11 : val3 V0 (no_index (Proc.devRef .tc main_v11)) = r_v11 V0 :=
  (val3_keep V0 main_v11 (by decide)).trans (val2_2_main_v11 V0)
theorem val3_main_v13 : val3 V0 (no_index (Proc.devRef .tc main_v13)) = r_v13 V0 :=
  (val3_keep V0 main_v13 (by decide)).trans (val2_2_main_v13 V0)
theorem val3_main_v108 : val3 V0 (no_index (Proc.devRef .tc main_v108)) = r_v108 V0 :=
  (val3_keep V0 main_v108 (by decide)).trans (val2_2_main_v108 V0)
theorem val3_main_values_23 : val3 V0 (no_index (Proc.devRef .tc main_values_23)) = r_values_23 V0 :=
  (val3_keep V0 main_values_23 (by decide)).trans (val2_2_main_values_23 V0)
theorem val3_main_indices_24 : val3 V0 (no_index (Proc.devRef .tc main_indices_24)) = r_indices_24 V0 :=
  (val3_keep V0 main_indices_24 (by decide)).trans (val2_2_main_indices_24 V0)
theorem val3_main_v131 : val3 V0 (no_index (Proc.devRef .tc main_v131)) = r_v131 V0 := by
  unfold val3
  simp only [ops_part2_2, TRef.binary, TRef.nullary, TRef.ternary, TRef.unary, TRef.toBuf, TRef.ofBuf, cast_eq]
  after_results_simp
  simp only [val2_2_main_v130, val2_2_main_v129] <;> rfl
theorem val3_main_v138 : val3 V0 (no_index (Proc.devRef .tc main_v138)) = r_v138 V0 := by
  unfold val3
  simp only [ops_part2_2, TRef.binary, TRef.nullary, TRef.ternary, TRef.unary, TRef.toBuf, TRef.ofBuf, cast_eq]
  after_results_simp
  simp only [val2_2_main_v130, val2_2_main_v129, val2_2_main_arg3] <;> rfl
theorem val3_main_v140 : val3 V0 (no_index (Proc.devRef .tc main_v140)) = r_v140 V0 := by
  unfold val3
  simp only [ops_part2_2, TRef.binary, TRef.nullary, TRef.ternary, TRef.unary, TRef.toBuf, TRef.ofBuf, cast_eq]
  after_results_simp
  simp only [val2_2_main_v113, val2_2_main_values_23] <;> rfl
theorem val3_main_v142 : val3 V0 (no_index (Proc.devRef .tc main_v142)) = r_v142 V0 := by
  unfold val3
  simp only [ops_part2_2, TRef.binary, TRef.nullary, TRef.ternary, TRef.unary, TRef.toBuf, TRef.ofBuf, cast_eq]
  after_results_simp
  simp only [val2_2_main_indices_24, val2_2_main_v130, val2_2_main_v129, val2_2_main_arg3, val2_2_main_v113, val2_2_main_values_23] <;> rfl
theorem val3_main_v144 : val3 V0 (no_index (Proc.devRef .tc main_v144)) = r_v144 V0 := by
  unfold val3
  simp only [ops_part2_2, TRef.binary, TRef.nullary, TRef.ternary, TRef.unary, TRef.toBuf, TRef.ofBuf, cast_eq]
  after_results_simp
  simp only [val2_2_main_indices_24, val2_2_main_v130, val2_2_main_v129, val2_2_main_arg3, val2_2_main_v113, val2_2_main_values_23] <;> rfl
theorem val3_main_c_30 : val3 V0 (no_index (Proc.devRef .tc main_c_30)) = r_c_30 V0 := by
  unfold val3
  simp only [ops_part2_2, TRef.binary, TRef.nullary, TRef.ternary, TRef.unary, TRef.toBuf, TRef.ofBuf, cast_eq]
  after_results_simp
  all_goals rfl

/-- The device's buffer contents after @main's first 265 operations. -/
def val3_1 (V0 : Val F) : Val F := after ops_part3_0 (val3 V0)
/-- The buffers that window `ops_part3_0`'s operations write. -/
abbrev ops_part3_0_W : List (Ref sig .tc) := [main_v145, main_v146, main_c_31, main_v147, main_v148, main_v149, main_v150, main_v151, main_v152, main_v153, main_v154, main_v155, main_v156, main_v157, main_v158, main_v159, main_c_32, main_c_33, main_call17_v0, main_call17_v1, main_call17_v2, main_call17_v3, main_call17_v4, main_v160, main_c_34, main_v161, main_v162, main_c_35, main_v163, main_v164]
theorem ops_part3_0_writes : (ops_part3_0 : List (HloOp τ sig (Elt F))).Forall fun op => op.writes ⊆ (ops_part3_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_0` does not write keeps its contents through it. -/
theorem val3_1_keep (V0 : Val F) (r : Ref sig .tc) (h : r ∉ ops_part3_0_W) :
    val3_1 V0 (Proc.devRef .tc r) = val3 V0 (Proc.devRef .tc r) :=
  after_of_writes_sub ops_part3_0 _ ops_part3_0_writes h
theorem val3_1_main_arg0 : val3_1 V0 (no_index (Proc.devRef .tc main_arg0)) = V0 (Proc.devRef .tc main_arg0) :=
  (val3_1_keep V0 main_arg0 (by decide)).trans (val3_main_arg0 V0)
theorem val3_1_main_arg1 : val3_1 V0 (no_index (Proc.devRef .tc main_arg1)) = V0 (Proc.devRef .tc main_arg1) :=
  (val3_1_keep V0 main_arg1 (by decide)).trans (val3_main_arg1 V0)
theorem val3_1_main_arg2 : val3_1 V0 (no_index (Proc.devRef .tc main_arg2)) = V0 (Proc.devRef .tc main_arg2) :=
  (val3_1_keep V0 main_arg2 (by decide)).trans (val3_main_arg2 V0)
theorem val3_1_main_arg3 : val3_1 V0 (no_index (Proc.devRef .tc main_arg3)) = V0 (Proc.devRef .tc main_arg3) :=
  (val3_1_keep V0 main_arg3 (by decide)).trans (val3_main_arg3 V0)
theorem val3_1_main_arg4 : val3_1 V0 (no_index (Proc.devRef .tc main_arg4)) = V0 (Proc.devRef .tc main_arg4) :=
  (val3_1_keep V0 main_arg4 (by decide)).trans (val3_main_arg4 V0)
theorem val3_1_main_arg5 : val3_1 V0 (no_index (Proc.devRef .tc main_arg5)) = V0 (Proc.devRef .tc main_arg5) :=
  (val3_1_keep V0 main_arg5 (by decide)).trans (val3_main_arg5 V0)
theorem val3_1_main_arg6 : val3_1 V0 (no_index (Proc.devRef .tc main_arg6)) = V0 (Proc.devRef .tc main_arg6) :=
  (val3_1_keep V0 main_arg6 (by decide)).trans (val3_main_arg6 V0)
theorem val3_1_main_arg7 : val3_1 V0 (no_index (Proc.devRef .tc main_arg7)) = V0 (Proc.devRef .tc main_arg7) :=
  (val3_1_keep V0 main_arg7 (by decide)).trans (val3_main_arg7 V0)
theorem val3_1_main_arg8 : val3_1 V0 (no_index (Proc.devRef .tc main_arg8)) = V0 (Proc.devRef .tc main_arg8) :=
  (val3_1_keep V0 main_arg8 (by decide)).trans (val3_main_arg8 V0)
theorem val3_1_main_v1 : val3_1 V0 (no_index (Proc.devRef .tc main_v1)) = r_v1 V0 :=
  (val3_1_keep V0 main_v1 (by decide)).trans (val3_main_v1 V0)
theorem val3_1_main_v11 : val3_1 V0 (no_index (Proc.devRef .tc main_v11)) = r_v11 V0 :=
  (val3_1_keep V0 main_v11 (by decide)).trans (val3_main_v11 V0)
theorem val3_1_main_v13 : val3_1 V0 (no_index (Proc.devRef .tc main_v13)) = r_v13 V0 :=
  (val3_1_keep V0 main_v13 (by decide)).trans (val3_main_v13 V0)
theorem val3_1_main_v108 : val3_1 V0 (no_index (Proc.devRef .tc main_v108)) = r_v108 V0 :=
  (val3_1_keep V0 main_v108 (by decide)).trans (val3_main_v108 V0)
theorem val3_1_main_values_23 : val3_1 V0 (no_index (Proc.devRef .tc main_values_23)) = r_values_23 V0 :=
  (val3_1_keep V0 main_values_23 (by decide)).trans (val3_main_values_23 V0)
theorem val3_1_main_indices_24 : val3_1 V0 (no_index (Proc.devRef .tc main_indices_24)) = r_indices_24 V0 :=
  (val3_1_keep V0 main_indices_24 (by decide)).trans (val3_main_indices_24 V0)
theorem val3_1_main_v131 : val3_1 V0 (no_index (Proc.devRef .tc main_v131)) = r_v131 V0 :=
  (val3_1_keep V0 main_v131 (by decide)).trans (val3_main_v131 V0)
theorem val3_1_main_v140 : val3_1 V0 (no_index (Proc.devRef .tc main_v140)) = r_v140 V0 :=
  (val3_1_keep V0 main_v140 (by decide)).trans (val3_main_v140 V0)
theorem val3_1_main_v142 : val3_1 V0 (no_index (Proc.devRef .tc main_v142)) = r_v142 V0 :=
  (val3_1_keep V0 main_v142 (by decide)).trans (val3_main_v142 V0)
theorem val3_1_main_v146 : val3_1 V0 (no_index (Proc.devRef .tc main_v146)) = r_v146 V0 := by
  unfold val3_1
  simp only [ops_part3_0, TRef.binary, TRef.unary, TRef.toBuf, TRef.ofBuf, cast_eq]
  after_results_simp
  simp only [val3_main_c_30, val3_main_v144] <;> rfl
theorem val3_1_main_v159 : val3_1 V0 (no_index (Proc.devRef .tc main_v159)) = r_v159 V0 := by
  unfold val3_1
  simp only [ops_part3_0, TRef.binary, TRef.unary, TRef.toBuf, TRef.ofBuf, cast_eq]
  after_results_simp
  simp only [val3_main_indices_24, val3_main_v138] <;> rfl
theorem val3_1_main_v160 : val3_1 V0 (no_index (Proc.devRef .tc main_v160)) = r_v160 V0 := by
  unfold val3_1
  simp only [ops_part3_0, TRef.binary, TRef.unary, TRef.toBuf, TRef.ofBuf, cast_eq]
  after_results_simp
  simp only [val3_main_indices_24] <;> rfl
theorem val3_1_main_v162 : val3_1 V0 (no_index (Proc.devRef .tc main_v162)) = r_v162 V0 := by
  unfold val3_1
  simp only [ops_part3_0, TRef.binary, TRef.unary, TRef.toBuf, TRef.ofBuf, cast_eq]
  after_results_simp
  simp only [val3_main_indices_24] <;> rfl
theorem val3_1_main_v164 : val3_1 V0 (no_index (Proc.devRef .tc main_v164)) = r_v164 V0 := by
  unfold val3_1
  simp only [ops_part3_0, TRef.binary, TRef.unary, TRef.toBuf, TRef.ofBuf, cast_eq]
  after_results_simp
  simp only [val3_main_indices_24] <;> rfl

/-- The device's buffer contents after @main's first 295 operations. -/
def val3_2 (V0 : Val F) : Val F := after ops_part3_1 (val3_1 V0)
/-- The buffers that window `ops_part3_1`'s operations write. -/
abbrev ops_part3_1_W : List (Ref sig .tc) := [main_v165, main_v166, main_v167, main_cst_36, main_call18_v0, main_call18_v1, main_call18_v2, main_v168, main_call19_v0, main_call19_cst, main_call19_c, main_call19_v1_0, main_v169, main_v170, main_v171, main_v172, main_v173, main_v174, main_v175, main_c_37, main_call20_v0, main_call20_v1, main_call20_v2, main_call20_v3, main_v176, main_v177, main_call21_v0, main_call21_c, main_call21_c_0, main_call21_v1_0]
theorem ops_part3_1_writes : (ops_part3_1 : List (HloOp τ sig (Elt F))).Forall fun op => op.writes ⊆ (ops_part3_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_1` does not write keeps its contents through it. -/
theorem val3_2_keep (V0 : Val F) (r : Ref sig .tc) (h : r ∉ ops_part3_1_W) :
    val3_2 V0 (Proc.devRef .tc r) = val3_1 V0 (Proc.devRef .tc r) :=
  after_of_writes_sub ops_part3_1 _ ops_part3_1_writes h
theorem val3_2_main_arg0 : val3_2 V0 (no_index (Proc.devRef .tc main_arg0)) = V0 (Proc.devRef .tc main_arg0) :=
  (val3_2_keep V0 main_arg0 (by decide)).trans (val3_1_main_arg0 V0)
theorem val3_2_main_arg1 : val3_2 V0 (no_index (Proc.devRef .tc main_arg1)) = V0 (Proc.devRef .tc main_arg1) :=
  (val3_2_keep V0 main_arg1 (by decide)).trans (val3_1_main_arg1 V0)
theorem val3_2_main_arg2 : val3_2 V0 (no_index (Proc.devRef .tc main_arg2)) = V0 (Proc.devRef .tc main_arg2) :=
  (val3_2_keep V0 main_arg2 (by decide)).trans (val3_1_main_arg2 V0)
theorem val3_2_main_arg3 : val3_2 V0 (no_index (Proc.devRef .tc main_arg3)) = V0 (Proc.devRef .tc main_arg3) :=
  (val3_2_keep V0 main_arg3 (by decide)).trans (val3_1_main_arg3 V0)
theorem val3_2_main_arg4 : val3_2 V0 (no_index (Proc.devRef .tc main_arg4)) = V0 (Proc.devRef .tc main_arg4) :=
  (val3_2_keep V0 main_arg4 (by decide)).trans (val3_1_main_arg4 V0)
theorem val3_2_main_arg5 : val3_2 V0 (no_index (Proc.devRef .tc main_arg5)) = V0 (Proc.devRef .tc main_arg5) :=
  (val3_2_keep V0 main_arg5 (by decide)).trans (val3_1_main_arg5 V0)
theorem val3_2_main_arg6 : val3_2 V0 (no_index (Proc.devRef .tc main_arg6)) = V0 (Proc.devRef .tc main_arg6) :=
  (val3_2_keep V0 main_arg6 (by decide)).trans (val3_1_main_arg6 V0)
theorem val3_2_main_arg7 : val3_2 V0 (no_index (Proc.devRef .tc main_arg7)) = V0 (Proc.devRef .tc main_arg7) :=
  (val3_2_keep V0 main_arg7 (by decide)).trans (val3_1_main_arg7 V0)
theorem val3_2_main_arg8 : val3_2 V0 (no_index (Proc.devRef .tc main_arg8)) = V0 (Proc.devRef .tc main_arg8) :=
  (val3_2_keep V0 main_arg8 (by decide)).trans (val3_1_main_arg8 V0)
theorem val3_2_main_v1 : val3_2 V0 (no_index (Proc.devRef .tc main_v1)) = r_v1 V0 :=
  (val3_2_keep V0 main_v1 (by decide)).trans (val3_1_main_v1 V0)
theorem val3_2_main_v11 : val3_2 V0 (no_index (Proc.devRef .tc main_v11)) = r_v11 V0 :=
  (val3_2_keep V0 main_v11 (by decide)).trans (val3_1_main_v11 V0)
theorem val3_2_main_v108 : val3_2 V0 (no_index (Proc.devRef .tc main_v108)) = r_v108 V0 :=
  (val3_2_keep V0 main_v108 (by decide)).trans (val3_1_main_v108 V0)
theorem val3_2_main_values_23 : val3_2 V0 (no_index (Proc.devRef .tc main_values_23)) = r_values_23 V0 :=
  (val3_2_keep V0 main_values_23 (by decide)).trans (val3_1_main_values_23 V0)
theorem val3_2_main_v140 : val3_2 V0 (no_index (Proc.devRef .tc main_v140)) = r_v140 V0 :=
  (val3_2_keep V0 main_v140 (by decide)).trans (val3_1_main_v140 V0)
theorem val3_2_main_v142 : val3_2 V0 (no_index (Proc.devRef .tc main_v142)) = r_v142 V0 :=
  (val3_2_keep V0 main_v142 (by decide)).trans (val3_1_main_v142 V0)
theorem val3_2_main_v176 : val3_2 V0 (no_index (Proc.devRef .tc main_v176)) = r_v176 V0 := by
  unfold val3_2
  simp only [ops_part3_1, TRef.nullary, TRef.quaternary, TRef.ternary, TRef.unary, TRef.toBuf, TRef.ofBuf, cast_eq]
  after_results_simp
  try dsimp only [Matrix.cons_val]
  try after_results_simp
  simp only [val3_1_main_v131, val3_1_main_v160, val3_1_main_v164, val3_1_main_v162, val3_1_main_v13, val3_1_main_v159, val3_1_main_indices_24, val3_1_main_v146] <;> rfl
theorem val3_2_main_v177 : val3_2 V0 (no_index (Proc.devRef .tc main_v177)) = r_v177 V0 := by
  unfold val3_2
  simp only [ops_part3_1, TRef.nullary, TRef.quaternary, TRef.ternary, TRef.unary, TRef.toBuf, TRef.ofBuf, cast_eq]
  after_results_simp
  try dsimp only [Matrix.cons_val]
  try after_results_simp
  simp only [val3_1_main_v142] <;> rfl
theorem val3_2_main_call21_v0 : val3_2 V0 (no_index (Proc.devRef .tc main_call21_v0)) = r_call21_v0 V0 := by
  unfold val3_2
  simp only [ops_part3_1, TRef.nullary, TRef.quaternary, TRef.ternary, TRef.unary, TRef.toBuf, TRef.ofBuf, cast_eq]
  after_results_simp
  try dsimp only [Matrix.cons_val]
  try after_results_simp
  all_goals rfl
theorem val3_2_main_call21_c : val3_2 V0 (no_index (Proc.devRef .tc main_call21_c)) = r_call21_c V0 := by
  unfold val3_2
  simp only [ops_part3_1, TRef.nullary, TRef.quaternary, TRef.ternary, TRef.unary, TRef.toBuf, TRef.ofBuf, cast_eq]
  after_results_simp
  try dsimp only [Matrix.cons_val]
  try after_results_simp
  all_goals rfl
theorem val3_2_main_call21_c_0 : val3_2 V0 (no_index (Proc.devRef .tc main_call21_c_0)) = r_call21_c_0 V0 := by
  unfold val3_2
  simp only [ops_part3_1, TRef.nullary, TRef.quaternary, TRef.ternary, TRef.unary, TRef.toBuf, TRef.ofBuf, cast_eq]
  after_results_simp
  try dsimp only [Matrix.cons_val]
  try after_results_simp
  all_goals rfl

/-- The device's buffer contents after @main's first 4 windows. -/
def val4 (V0 : Val F) : Val F := after ops_part3_2 (val3_2 V0)
/-- The buffers that window `ops_part3_2`'s operations write. -/
abbrev ops_part3_2_W : List (Ref sig .tc) := [main_v178, main_v179, main_v180, main_v181, main_v182, main_v183, main_v184, main_c_38, main_v185, main_v186, main_c_39, main_v187, main_v188, main_v189, main_v190, main_v191, main_cst_40, main_call22_v0, main_call22_v1, main_call22_v2, main_v192, main_cst_41, main_v193]
theorem ops_part3_2_writes : (ops_part3_2 : List (HloOp τ sig (Elt F))).Forall fun op => op.writes ⊆ (ops_part3_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part3_2` does not write keeps its contents through it. -/
theorem val4_keep (V0 : Val F) (r : Ref sig .tc) (h : r ∉ ops_part3_2_W) :
    val4 V0 (Proc.devRef .tc r) = val3_2 V0 (Proc.devRef .tc r) :=
  after_of_writes_sub ops_part3_2 _ ops_part3_2_writes h
theorem val4_main_arg0 : val4 V0 (no_index (Proc.devRef .tc main_arg0)) = V0 (Proc.devRef .tc main_arg0) :=
  (val4_keep V0 main_arg0 (by decide)).trans (val3_2_main_arg0 V0)
theorem val4_main_arg1 : val4 V0 (no_index (Proc.devRef .tc main_arg1)) = V0 (Proc.devRef .tc main_arg1) :=
  (val4_keep V0 main_arg1 (by decide)).trans (val3_2_main_arg1 V0)
theorem val4_main_arg2 : val4 V0 (no_index (Proc.devRef .tc main_arg2)) = V0 (Proc.devRef .tc main_arg2) :=
  (val4_keep V0 main_arg2 (by decide)).trans (val3_2_main_arg2 V0)
theorem val4_main_arg3 : val4 V0 (no_index (Proc.devRef .tc main_arg3)) = V0 (Proc.devRef .tc main_arg3) :=
  (val4_keep V0 main_arg3 (by decide)).trans (val3_2_main_arg3 V0)
theorem val4_main_arg4 : val4 V0 (no_index (Proc.devRef .tc main_arg4)) = V0 (Proc.devRef .tc main_arg4) :=
  (val4_keep V0 main_arg4 (by decide)).trans (val3_2_main_arg4 V0)
theorem val4_main_arg5 : val4 V0 (no_index (Proc.devRef .tc main_arg5)) = V0 (Proc.devRef .tc main_arg5) :=
  (val4_keep V0 main_arg5 (by decide)).trans (val3_2_main_arg5 V0)
theorem val4_main_arg6 : val4 V0 (no_index (Proc.devRef .tc main_arg6)) = V0 (Proc.devRef .tc main_arg6) :=
  (val4_keep V0 main_arg6 (by decide)).trans (val3_2_main_arg6 V0)
theorem val4_main_arg7 : val4 V0 (no_index (Proc.devRef .tc main_arg7)) = V0 (Proc.devRef .tc main_arg7) :=
  (val4_keep V0 main_arg7 (by decide)).trans (val3_2_main_arg7 V0)
theorem val4_main_arg8 : val4 V0 (no_index (Proc.devRef .tc main_arg8)) = V0 (Proc.devRef .tc main_arg8) :=
  (val4_keep V0 main_arg8 (by decide)).trans (val3_2_main_arg8 V0)
theorem val4_main_v1 : val4 V0 (no_index (Proc.devRef .tc main_v1)) = r_v1 V0 :=
  (val4_keep V0 main_v1 (by decide)).trans (val3_2_main_v1 V0)
theorem val4_main_v108 : val4 V0 (no_index (Proc.devRef .tc main_v108)) = r_v108 V0 :=
  (val4_keep V0 main_v108 (by decide)).trans (val3_2_main_v108 V0)
theorem val4_main_v176 : val4 V0 (no_index (Proc.devRef .tc main_v176)) = r_v176 V0 :=
  (val4_keep V0 main_v176 (by decide)).trans (val3_2_main_v176 V0)
theorem val4_main_v189 : val4 V0 (no_index (Proc.devRef .tc main_v189)) = r_v189 V0 := by
  unfold val4
  simp only [ops_part3_2, TRef.quaternary, TRef.ternary, TRef.unary, TRef.toBuf, TRef.ofBuf, cast_eq]
  after_results_simp
  simp only [val3_2_main_v140, val3_2_main_call21_c_0, val3_2_main_call21_c, val3_2_main_call21_v0, val3_2_main_v177, val3_2_main_v142] <;> rfl
theorem val4_main_v191 : val4 V0 (no_index (Proc.devRef .tc main_v191)) = r_v191 V0 := by
  unfold val4
  simp only [ops_part3_2, TRef.quaternary, TRef.ternary, TRef.unary, TRef.toBuf, TRef.ofBuf, cast_eq]
  after_results_simp
  simp only [val3_2_main_v11] <;> rfl
theorem val4_main_v193 : val4 V0 (no_index (Proc.devRef .tc main_v193)) = r_v193 V0 := by
  unfold val4
  simp only [ops_part3_2, TRef.quaternary, TRef.ternary, TRef.unary, TRef.toBuf, TRef.ofBuf, cast_eq]
  after_results_simp
  simp only [val3_2_main_values_23, val3_2_main_call21_c_0, val3_2_main_call21_c, val3_2_main_call21_v0, val3_2_main_v177] <;> rfl

/-- The device's buffer contents after @main's first 5 windows. -/
def val5 (V0 : Val F) : Val F := after ops_part4 (val4 V0)
/-- The buffers that window `main_part4`'s operations write. -/
abbrev ops_part4_W : List (Ref sig .tc) := [main_v194, main_cst_42, main_call23_v0, main_call23_v1, main_v195, main_v196, main_v197, main_c_43, main_v198, main_v199, main_c_44, main_call24_v0, main_call24_v1, main_call24_v2, main_call24_v3, main_v200, main_cst_45, main_call25_v0, main_call25_v1, main_v201]
theorem ops_part4_writes : (ops_part4 : List (HloOp τ sig (Elt F))).Forall fun op => op.writes ⊆ (ops_part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part4` does not write keeps its contents through it. -/
theorem val5_keep (V0 : Val F) (r : Ref sig .tc) (h : r ∉ ops_part4_W) :
    val5 V0 (Proc.devRef .tc r) = val4 V0 (Proc.devRef .tc r) :=
  after_of_writes_sub ops_part4 _ ops_part4_writes h
theorem val5_main_arg0 : val5 V0 (no_index (Proc.devRef .tc main_arg0)) = V0 (Proc.devRef .tc main_arg0) :=
  (val5_keep V0 main_arg0 (by decide)).trans (val4_main_arg0 V0)
theorem val5_main_arg1 : val5 V0 (no_index (Proc.devRef .tc main_arg1)) = V0 (Proc.devRef .tc main_arg1) :=
  (val5_keep V0 main_arg1 (by decide)).trans (val4_main_arg1 V0)
theorem val5_main_arg2 : val5 V0 (no_index (Proc.devRef .tc main_arg2)) = V0 (Proc.devRef .tc main_arg2) :=
  (val5_keep V0 main_arg2 (by decide)).trans (val4_main_arg2 V0)
theorem val5_main_arg3 : val5 V0 (no_index (Proc.devRef .tc main_arg3)) = V0 (Proc.devRef .tc main_arg3) :=
  (val5_keep V0 main_arg3 (by decide)).trans (val4_main_arg3 V0)
theorem val5_main_arg4 : val5 V0 (no_index (Proc.devRef .tc main_arg4)) = V0 (Proc.devRef .tc main_arg4) :=
  (val5_keep V0 main_arg4 (by decide)).trans (val4_main_arg4 V0)
theorem val5_main_arg5 : val5 V0 (no_index (Proc.devRef .tc main_arg5)) = V0 (Proc.devRef .tc main_arg5) :=
  (val5_keep V0 main_arg5 (by decide)).trans (val4_main_arg5 V0)
theorem val5_main_arg6 : val5 V0 (no_index (Proc.devRef .tc main_arg6)) = V0 (Proc.devRef .tc main_arg6) :=
  (val5_keep V0 main_arg6 (by decide)).trans (val4_main_arg6 V0)
theorem val5_main_arg7 : val5 V0 (no_index (Proc.devRef .tc main_arg7)) = V0 (Proc.devRef .tc main_arg7) :=
  (val5_keep V0 main_arg7 (by decide)).trans (val4_main_arg7 V0)
theorem val5_main_arg8 : val5 V0 (no_index (Proc.devRef .tc main_arg8)) = V0 (Proc.devRef .tc main_arg8) :=
  (val5_keep V0 main_arg8 (by decide)).trans (val4_main_arg8 V0)
theorem val5_main_v1 : val5 V0 (no_index (Proc.devRef .tc main_v1)) = r_v1 V0 :=
  (val5_keep V0 main_v1 (by decide)).trans (val4_main_v1 V0)
theorem val5_main_v108 : val5 V0 (no_index (Proc.devRef .tc main_v108)) = r_v108 V0 :=
  (val5_keep V0 main_v108 (by decide)).trans (val4_main_v108 V0)
theorem val5_main_v200 : val5 V0 (no_index (Proc.devRef .tc main_v200)) = r_v200 V0 := by
  unfold val5
  simp only [ops_part4, TRef.ternary, TRef.unary, TRef.toBuf, TRef.ofBuf, cast_eq]
  after_results_simp
  simp only [val4_main_v176, val4_main_arg3] <;> rfl
theorem val5_main_v201 : val5 V0 (no_index (Proc.devRef .tc main_v201)) = r_v201 V0 := by
  unfold val5
  simp only [ops_part4, TRef.ternary, TRef.unary, TRef.toBuf, TRef.ofBuf, cast_eq]
  after_results_simp
  simp only [val4_main_v193, val4_main_v191, val4_main_v189, val4_main_arg3] <;> rfl

theorem after_ops (V0 : Val F) : after ops V0 = val5 V0 := by
  simp only [ops, ops_part0, ops_part1, ops_part2, ops_part3, after_append]
  rfl

/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v108) = r_v108 (launchContents m c)
      ∧ r.2.mem ((c.tc : Thread nD τ).loc main_v200) = r_v200 (launchContents m c)
      ∧ r.2.mem ((c.tc : Thread nD τ).loc main_v1) = r_v1 (launchContents m c)
      ∧ r.2.mem ((c.tc : Thread nD τ).loc main_v201) = r_v201 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v108).trans ((congrFun (after_ops (launchContents m c)) (Proc.devRef .tc main_v108)).trans (val5_main_v108 (launchContents m c))),
      (h c main_v200).trans ((congrFun (after_ops (launchContents m c)) (Proc.devRef .tc main_v200)).trans (val5_main_v200 (launchContents m c))),
      (h c main_v1).trans ((congrFun (after_ops (launchContents m c)) (Proc.devRef .tc main_v1)).trans (val5_main_v1 (launchContents m c))),
      (h c main_v201).trans ((congrFun (after_ops (launchContents m c)) (Proc.devRef .tc main_v201)).trans (val5_main_v201 (launchContents m c))),
      (h c main_arg0).trans ((congrFun (after_ops (launchContents m c)) (Proc.devRef .tc main_arg0)).trans (val5_main_arg0 (launchContents m c))),
      (h c main_arg1).trans ((congrFun (after_ops (launchContents m c)) (Proc.devRef .tc main_arg1)).trans (val5_main_arg1 (launchContents m c))),
      (h c main_arg2).trans ((congrFun (after_ops (launchContents m c)) (Proc.devRef .tc main_arg2)).trans (val5_main_arg2 (launchContents m c))),
      (h c main_arg3).trans ((congrFun (after_ops (launchContents m c)) (Proc.devRef .tc main_arg3)).trans (val5_main_arg3 (launchContents m c))),
      (h c main_arg4).trans ((congrFun (after_ops (launchContents m c)) (Proc.devRef .tc main_arg4)).trans (val5_main_arg4 (launchContents m c))),
      (h c main_arg5).trans ((congrFun (after_ops (launchContents m c)) (Proc.devRef .tc main_arg5)).trans (val5_main_arg5 (launchContents m c))),
      (h c main_arg6).trans ((congrFun (after_ops (launchContents m c)) (Proc.devRef .tc main_arg6)).trans (val5_main_arg6 (launchContents m c))),
      (h c main_arg7).trans ((congrFun (after_ops (launchContents m c)) (Proc.devRef .tc main_arg7)).trans (val5_main_arg7 (launchContents m c))),
      (h c main_arg8).trans ((congrFun (after_ops (launchContents m c)) (Proc.devRef .tc main_arg8)).trans (val5_main_arg8 (launchContents m c)))⟩)
    (run_seq scopedRefs_eq scopedSems_eq defs main (fun _ => ops) main_eq (fun _ => ops_sub) m ρ fun _ => ops_fresh)

end Cert.ReferenceIdeal.Value

end
-- ==== Proof.RefPrim.lean ====
/-
  The reference's sorting, searching and indexing operations at coordinates.
-/
module

public import proofs.«01_k».proof.Proof.Gen.ReferenceIdeal
public import proofs.«01_k».proof.Proof.Words
public import Idealize.ShloMosaic.Lib.Pipeline.ValueKit

@[expose] public section

set_option maxRecDepth 16384
set_option maxHeartbeats 1600000

noncomputable section

namespace Cert.ReferenceIdeal.Value

open Cert.ReferenceIdeal Cert.ReferenceIdeal.Gen Idealize.ShloMosaic Idealize.ShloMosaic.TcCoe Idealize.SL.Sem Idealize.ShloMosaic.StableHlo Cert.Span

theorem ofBits_bot : Ideal.ofBits .f32 4286578688#32 = ⊥ := by simp [Ideal.ofBits, Ideal.ieee]

theorem along_two (b : Fin 64) (k i : Fin 512) : (ix2 b k : S64x512.Idx).along 1 i = ix2 b i := by
  funext a
  fin_cases a <;> rfl

/-- The position that the stable sort puts at `k`. -/
theorem sort_at (x : FVec Ideal S64x512 .f32) (b : Fin 64) (k : Fin 512) :
    sortedFrom (fun i i' : Fin 512 => FloatOps.cmpfTotal CmpDirection.gt (x ((ix2 b k : S64x512.Idx).along 1 i))
      (x ((ix2 b k : S64x512.Idx).along 1 i')) == 1#1) k = src (fun i => x (ix2 b i)) k := by
  refine congrArg (fun f => sortedFrom f k) ?_
  funext i i'
  refine (congrArg₂ (fun p q => (FloatOps.cmpfTotal CmpDirection.gt (x p) (x q) == 1#1)) (along_two b k i) (along_two b k i')).trans ?_
  show (BitVec.ofBool (decide (x (ix2 b i') < x (ix2 b i))) == 1#1) = _
  cases decide (x (ix2 b i') < x (ix2 b i)) <;> rfl

theorem sort2_at (x : FVec Ideal S64x512 .f32) (y : IVec S64x512 32) (b : Fin 64) (k : Fin 512) :
    (Host.sort2 S64x512 1 (fun l r => FloatOps.cmpfTotal CmpDirection.gt l.1 r.1) x y).1 (ix2 b k) =
      x (ix2 b (src (fun i => x (ix2 b i)) k)) ∧
    (Host.sort2 S64x512 1 (fun l r => FloatOps.cmpfTotal CmpDirection.gt l.1 r.1) x y).2 (ix2 b k) =
      y (ix2 b (src (fun i => x (ix2 b i)) k)) := by
  unfold Host.sort2
  rw [dif_pos (by decide)]
  have e : (ix2 b k : S64x512.Idx).along 1 (sortedFrom (fun i i' : Fin 512 =>
      FloatOps.cmpfTotal CmpDirection.gt (x ((ix2 b k : S64x512.Idx).along 1 i)) (x ((ix2 b k : S64x512.Idx).along 1 i')) == 1#1) k) =
      ix2 b (src (fun i => x (ix2 b i)) k) := by
    exact (congrArg (fun p : Fin 512 => (ix2 b k : S64x512.Idx).along 1 p) (sort_at x b k)).trans (along_two b k _)
  exact ⟨congrArg x e, congrArg y e⟩

theorem slice_at {α : Type} {K : Nat} (hK : K ≤ 512) (v : S64x512.Idx → α) (h : S64x512.Slices (fun _ => 0) ⟨2, ![64, K]⟩)
    (b : Fin 64) (k : Fin K) :
    extractStridedSlice ⟨2, ![64, K]⟩ (fun _ => 0) v h (ix2 b k) = v (ix2 b ⟨k.val, lt_of_lt_of_le k.isLt hK⟩) := by
  unfold extractStridedSlice
  refine congrArg v (funext fun a => ?_)
  fin_cases a <;> exact Fin.ext (Nat.zero_add _)

/-- The positions the sort carries. -/
def carried : IVec S64x512 32 := fun i => if hd : 1 < S64x512.rank then iotaInDim S64x512 32 ⟨1, hd⟩ i else 0#32

theorem topK_fst {K : Nat} (hK : K ≤ 512) (x : FVec Ideal S64x512 .f32) (h : S64x512.Slices (fun _ => 0) ⟨2, ![64, K]⟩) (b : Fin 64) (k : Fin K) :
    (Host.topK ⟨2, ![64, K]⟩ 1 (FloatOps.cmpfTotal .gt) x h).1 (ix2 b k) =
      x (ix2 b (src (fun i => x (ix2 b i)) ⟨k.val, lt_of_lt_of_le k.isLt hK⟩)) :=
  (slice_at hK (Host.sort2 S64x512 1 (fun l r => FloatOps.cmpfTotal CmpDirection.gt l.1 r.1) x carried).1 h b k).trans
    (sort2_at x carried b _).1

theorem topK_snd {K : Nat} (hK : K ≤ 512) (x : FVec Ideal S64x512 .f32) (h : S64x512.Slices (fun _ => 0) ⟨2, ![64, K]⟩) (b : Fin 64) (k : Fin K) :
    (Host.topK ⟨2, ![64, K]⟩ 1 (FloatOps.cmpfTotal .gt) x h).2 (ix2 b k) =
      BitVec.ofNat 32 (src (fun i => x (ix2 b i)) ⟨k.val, lt_of_lt_of_le k.isLt hK⟩).val := by
  refine (slice_at hK (Host.sort2 S64x512 1 (fun l r => FloatOps.cmpfTotal CmpDirection.gt l.1 r.1) x carried).2 h b k).trans
    ((sort2_at x carried b _).2.trans ?_)
  unfold carried
  rw [dif_pos (by decide)]
  rfl

theorem gather_sep (x : IVec S64x20 32) (idx : IVec S64x3x1 32) (b : Fin 64) (k : Fin 3) (j : Fin 20)
    (hj : idx (ix3 b k 0) = BitVec.ofNat 32 j.val) :
    Host.gather gather_S64x20_S64x3x1_S64x3_n_1_0_0_1_2_11 x idx (ix2 b k) = x (ix2 b j) := by
  have hs : ∀ c, gather_S64x20_S64x3x1_S64x3_n_1_0_0_1_2_11.siIdx (ix2 b k) c = ix3 b k 0 := by
    intro c
    funext a
    fin_cases a
    · rfl
    · rfl
    · exact Subsingleton.elim (α := Fin 1) _ _
  have hjl := j.isLt
  unfold Host.gather
  refine congrArg x (funext fun a => Fin.ext ?_)
  fin_cases a
  · exact Nat.zero_add b.val
  · show min (idx (gather_S64x20_S64x3x1_S64x3_n_1_0_0_1_2_11.siIdx (ix2 b k) ⟨0, by decide⟩)).toInt.toNat 19 + 0 + 0 = j.val
    rw [hs, hj, toInt_ofNat_lt _ (by omega)]
    omega

theorem gather_sep1 (x : IVec S64x20 32) (idx : IVec S64x1x1 32) (b : Fin 64) (k : Fin 1) (j : Fin 20)
    (hj : idx (ix3 b k 0) = BitVec.ofNat 32 j.val) :
    Host.gather gather_S64x20_S64x1x1_S64x1_n_1_0_0_1_2_11 x idx (ix2 b k) = x (ix2 b j) := by
  have hs : ∀ c, gather_S64x20_S64x1x1_S64x1_n_1_0_0_1_2_11.siIdx (ix2 b k) c = ix3 b k 0 := by
    intro c
    funext a
    fin_cases a
    · rfl
    · rfl
    · exact Subsingleton.elim (α := Fin 1) _ _
  have hjl := j.isLt
  unfold Host.gather
  refine congrArg x (funext fun a => Fin.ext ?_)
  fin_cases a
  · exact Nat.zero_add b.val
  · show min (idx (gather_S64x20_S64x1x1_S64x1_n_1_0_0_1_2_11.siIdx (ix2 b k) ⟨0, by decide⟩)).toInt.toNat 19 + 0 + 0 = j.val
    rw [hs, hj, toInt_ofNat_lt _ (by omega)]
    omega

theorem gather_end (x : FVec Ideal S64x512 .f32) (idx : IVec S64x3x10x1 32) (b : Fin 64) (k : Fin 3) (i : Fin 10) (j : Fin 512)
    (hj : idx (ix4 b k i 0) = BitVec.ofNat 32 j.val) :
    Host.gather gather_S64x512_S64x3x10x1_S64x3x10_n_1_0_0_1_3_11 x idx (ix3 b k i) = x (ix2 b j) := by
  have hs : ∀ c, gather_S64x512_S64x3x10x1_S64x3x10_n_1_0_0_1_3_11.siIdx (ix3 b k i) c = ix4 b k i 0 := by
    intro c
    funext a
    fin_cases a
    · rfl
    · rfl
    · rfl
    · exact Subsingleton.elim (α := Fin 1) _ _
  have hjl := j.isLt
  unfold Host.gather
  refine congrArg x (funext fun a => Fin.ext ?_)
  fin_cases a
  · exact Nat.zero_add b.val
  · show min (idx (gather_S64x512_S64x3x10x1_S64x3x10_n_1_0_0_1_3_11.siIdx (ix3 b k i) ⟨0, by decide⟩)).toInt.toNat 511 + 0 + 0 = j.val
    rw [hs, hj, toInt_ofNat_lt _ (by omega)]
    omega

theorem gather_end1 (x : FVec Ideal S64x512 .f32) (idx : IVec S64x1x10x1 32) (b : Fin 64) (k : Fin 1) (i : Fin 10) (j : Fin 512)
    (hj : idx (ix4 b k i 0) = BitVec.ofNat 32 j.val) :
    Host.gather gather_S64x512_S64x1x10x1_S64x1x10_n_1_0_0_1_3_11 x idx (ix3 b k i) = x (ix2 b j) := by
  have hs : ∀ c, gather_S64x512_S64x1x10x1_S64x1x10_n_1_0_0_1_3_11.siIdx (ix3 b k i) c = ix4 b k i 0 := by
    intro c
    funext a
    fin_cases a
    · rfl
    · rfl
    · rfl
    · exact Subsingleton.elim (α := Fin 1) _ _
  have hjl := j.isLt
  unfold Host.gather
  refine congrArg x (funext fun a => Fin.ext ?_)
  fin_cases a
  · exact Nat.zero_add b.val
  · show min (idx (gather_S64x512_S64x1x10x1_S64x1x10_n_1_0_0_1_3_11.siIdx (ix3 b k i) ⟨0, by decide⟩)).toInt.toNat 511 + 0 + 0 = j.val
    rw [hs, hj, toInt_ofNat_lt _ (by omega)]
    omega

/-! ### Arg-max -/

theorem mem_fiber {s t : Shape} {axes : List (Fin s.rank)} {α β : Type} (x : s.Idx → α) (y : s.Idx → β) (h : s.ReducesTo axes t)
    (j : t.Idx) (p : α × β) : p ∈ Host.argReduceFiber x y h j ↔ ∃ i, h.drop i = j ∧ p = (x i, y i) := by
  unfold Host.argReduceFiber
  simp only [List.mem_map, List.mem_filter, List.mem_finRange, true_and, decide_eq_true_eq]
  constructor
  · rintro ⟨n, hn, rfl⟩
    exact ⟨_, hn, rfl⟩
  · rintro ⟨i, hi, rfl⟩
    exact ⟨s.rowMajor i, by simpa using hi, by simp⟩

theorem best_bit (a b : BitVec 1 × BitVec 32) :
    (reducer_argmax_i1_i32 a b = a ∨ reducer_argmax_i1_i32 a b = b) ∧
      Better BitVec.toNat (reducer_argmax_i1_i32 a b) a ∧ Better BitVec.toNat (reducer_argmax_i1_i32 a b) b := by
  obtain ⟨a1, a2⟩ := a
  obtain ⟨b1, b2⟩ := b
  have h10 : (1#1).toNat = 1 := rfl
  have h00 : (0#1).toNat = 0 := rfl
  by_cases h : a2.slt b2 = true
  · have h' := h
    rw [BitVec.slt_iff_toInt_lt] at h'
    rcases bit_cases a1 with rfl | rfl <;> rcases bit_cases b1 with rfl | rfl <;>
      simp [reducer_argmax_i1_i32, IntOp.cmpi, IntOp.ori, IntOp.andi, Scalar.select, h, Better, h'.le]
  · have h' := h
    rw [BitVec.slt_iff_toInt_lt, not_lt] at h'
    rcases bit_cases a1 with rfl | rfl <;> rcases bit_cases b1 with rfl | rfl <;>
      simp [reducer_argmax_i1_i32, IntOp.cmpi, IntOp.ori, IntOp.andi, Scalar.select, h, Better, h']

theorem best_float (a b : EReal × BitVec 32) :
    (reducer_argmax_f32_i32 (F := Ideal) a b = a ∨ reducer_argmax_f32_i32 (F := Ideal) a b = b) ∧
      Better id (reducer_argmax_f32_i32 (F := Ideal) a b) a ∧ Better id (reducer_argmax_f32_i32 (F := Ideal) a b) b := by
  obtain ⟨a1, a2⟩ := a
  obtain ⟨b1, b2⟩ := b
  have hgt : ∀ x y : EReal, FloatOps.cmpf (F := Ideal) (φ := .f32) .ogt x y = BitVec.ofBool (decide (y < x)) := fun _ _ => rfl
  have heq : ∀ x y : EReal, FloatOps.cmpf (F := Ideal) (φ := .f32) .oeq x y = BitVec.ofBool (decide (x = y)) := fun _ _ => rfl
  have hne : ∀ x y : EReal, FloatOps.cmpf (F := Ideal) (φ := .f32) .une x y = BitVec.ofBool (decide (x ≠ y)) := fun _ _ => rfl
  by_cases h : a2.slt b2 = true
  · have h' := h
    rw [BitVec.slt_iff_toInt_lt] at h'
    rcases lt_trichotomy a1 b1 with hl | rfl | hl
    · simp [reducer_argmax_f32_i32, hgt, heq, hne, IntOp.cmpi, IntOp.ori, IntOp.andi, Scalar.select, h, Better, hl, hl.ne, hl.not_gt]
    · simp [reducer_argmax_f32_i32, hgt, heq, hne, IntOp.cmpi, IntOp.ori, IntOp.andi, Scalar.select, h, Better, h'.le]
    · simp [reducer_argmax_f32_i32, hgt, heq, hne, IntOp.cmpi, IntOp.ori, IntOp.andi, Scalar.select, h, Better, hl, hl.ne']
  · have h' := h
    rw [BitVec.slt_iff_toInt_lt, not_lt] at h'
    rcases lt_trichotomy a1 b1 with hl | rfl | hl
    · simp [reducer_argmax_f32_i32, hgt, heq, hne, IntOp.cmpi, IntOp.ori, IntOp.andi, Scalar.select, h, Better, hl, hl.ne, hl.not_gt]
    · simp [reducer_argmax_f32_i32, hgt, heq, hne, IntOp.cmpi, IntOp.ori, IntOp.andi, Scalar.select, h, Better, h']
    · simp [reducer_argmax_f32_i32, hgt, heq, hne, IntOp.cmpi, IntOp.ori, IntOp.andi, Scalar.select, h, Better, hl, hl.ne']

end Cert.ReferenceIdeal.Value
-- ==== Proof.RefPrim2.lean ====
/-
  The reference's arg-max, any and running-minimum operations at coordinates.
-/
module

public import proofs.«01_k».proof.Proof.RefPrim

@[expose] public section

set_option maxRecDepth 16384
set_option maxHeartbeats 1600000

noncomputable section

namespace Cert.ReferenceIdeal.Value

open Cert.ReferenceIdeal Cert.ReferenceIdeal.Gen Idealize.ShloMosaic Idealize.ShloMosaic.TcCoe Idealize.SL.Sem Idealize.ShloMosaic.StableHlo Cert.Span

/-- The arg-max along the last of three axes, for a body that keeps the better of two pairs. -/
theorem argmax_last {α κt : Type} [LinearOrder κt] (κ : α → κt) {K n : Nat} (hn : n < 2147483648)
    (f : α × BitVec 32 → α × BitVec 32 → α × BitVec 32)
    (hf : ∀ a b, (f a b = a ∨ f a b = b) ∧ Better κ (f a b) a ∧ Better κ (f a b) b)
    (x : (⟨3, ![64, K, n]⟩ : Shape).Idx → α) (y : IVec ⟨3, ![64, K, n]⟩ 32) (z : S_.Idx → α) (iz : IVec S_ 32)
    (hy : ∀ b k i, y (ix3 b k i) = BitVec.ofNat 32 i.val) (hiz : ∀ u, iz u = 0#32) (hz : ∀ u a, κ (z u) ≤ κ a)
    (h : (⟨3, ![64, K, n]⟩ : Shape).ReducesTo [2] ⟨2, ![64, K]⟩) (b : Fin 64) (k : Fin K) (d : Fin n) (hd : d.val = 0) :
    (Host.reduce2 f x y z iz h h_S_ (ix2 b k)).2 =
      BitVec.ofNat 32 (first (fun i => ∀ i', κ (x (ix3 b k i')) ≤ κ (x (ix3 b k i))) d).val := by
  rw [Host.reduce2_eq_foldl_fiber, hiz]
  refine foldl_argmax κ hn f hf (fun i => x (ix3 b k i)) d hd _ (hz _) _ fun p => ?_
  rw [mem_fiber]
  constructor
  · rintro ⟨i, hi, rfl⟩
    obtain ⟨l, rfl⟩ := (h.fiber_r3_a2 (ix2 b k) i).mp hi
    exact ⟨l, Prod.ext rfl (hy b k l)⟩
  · rintro ⟨l, rfl⟩
    exact ⟨ix3 b k l, (h.fiber_r3_a2 (ix2 b k) _).mpr ⟨l, rfl⟩, Prod.ext rfl (hy b k l).symm⟩

theorem argmax_bit {K n : Nat} (hn : n < 2147483648)
    (x : IVec ⟨3, ![64, K, n]⟩ 1) (y : IVec ⟨3, ![64, K, n]⟩ 32) (z : IVec S_ 1) (iz : IVec S_ 32)
    (hy : ∀ b k i, y (ix3 b k i) = BitVec.ofNat 32 i.val) (hiz : ∀ u, iz u = 0#32) (hz : ∀ u, z u = 0#1)
    (h : (⟨3, ![64, K, n]⟩ : Shape).ReducesTo [2] ⟨2, ![64, K]⟩) (b : Fin 64) (k : Fin K) (d : Fin n) (hd : d.val = 0) :
    (Host.reduce2 reducer_argmax_i1_i32 x y z iz h h_S_ (ix2 b k)).2 =
      BitVec.ofNat 32 (first (fun i => ∀ i', (x (ix3 b k i')).toNat ≤ (x (ix3 b k i)).toNat) d).val :=
  argmax_last BitVec.toNat hn _ best_bit x y z iz hy hiz (fun u a => by rw [hz]; exact Nat.zero_le _) h b k d hd

theorem argmax_float {K n : Nat} [NeZero n] (hn : n < 2147483648)
    (x : FVec Ideal ⟨3, ![64, K, n]⟩ .f32) (y : IVec ⟨3, ![64, K, n]⟩ 32) (z : FVec Ideal S_ .f32) (iz : IVec S_ 32)
    (hy : ∀ b k i, y (ix3 b k i) = BitVec.ofNat 32 i.val) (hiz : ∀ u, iz u = 0#32) (hz : ∀ u, z u = (⊥ : EReal))
    (h : (⟨3, ![64, K, n]⟩ : Shape).ReducesTo [2] ⟨2, ![64, K]⟩) (b : Fin 64) (k : Fin K) :
    (Host.argReduce reducer_argmax_f32_i32 x y z iz h h_S_ (ix2 b k)).2 =
      BitVec.ofNat 32 (am (fun i => (x (ix3 b k i) : EReal))).val := by
  rw [Ideal.argReduce_eq_reduce2]
  exact argmax_last (α := EReal) id hn _ best_float x y z iz hy hiz (fun u a => by rw [hz]; exact bot_le) h b k 0 (by simp)

/-- Any, then the first, or a default: the first position where the bit is set. -/
theorem any_first {n : Nat} (c : Fin n → BitVec 1) (d0 d : Fin n) (w : BitVec 32)
    (hw : w = BitVec.ofNat 32 (first (fun i => ∀ i', (c i').toNat ≤ (c i).toNat) d0).val) :
    Scalar.select (Finset.univ.fold IntOp.ori 0#1 c) w (BitVec.ofNat 32 d.val) = BitVec.ofNat 32 (first (fun i => c i = 1#1) d).val := by
  classical
  have hfold : ∀ s : Finset (Fin n), s.fold IntOp.ori 0#1 c = if ∃ i ∈ s, c i = 1#1 then 1#1 else 0#1 := by
    intro s
    induction s using Finset.induction_on with
    | empty => simp
    | insert a s ha ih =>
      rw [Finset.fold_insert ha, ih]
      rcases bit_cases (c a) with h | h
      · have : (∃ i ∈ insert a s, c i = 1#1) ↔ ∃ i ∈ s, c i = 1#1 := by simp [h]
        rw [if_congr this rfl rfl, h]
        split <;> rfl
      · have hin : ∃ i ∈ insert a s, c i = 1#1 := ⟨a, Finset.mem_insert_self _ _, h⟩
        rw [if_pos hin, h]
        split <;> rfl
  rw [hfold]
  by_cases hex : ∃ i, c i = 1#1
  · rw [if_pos (by simpa using hex), select_one, hw]
    obtain ⟨i0, hi0⟩ := hex
    obtain ⟨h1, h2⟩ := first_spec (p := fun i => c i = 1#1) (d := d) ⟨i0, hi0⟩
    rw [first_eq (i := first (fun i => c i = 1#1) d)]
    · intro i'
      rw [h1]
      have := (c i').isLt
      show _ ≤ 1
      omega
    · intro j hj
      refine h2 j ?_
      have := hj i0
      rw [hi0] at this
      rcases bit_cases (c j) with h | h
      · rw [h] at this
        exact absurd this (by decide)
      · exact h
  · rw [if_neg (by simpa using hex), select_zero, first_none (fun i hi => hex ⟨i, hi⟩)]

/-! ### The running minimum -/

theorem foldl_minsi_pos {ι : Type} (g : ι → BitVec 32) (l : List ι) : ∀ z : BitVec 32,
    0 < (l.foldl (fun r n => IntOp.minsi r (g n)) z).toInt ↔ 0 < z.toInt ∧ ∀ n ∈ l, 0 < (g n).toInt := by
  induction l with
  | nil => simp
  | cons a l ih =>
    intro z
    rw [List.foldl_cons, ih]
    have hm : 0 < (IntOp.minsi z (g a)).toInt ↔ 0 < z.toInt ∧ 0 < (g a).toInt := by
      unfold IntOp.minsi
      split
      · rename_i h
        rw [BitVec.slt_iff_toInt_lt] at h
        omega
      · rename_i h
        rw [BitVec.slt_iff_toInt_lt] at h
        omega
    rw [hm]
    simp [and_assoc]

theorem running_min {n : Nat} (x : IVec ⟨2, ![64, n + 1]⟩ 32) (init : IVec S_ 32) (hinit : ∀ u, init u = 2147483647#32)
    (h : (⟨2, ![64, n + 1]⟩ : Shape).ReduceWindows ![1, n + 1] ![1, 1] ![0, n] ![0, 0] ⟨2, ![64, n + 1]⟩) (b : Fin 64) (k : Fin (n + 1)) :
    0 < (Host.reduceWindow IntOp.minsi ![1, n + 1] ![1, 1] ![0, n] ![0, 0] x init h h_S_ (ix2 b k)).toInt ↔
      ∀ k' : Fin (n + 1), k' ≤ k → 0 < (x (ix2 b k')).toInt := by
  unfold Host.reduceWindow
  simp only
  rw [foldl_minsi_pos, hinit, toInt_max]
  have hk := k.isLt
  constructor
  · rintro ⟨-, hall⟩ k' hk'
    have hkv : k'.val ≤ k.val := hk'
    have hw := hall ((⟨2, ![1, n + 1]⟩ : Shape).rowMajor (ix2 0 ⟨k'.val + n - k.val, by omega⟩)) (List.mem_finRange _)
    rw [dif_pos] at hw
    · convert hw using 3
      funext a
      apply Fin.ext
      fin_cases a
      · simp
      · simp
        omega
    · intro a
      fin_cases a
      · simp
      · simp
        omega
  · intro hall
    refine ⟨by decide, fun m _ => ?_⟩
    split
    · rename_i hin
      have h1 := hin 1
      have h0 := hin 0
      simp at h1 h0
      have hm := ((⟨2, ![1, n + 1]⟩ : Shape).rowMajor.symm m 1).isLt
      convert hall ⟨k.val + ((⟨2, ![1, n + 1]⟩ : Shape).rowMajor.symm m 1).val - n, by simp at hm; omega⟩ ?_ using 3
      · funext a
        apply Fin.ext
        fin_cases a
        · have hm0 := ((⟨2, ![1, n + 1]⟩ : Shape).rowMajor.symm m 0).isLt
          simp at hm0 ⊢
        · simp
      · show _ ≤ k.val
        simp at hm ⊢
        omega
    · exact by decide

end Cert.ReferenceIdeal.Value
-- ==== Proof.RefRowA.lean ====
/-
  The reference's host operations at coordinates: the logits, the masked start logits and the starts.
-/
module

public import proofs.«01_k».proof.Proof.RefTerms
public import proofs.«01_k».proof.Proof.RefPrim2
public import Idealize.ShloMosaic.Lib.Pipeline.ValueKit

@[expose] public section

set_option maxRecDepth 16384
set_option maxHeartbeats 1600000

noncomputable section

namespace Cert.ReferenceIdeal.Value

open Cert.ReferenceIdeal Cert.ReferenceIdeal.Gen Idealize.ShloMosaic Idealize.ShloMosaic.TcCoe Idealize.SL.Sem Idealize.ShloMosaic.StableHlo Cert.Span

variable (V0 : Val Ideal)

abbrev bX : Vec Ideal S64x512x1024 .f32 := V0 (Proc.devRef .tc main_arg0)
abbrev bW : Vec Ideal S1024x4 .f32 := V0 (Proc.devRef .tc main_arg1)
abbrev bB : Vec Ideal S4 .f32 := V0 (Proc.devRef .tc main_arg2)
abbrev bQ : Vec Ideal S64x20 .i32 := V0 (Proc.devRef .tc main_arg3)
abbrev bT : Vec Ideal S64 .i32 := V0 (Proc.devRef .tc main_arg4)

/-- The logit of one head at a position of a sample. -/
def lg (head : Fin 4) (b : Fin 64) (i : Fin 512) : EReal :=
  (∑ k : Fin 1024, bX V0 (ix3 b i k) * bW V0 (ix2 k head)) + bB V0 (ix1 head)

theorem nonneg_slt (n : Nat) (h : n < 2147483648) : IntOp.cmpi .slt (BitVec.ofNat 32 n) 0#32 = 0#1 := by
  have : (BitVec.ofNat 32 n).slt 0#32 = false := by
    rw [Bool.eq_false_iff]
    intro hc
    rw [BitVec.slt_iff_toInt_lt, toInt_ofNat_lt _ h] at hc
    have h0 : (0#32).toInt = 0 := rfl
    omega
  simp [IntOp.cmpi, this]

theorem r5 (b : Fin 64) (i : Fin 512) (h : Fin 4) : (r_v5 V0 : Vec Ideal S64x512x4 .f32) (ix3 b i h) = lg V0 h b i := by
  unfold lg
  pointwise [r_v5, r_v4, r_v3, r_v2]

theorem r7 (b : Fin 64) (i : Fin 512) : (r_v7 V0 : Vec Ideal S64x512 .f32) (ix2 b i) = lg V0 0 b i := by
  rw [← r5]
  pointwise [r_v7, r_v6]

theorem r9 (b : Fin 64) (i : Fin 512) : (r_v9 V0 : Vec Ideal S64x512 .f32) (ix2 b i) = lg V0 1 b i := by
  rw [← r5]
  pointwise [r_v9, r_v8]

theorem r11 (b : Fin 64) (i : Fin 512) : (r_v11 V0 : Vec Ideal S64x512 .f32) (ix2 b i) = lg V0 2 b i := by
  rw [← r5]
  pointwise [r_v11, r_v10]

theorem r13 (b : Fin 64) (i : Fin 512) : (r_v13 V0 : Vec Ideal S64x512 .f32) (ix2 b i) = lg V0 3 b i := by
  rw [← r5]
  pointwise [r_v13, r_v12]

theorem r17 (b : Fin 64) : (r_v17 V0 : Vec Ideal S64 .f32) (ix1 b) = lg V0 0 b 0 := by
  rw [← r7]
  pointwise [r_v17, r_v16, r_v15, r_v14, r_cst]

theorem r24 (b : Fin 64) (i : Fin 512) : (r_v24 V0 : Vec Ideal S64x512 .f32) (ix2 b i) = mask (lg V0 0 b) (bT V0 (ix1 b)) i := by
  unfold mask
  rw [← r7]
  pointwise [r_v24, r_v23, r_v22, r_v21, r_v20, r_v19, r_v18, r_call0_v2, r_call0_v1, r_call0_v0, r_cst_0]
  exact congrArg _ ofBits_bot

/-- A row's separators. -/
def sq (b : Fin 64) (k : Fin 20) : BitVec 32 := bQ V0 (ix2 b k)

/-- The masked start logits of a sample. -/
def hx (b : Fin 64) : Fin 512 → EReal := mask (lg V0 0 b) (bT V0 (ix1 b))

/-- The `k`-th start. -/
def hs (b : Fin 64) (k : Fin 3) : Fin 512 := src (hx V0 b) ⟨k.val, by omega⟩

theorem row24 (b : Fin 64) : (fun i => (r_v24 V0 : Vec Ideal S64x512 .f32) (ix2 b i)) = hx V0 b := by
  funext i
  rw [r24]
  rfl

theorem rvalues (b : Fin 64) (k : Fin 3) : (r_values V0 : Vec Ideal S64x3 .f32) (ix2 b k) = hx V0 b (hs V0 b k) := by
  unfold r_values hs
  rw [topK_fst (by decide), row24]
  exact congrFun (row24 V0 b) _

theorem rindices (b : Fin 64) (k : Fin 3) : (r_indices V0 : Vec Ideal S64x3 .i32) (ix2 b k) = BitVec.ofNat 32 (hs V0 b k).val := by
  unfold r_indices hs
  rw [topK_snd (by decide), row24]

theorem r34 (b : Fin 64) (k : Fin 3) (i : Fin 20) :
    (r_v34 V0 : Vec Ideal S64x3x20 .i1) (ix3 b k i) = cond (sq V0 b) (BitVec.ofNat 32 (hs V0 b k).val) i := by
  unfold Span.cond sq
  rw [← rindices]
  pointwise [r_v34, r_v33, r_v32, r_v31, r_v30, r_v29, r_v28, r_v27, r_v26, r_v25, r_c]

theorem r35 (b : Fin 64) (k : Fin 3) :
    (r_v35 V0 : Vec Ideal S64x3 .i1) (ix2 b k) = Finset.univ.fold IntOp.ori 0#1 (cond (sq V0 b) (BitVec.ofNat 32 (hs V0 b k).val)) := by
  have e : cond (sq V0 b) (BitVec.ofNat 32 (hs V0 b k).val) = fun i => (r_v34 V0 : Vec Ideal S64x3x20 .i1) (ix3 b k i) := by
    funext i
    rw [r34]
  rw [e]
  pointwise [r_v35, r_c_1]

theorem r36 (b : Fin 64) (k : Fin 3) :
    (r_v36 V0 : Vec Ideal S64x3 .i32) (ix2 b k) = BitVec.ofNat 32 (first (fun i =>
      ∀ i', (cond (sq V0 b) (BitVec.ofNat 32 (hs V0 b k).val) i').toNat ≤ (cond (sq V0 b) (BitVec.ofNat 32 (hs V0 b k).val) i).toNat) 0).val := by
  have h := argmax_bit (K := 3) (n := 20) (by decide) (r_v34 V0) (r_call1_v0 V0) (r_call1_c V0) (r_call1_c_0 V0)
    (fun _ _ _ => rfl) (fun _ => rfl) (fun _ => rfl) reducesTo_S64x3x20_S64x3_d2 b k 0 rfl
  simp only [r34] at h
  exact h

/-- The sentence end of the `k`-th start. -/
def hj (b : Fin 64) (k : Fin 3) : Fin 20 := jidx (sq V0 b) (BitVec.ofNat 32 (hs V0 b k).val)

theorem r37 (b : Fin 64) (k : Fin 3) : (r_v37 V0 : Vec Ideal S64x3 .i32) (ix2 b k) = BitVec.ofNat 32 (hj V0 b k).val := by
  unfold hj jidx
  rw [← any_first _ 0 19 _ (r36 V0 b k), ← r35]
  pointwise [r_v37, r_call2_v2, r_call2_v1, r_call2_v0, r_c_2]
  rfl

theorem r44 (b : Fin 64) (k : Fin 3) :
    (r_v44 V0 : Vec Ideal S64x3 .i32) (ix2 b k) = endg (sq V0 b) (BitVec.ofNat 32 (hs V0 b k).val) := by
  unfold r_v44
  refine gather_sep _ _ b k (hj V0 b k) ?_
  have e : (r_v43 V0 : Vec Ideal S64x3x1 .i32) (ix3 b k 0) =
      Scalar.select (IntOp.cmpi .slt ((r_v37 V0 : Vec Ideal S64x3 .i32) (ix2 b k)) 0#32)
        (IntOp.addi ((r_v37 V0 : Vec Ideal S64x3 .i32) (ix2 b k)) 20#32) ((r_v37 V0 : Vec Ideal S64x3 .i32) (ix2 b k)) := by
    pointwise [r_v43, r_v42, r_v41, r_v40, r_v39, r_v38, r_c_3, r_c_4]
  rw [e, r37]
  have := (hj V0 b k).isLt
  rw [show IntOp.cmpi .slt (BitVec.ofNat 32 (hj V0 b k).val) 0#32 = 0#1 from nonneg_slt _ (by omega), select_zero]

theorem r49 (b : Fin 64) (k : Fin 3) :
    (r_v49 V0 : Vec Ideal S64x3 .i1) (ix2 b k) =
      ok (sq V0 b) (lg V0 0 b 0) (hx V0 b (hs V0 b k)) (BitVec.ofNat 32 (hs V0 b k).val) := by
  unfold ok
  rw [← r44, ← rindices, ← rvalues, ← r17]
  pointwise [r_v49, r_v48, r_v47, r_v46, r_v45]

/-! ### The window of end positions -/

theorem r53 (b : Fin 64) (k : Fin 3) :
    (r_v53 V0 : Vec Ideal S64x3 .i1) (ix2 b k) = 1#1 ↔ ∀ k' : Fin 3, k' ≤ k → (r_v49 V0 : Vec Ideal S64x3 .i1) (ix2 b k') = 1#1 := by
  have e : (r_v53 V0 : Vec Ideal S64x3 .i1) (ix2 b k) = IntOp.cmpi .sgt ((r_v51 V0 : Vec Ideal S64x3 .i32) (ix2 b k)) 0#32 := by
    pointwise [r_v53, r_v52, r_c_5]
  have h : (0 < ((r_v51 V0 : Vec Ideal S64x3 .i32) (ix2 b k)).toInt) ↔ _ :=
    running_min (n := 2) (r_v50 V0) (r_call3_v0 V0) (fun _ => rfl) reduceWindows_S64x3_S64x3_w1s1p0_0_w3s1p2_0 b k
  have hx : ∀ k', (0 < ((r_v50 V0 : Vec Ideal S64x3 .i32) (ix2 b k')).toInt) ↔ (r_v49 V0 : Vec Ideal S64x3 .i1) (ix2 b k') = 1#1 := by
    intro k'
    have e50 : (r_v50 V0 : Vec Ideal S64x3 .i32) (ix2 b k') = ((r_v49 V0 : Vec Ideal S64x3 .i1) (ix2 b k')).setWidth 32 := rfl
    rw [e50]
    rcases bit_cases ((r_v49 V0 : Vec Ideal S64x3 .i1) (ix2 b k')) with h' | h' <;> rw [h'] <;> decide
  rw [e]
  have hc : ∀ a : BitVec 32, IntOp.cmpi .sgt a 0#32 = 1#1 ↔ 0 < a.toInt := by
    intro a
    have h0 : (0#32).toInt = 0 := rfl
    rw [← h0, ← BitVec.slt_iff_toInt_lt]
    unfold IntOp.cmpi
    cases (0#32).slt a <;> simp
  rw [hc, h]
  exact forall_congr' fun k' => imp_congr_right fun _ => hx k'

/-- The window of end logits of the `k`-th start. -/
def hw (b : Fin 64) (k : Fin 3) (i : Fin 10) : EReal :=
  Scalar.select (IntOp.cmpi .slt (BitVec.ofNat 32 ((hs V0 b k).val + i.val)) (cap (sq V0 b) (BitVec.ofNat 32 (hs V0 b k).val)))
    (lg V0 1 b ⟨min ((hs V0 b k).val + i.val) 511, by omega⟩) ⊥

theorem r63 (b : Fin 64) (k : Fin 3) (i : Fin 10) :
    (r_v63 V0 : Vec Ideal S64x3x10 .i32) (ix3 b k i) = BitVec.ofNat 32 ((hs V0 b k).val + i.val) := by
  have e : (r_v63 V0 : Vec Ideal S64x3x10 .i32) (ix3 b k i) =
      IntOp.addi ((r_indices V0 : Vec Ideal S64x3 .i32) (ix2 b k)) (BitVec.ofNat 32 i.val) := by
    pointwise [r_v63, r_v62, r_v61, r_v60, r_v59, r_v58, r_v57]
  rw [e, rindices, BitVec.ofNat_add]
  rfl

theorem clip (n : Nat) (h : n < 1024) :
    IntOp.minsi 511#32 (IntOp.maxsi 0#32 (BitVec.ofNat 32 n)) = BitVec.ofNat 32 (min n 511) := by
  have h0 : (0#32).toInt = 0 := rfl
  have h5 : (511#32).toInt = 511 := rfl
  have hn := toInt_ofNat_lt n (by omega)
  have hmx : IntOp.maxsi 0#32 (BitVec.ofNat 32 n) = BitVec.ofNat 32 n := by
    unfold IntOp.maxsi
    split
    · rename_i hc
      rw [BitVec.slt_iff_toInt_lt, hn] at hc
      omega
    · rfl
  rw [hmx]
  unfold IntOp.minsi
  split
  · rename_i hc
    rw [BitVec.slt_iff_toInt_lt, hn, h5] at hc
    rw [min_eq_right (by omega)]
  · rename_i hc
    rw [BitVec.slt_iff_toInt_lt, hn, h5] at hc
    rw [min_eq_left (by omega)]

theorem r74 (b : Fin 64) (k : Fin 3) (i : Fin 10) :
    (r_v74 V0 : Vec Ideal S64x3x10 .f32) (ix3 b k i) = lg V0 1 b ⟨min ((hs V0 b k).val + i.val) 511, by omega⟩ := by
  rw [← r9]
  unfold r_v74
  refine gather_end _ _ b k i ⟨min ((hs V0 b k).val + i.val) 511, by omega⟩ ?_
  have e : (r_v73 V0 : Vec Ideal S64x3x10x1 .i32) (ix4 b k i 0) =
      Scalar.select (IntOp.cmpi .slt ((r_v67 V0 : Vec Ideal S64x3x10 .i32) (ix3 b k i)) 0#32)
        (IntOp.addi ((r_v67 V0 : Vec Ideal S64x3x10 .i32) (ix3 b k i)) 512#32) ((r_v67 V0 : Vec Ideal S64x3x10 .i32) (ix3 b k i)) := by
    pointwise [r_v73, r_v72, r_v71, r_v70, r_v69, r_v68, r_c_9, r_c_10]
  have e' : (r_v67 V0 : Vec Ideal S64x3x10 .i32) (ix3 b k i) =
      IntOp.minsi 511#32 (IntOp.maxsi 0#32 ((r_v63 V0 : Vec Ideal S64x3x10 .i32) (ix3 b k i))) := by
    pointwise [r_v67, r_call4_v4, r_call4_v3, r_call4_v2, r_call4_v1, r_call4_v0, r_c_7, r_c_8]
    rfl
  have := (hs V0 b k).isLt
  rw [e, e', r63, clip _ (by omega), nonneg_slt _ (by omega), select_zero]

theorem r75 (b : Fin 64) (k : Fin 3) (i : Fin 10) : (r_v75 V0 : Vec Ideal S64x3x10 .f32) (ix3 b k i) = hw V0 b k i := by
  unfold hw cap
  rw [← r74, ← r44, ← r63, ← rindices, ← ofBits_bot]
  pointwise [r_v75, r_v66, r_v65, r_v64, r_v56, r_v55, r_v54, r_c_6, r_call5_v2, r_call5_v1, r_call5_v0, r_cst_11]
  rfl

theorem r76 (b : Fin 64) (k : Fin 3) :
    (r_v76 V0 : Vec Ideal S64x3 .i32) (ix2 b k) = BitVec.ofNat 32 (am (hw V0 b k)).val := by
  have h := argmax_float (K := 3) (n := 10) (by decide) (r_v75 V0) (r_call6_v0 V0) (r_call6_cst V0) (r_call6_c V0)
    (fun _ _ _ => rfl) (fun _ => rfl) (fun _ => ofBits_bot) reducesTo_S64x3x10_S64x3_d2 b k
  simp only [r75] at h
  exact h

/-! ### The table -/

theorem r83 (b : Fin 64) (k : Fin 3) (r : Fin 3) :
    (r_v83 V0 : Vec Ideal S64x3x3 .i32) (ix3 b k r) =
      Scalar.select ((r_v53 V0 : Vec Ideal S64x3 .i1) (ix2 b k))
        (if r.val = 2 then BitVec.ofNat 32 (hj V0 b k).val
          else if r.val = 1 then BitVec.ofNat 32 ((hs V0 b k).val + (am (hw V0 b k)).val) else BitVec.ofNat 32 (hs V0 b k).val) 0#32 := by
  rw [BitVec.ofNat_add, ← r37, ← r76, ← rindices]
  fin_cases r
  all_goals
    pointwise [r_v83, r_v82, r_v81, r_v80, r_v79, r_v78, r_v77, r_call7_v3, r_call7_v2, r_call7_v1, r_call7_v0, r_c_12]
    try rfl

theorem r107 (b : Fin 64) : (r_v107 V0 : Vec Ideal S64 .i1) (ix1 b) = IntOp.cmpi .sgt (sq V0 b 0) 0#32 := by
  unfold sq
  pointwise [r_v107, r_v106, r_v105, r_v104, r_c_18]

theorem r108 (b : Fin 64) (k : Fin 3) (r : Fin 3) :
    (r_v108 V0 : Vec Ideal S64x3x3 .i32) (ix3 b k r) =
      Scalar.select (IntOp.cmpi .sgt (sq V0 b 0) 0#32) ((r_v83 V0 : Vec Ideal S64x3x3 .i32) (ix3 b k r)) 0#32 := by
  rw [← r107]
  pointwise [r_v108, r_call11_v3, r_call11_v2, r_call11_v1, r_call11_v0, r_c_19]
  try rfl

end Cert.ReferenceIdeal.Value
-- ==== Proof.RefRowB.lean ====
/-
  The reference's host operations at coordinates for the answer heads: the one start, its end, the table and the gap.
-/
module

public import proofs.«01_k».proof.Proof.RefRowA

@[expose] public section

set_option maxRecDepth 16384
set_option maxHeartbeats 1600000

noncomputable section

namespace Cert.ReferenceIdeal.Value

open Cert.ReferenceIdeal Cert.ReferenceIdeal.Gen Idealize.ShloMosaic Idealize.ShloMosaic.TcCoe Idealize.SL.Sem Idealize.ShloMosaic.StableHlo Cert.Span

variable (V0 : Val Ideal)

theorem r113 (b : Fin 64) : (r_v113 V0 : Vec Ideal S64 .f32) (ix1 b) = lg V0 2 b 0 := by
  rw [← r11]
  pointwise [r_v113, r_v112, r_v111, r_v110, r_cst_21]

theorem r120 (b : Fin 64) (i : Fin 512) : (r_v120 V0 : Vec Ideal S64x512 .f32) (ix2 b i) = mask (lg V0 2 b) (bT V0 (ix1 b)) i := by
  unfold mask
  rw [← r11]
  pointwise [r_v120, r_v119, r_v118, r_v117, r_v116, r_v115, r_v114, r_call13_v2, r_call13_v1, r_call13_v0, r_cst_22]
  exact congrArg _ ofBits_bot

/-- The masked start logits of a sample. -/
def gx (b : Fin 64) : Fin 512 → EReal := mask (lg V0 2 b) (bT V0 (ix1 b))

/-- The `k`-th start. -/
def gs (b : Fin 64) (k : Fin 1) : Fin 512 := src (gx V0 b) ⟨k.val, by omega⟩

theorem row120 (b : Fin 64) : (fun i => (r_v120 V0 : Vec Ideal S64x512 .f32) (ix2 b i)) = gx V0 b := by
  funext i
  rw [r120]
  rfl

theorem rvalues23 (b : Fin 64) (k : Fin 1) : (r_values_23 V0 : Vec Ideal S64x1 .f32) (ix2 b k) = gx V0 b (gs V0 b k) := by
  obtain rfl : k = 0 := Subsingleton.elim _ _
  unfold r_values_23 gs
  rw [topK_fst (by decide), row120]
  exact congrFun (row120 V0 b) _

theorem rindices24 (b : Fin 64) (k : Fin 1) : (r_indices_24 V0 : Vec Ideal S64x1 .i32) (ix2 b k) = BitVec.ofNat 32 (gs V0 b k).val := by
  obtain rfl : k = 0 := Subsingleton.elim _ _
  unfold r_indices_24 gs
  rw [topK_snd (by decide), row120]

theorem r128 (b : Fin 64) (k : Fin 1) (i : Fin 20) :
    (r_v128 V0 : Vec Ideal S64x1x20 .i1) (ix3 b k i) = cond (sq V0 b) (BitVec.ofNat 32 (gs V0 b k).val) i := by
  obtain rfl : k = 0 := Subsingleton.elim _ _
  unfold Span.cond sq
  rw [← rindices24]
  pointwise [r_v128, r_v127, r_v126, r_v125, r_v124, r_v123, r_v122, r_v121, r_v122, r_v121, r_c_25]

theorem r129 (b : Fin 64) (k : Fin 1) :
    (r_v129 V0 : Vec Ideal S64x1 .i1) (ix2 b k) = Finset.univ.fold IntOp.ori 0#1 (cond (sq V0 b) (BitVec.ofNat 32 (gs V0 b k).val)) := by
  obtain rfl : k = 0 := Subsingleton.elim _ _
  have e : cond (sq V0 b) (BitVec.ofNat 32 (gs V0 b 0).val) = fun i => (r_v128 V0 : Vec Ideal S64x1x20 .i1) (ix3 b 0 i) := by
    funext i
    rw [r128]
  rw [e]
  pointwise [r_v129, r_c_26]

theorem r130 (b : Fin 64) (k : Fin 1) :
    (r_v130 V0 : Vec Ideal S64x1 .i32) (ix2 b k) = BitVec.ofNat 32 (first (fun i =>
      ∀ i', (cond (sq V0 b) (BitVec.ofNat 32 (gs V0 b k).val) i').toNat ≤ (cond (sq V0 b) (BitVec.ofNat 32 (gs V0 b k).val) i).toNat) 0).val := by
  obtain rfl : k = 0 := Subsingleton.elim _ _
  have h := argmax_bit (K := 1) (n := 20) (by decide) (r_v128 V0) (r_call14_v0 V0) (r_call14_c V0) (r_call14_c_0 V0)
    (fun _ _ _ => rfl) (fun _ => rfl) (fun _ => rfl) reducesTo_S64x1x20_S64x1_d2 b 0 0 rfl
  simp only [r128] at h
  exact h

/-- The sentence end of the `k`-th start. -/
def gj (b : Fin 64) (k : Fin 1) : Fin 20 := jidx (sq V0 b) (BitVec.ofNat 32 (gs V0 b k).val)

theorem r131 (b : Fin 64) (k : Fin 1) : (r_v131 V0 : Vec Ideal S64x1 .i32) (ix2 b k) = BitVec.ofNat 32 (gj V0 b k).val := by
  obtain rfl : k = 0 := Subsingleton.elim _ _
  unfold gj jidx
  rw [← any_first _ 0 19 _ (r130 V0 b 0), ← r129]
  pointwise [r_v131, r_call15_v2, r_call15_v1, r_call15_v0, r_c_27]
  rfl

theorem r138 (b : Fin 64) (k : Fin 1) :
    (r_v138 V0 : Vec Ideal S64x1 .i32) (ix2 b k) = endg (sq V0 b) (BitVec.ofNat 32 (gs V0 b k).val) := by
  obtain rfl : k = 0 := Subsingleton.elim _ _
  unfold r_v138
  refine gather_sep1 _ _ b 0 (gj V0 b 0) ?_
  have e : (r_v137 V0 : Vec Ideal S64x1x1 .i32) (ix3 b 0 0) =
      Scalar.select (IntOp.cmpi .slt ((r_v131 V0 : Vec Ideal S64x1 .i32) (ix2 b 0)) 0#32)
        (IntOp.addi ((r_v131 V0 : Vec Ideal S64x1 .i32) (ix2 b 0)) 20#32) ((r_v131 V0 : Vec Ideal S64x1 .i32) (ix2 b 0)) := by
    pointwise [r_v137, r_v136, r_v135, r_v134, r_v133, r_v132, r_c_28, r_c_29]
  rw [e, r131]
  have := (gj V0 b 0).isLt
  rw [show IntOp.cmpi .slt (BitVec.ofNat 32 (gj V0 b 0).val) 0#32 = 0#1 from nonneg_slt _ (by omega), select_zero]

theorem r142 (b : Fin 64) (k : Fin 1) :
    (r_v142 V0 : Vec Ideal S64x1 .i1) (ix2 b k) =
      ok (sq V0 b) (lg V0 2 b 0) (gx V0 b (gs V0 b k)) (BitVec.ofNat 32 (gs V0 b k).val) := by
  obtain rfl : k = 0 := Subsingleton.elim _ _
  unfold ok
  rw [← r138, ← rindices24, ← rvalues23, ← r113]
  pointwise [r_v142, r_v141, r_v140, r_v139, r_v139]

/-! ### The window of end positions -/

theorem r146 (b : Fin 64) (k : Fin 1) :
    (r_v146 V0 : Vec Ideal S64x1 .i1) (ix2 b k) = 1#1 ↔ ∀ k' : Fin 1, k' ≤ k → (r_v142 V0 : Vec Ideal S64x1 .i1) (ix2 b k') = 1#1 := by
  obtain rfl : k = 0 := Subsingleton.elim _ _
  have e : (r_v146 V0 : Vec Ideal S64x1 .i1) (ix2 b 0) = IntOp.cmpi .sgt ((r_v144 V0 : Vec Ideal S64x1 .i32) (ix2 b 0)) 0#32 := by
    pointwise [r_v146, r_v145, r_c_30]
  have h : (0 < ((r_v144 V0 : Vec Ideal S64x1 .i32) (ix2 b 0)).toInt) ↔ _ :=
    running_min (n := 0) (r_v143 V0) (r_call16_v0 V0) (fun _ => rfl) reduceWindows_S64x1_S64x1_w1s1p0_0_w1s1p0_0 b 0
  have hok : ∀ k', (0 < ((r_v143 V0 : Vec Ideal S64x1 .i32) (ix2 b k')).toInt) ↔ (r_v142 V0 : Vec Ideal S64x1 .i1) (ix2 b k') = 1#1 := by
    intro k'
    have e50 : (r_v143 V0 : Vec Ideal S64x1 .i32) (ix2 b k') = ((r_v142 V0 : Vec Ideal S64x1 .i1) (ix2 b k')).setWidth 32 := rfl
    rw [e50]
    rcases bit_cases ((r_v142 V0 : Vec Ideal S64x1 .i1) (ix2 b k')) with h' | h' <;> rw [h'] <;> decide
  rw [e]
  have hc : ∀ a : BitVec 32, IntOp.cmpi .sgt a 0#32 = 1#1 ↔ 0 < a.toInt := by
    intro a
    have h0 : (0#32).toInt = 0 := rfl
    rw [← h0, ← BitVec.slt_iff_toInt_lt]
    unfold IntOp.cmpi
    cases (0#32).slt a <;> simp
  rw [hc, h]
  exact forall_congr' fun k' => imp_congr_right fun _ => hok k'

/-- The window of end logits of the `k`-th start. -/
def gw (b : Fin 64) (k : Fin 1) (i : Fin 10) : EReal :=
  Scalar.select (IntOp.cmpi .slt (BitVec.ofNat 32 ((gs V0 b k).val + i.val)) (cap (sq V0 b) (BitVec.ofNat 32 (gs V0 b k).val)))
    (lg V0 3 b ⟨min ((gs V0 b k).val + i.val) 511, by omega⟩) ⊥

theorem r156 (b : Fin 64) (k : Fin 1) (i : Fin 10) :
    (r_v156 V0 : Vec Ideal S64x1x10 .i32) (ix3 b k i) = BitVec.ofNat 32 ((gs V0 b k).val + i.val) := by
  obtain rfl : k = 0 := Subsingleton.elim _ _
  have e : (r_v156 V0 : Vec Ideal S64x1x10 .i32) (ix3 b 0 i) =
      IntOp.addi ((r_indices_24 V0 : Vec Ideal S64x1 .i32) (ix2 b 0)) (BitVec.ofNat 32 i.val) := by
    pointwise [r_v156, r_v155, r_v154, r_v153, r_v152, r_v151, r_v150]
  rw [e, rindices24, BitVec.ofNat_add]
  rfl

theorem r167 (b : Fin 64) (k : Fin 1) (i : Fin 10) :
    (r_v167 V0 : Vec Ideal S64x1x10 .f32) (ix3 b k i) = lg V0 3 b ⟨min ((gs V0 b k).val + i.val) 511, by omega⟩ := by
  obtain rfl : k = 0 := Subsingleton.elim _ _
  rw [← r13]
  unfold r_v167
  refine gather_end1 _ _ b 0 i ⟨min ((gs V0 b 0).val + i.val) 511, by omega⟩ ?_
  have e : (r_v166 V0 : Vec Ideal S64x1x10x1 .i32) (ix4 b 0 i 0) =
      Scalar.select (IntOp.cmpi .slt ((r_v160 V0 : Vec Ideal S64x1x10 .i32) (ix3 b 0 i)) 0#32)
        (IntOp.addi ((r_v160 V0 : Vec Ideal S64x1x10 .i32) (ix3 b 0 i)) 512#32) ((r_v160 V0 : Vec Ideal S64x1x10 .i32) (ix3 b 0 i)) := by
    pointwise [r_v166, r_v165, r_v164, r_v163, r_v162, r_v161, r_c_34, r_c_35]
  have e' : (r_v160 V0 : Vec Ideal S64x1x10 .i32) (ix3 b 0 i) =
      IntOp.minsi 511#32 (IntOp.maxsi 0#32 ((r_v156 V0 : Vec Ideal S64x1x10 .i32) (ix3 b 0 i))) := by
    pointwise [r_v160, r_call17_v4, r_call17_v3, r_call17_v2, r_call17_v1, r_call17_v0, r_c_32, r_c_33]
    rfl
  have := (gs V0 b 0).isLt
  rw [e, e', r156, clip _ (by omega), nonneg_slt _ (by omega), select_zero]

theorem r168 (b : Fin 64) (k : Fin 1) (i : Fin 10) : (r_v168 V0 : Vec Ideal S64x1x10 .f32) (ix3 b k i) = gw V0 b k i := by
  obtain rfl : k = 0 := Subsingleton.elim _ _
  unfold gw cap
  rw [← r167, ← r138, ← r156, ← rindices24, ← ofBits_bot]
  pointwise [r_v168, r_v159, r_v158, r_v157, r_v149, r_v148, r_v147, r_c_31, r_call18_v2, r_call18_v1, r_call18_v0, r_cst_36]
  rfl

theorem r169 (b : Fin 64) (k : Fin 1) :
    (r_v169 V0 : Vec Ideal S64x1 .i32) (ix2 b k) = BitVec.ofNat 32 (am (gw V0 b k)).val := by
  obtain rfl : k = 0 := Subsingleton.elim _ _
  have h := argmax_float (K := 1) (n := 10) (by decide) (r_v168 V0) (r_call19_v0 V0) (r_call19_cst V0) (r_call19_c V0)
    (fun _ _ _ => rfl) (fun _ => rfl) (fun _ => ofBits_bot) reducesTo_S64x1x10_S64x1_d2 b 0
  simp only [r168] at h
  exact h

/-! ### The table -/

theorem r176 (b : Fin 64) (k : Fin 1) (r : Fin 3) :
    (r_v176 V0 : Vec Ideal S64x1x3 .i32) (ix3 b k r) =
      Scalar.select ((r_v146 V0 : Vec Ideal S64x1 .i1) (ix2 b k))
        (if r.val = 2 then BitVec.ofNat 32 (gj V0 b k).val
          else if r.val = 1 then BitVec.ofNat 32 ((gs V0 b k).val + (am (gw V0 b k)).val) else BitVec.ofNat 32 (gs V0 b k).val) 0#32 := by
  obtain rfl : k = 0 := Subsingleton.elim _ _
  rw [BitVec.ofNat_add, ← r131, ← r169, ← rindices24]
  fin_cases r
  all_goals
    pointwise [r_v176, r_v175, r_v174, r_v173, r_v172, r_v171, r_v170, r_call20_v3, r_call20_v2, r_call20_v1, r_call20_v0, r_c_37]
    try rfl

theorem r199 (b : Fin 64) : (r_v199 V0 : Vec Ideal S64 .i1) (ix1 b) = IntOp.cmpi .sgt (sq V0 b 0) 0#32 := by
  unfold sq
  pointwise [r_v199, r_v198, r_v197, r_v196, r_c_43]

theorem r200 (b : Fin 64) (k : Fin 1) (r : Fin 3) :
    (r_v200 V0 : Vec Ideal S64x1x3 .i32) (ix3 b k r) =
      Scalar.select (IntOp.cmpi .sgt (sq V0 b 0) 0#32) ((r_v176 V0 : Vec Ideal S64x1x3 .i32) (ix3 b k r)) 0#32 := by
  obtain rfl : k = 0 := Subsingleton.elim _ _
  rw [← r199]
  pointwise [r_v200, r_call24_v3, r_call24_v2, r_call24_v1, r_call24_v0, r_c_44]
  try rfl

/-! ### The gap -/

theorem r178 (b : Fin 64) : (r_v178 V0 : Vec Ideal S64 .i32) (ix1 b) = 0#32 := by
  have h : ∀ p ∈ Host.argReduceFiber (r_v177 V0) (r_call21_v0 V0) reducesTo_S64x1_S64_d1 (ix1 b), p.2 = 0#32 := by
    intro p hp
    rw [mem_fiber] at hp
    obtain ⟨i, -, rfl⟩ := hp
    have hi : i 1 = (0 : Fin 1) := Subsingleton.elim (α := Fin 1) _ _
    show BitVec.ofNat 32 (i 1).val = 0#32
    rw [hi]
    rfl
  have hf : ∀ (l : List (BitVec 1 × BitVec 32)) (z : BitVec 1 × BitVec 32), z.2 = 0#32 → (∀ p ∈ l, p.2 = 0#32) →
      (l.foldl reducer_argmax_i1_i32 z).2 = 0#32 := by
    intro l
    induction l with
    | nil => exact fun z hz _ => hz
    | cons a l ih =>
      intro z hz hl
      refine ih _ ?_ fun p hp => hl p (List.mem_cons_of_mem _ hp)
      rcases (best_bit z a).1 with h' | h' <;> rw [h']
      · exact hz
      · exact hl a List.mem_cons_self
  unfold r_v178
  beta_reduce
  rw [Host.reduce2_eq_foldl_fiber]
  exact hf _ _ rfl h

theorem r183 (b : Fin 64) (k : Fin 1) : (r_v183 V0 : Vec Ideal S64x1 .i1) (ix2 b k) = 1#1 := by
  obtain rfl : k = 0 := Subsingleton.elim _ _
  have e : (r_v183 V0 : Vec Ideal S64x1 .i1) (ix2 b 0) = IntOp.cmpi .eq 0#32 ((r_v178 V0 : Vec Ideal S64 .i32) (ix1 b)) := by
    pointwise [r_v183, r_v182, r_v181, r_v180, r_v179]
  rw [e, r178]
  rfl

theorem r140 (b : Fin 64) : (r_v140 V0 : Vec Ideal S64x1 .i1) (ix2 b 0) =
    BitVec.ofBool (decide (lg V0 2 b 0 < gx V0 b (gs V0 b 0))) := by
  rw [← rvalues23, ← r113]
  pointwise [r_v140, r_v139]

theorem r189 (b : Fin 64) : (r_v189 V0 : Vec Ideal S64 .i1) (ix1 b) =
    IntOp.andi (~~~(r_v142 V0 : Vec Ideal S64x1 .i1) (ix2 b 0)) (~~~(r_v140 V0 : Vec Ideal S64x1 .i1) (ix2 b 0)) := by
  have e : (r_v189 V0 : Vec Ideal S64 .i1) (ix1 b) = IntOp.andi
    (Finset.univ.fold IntOp.ori 0#1 fun k => ~~~(r_v142 V0 : Vec Ideal S64x1 .i1) (ix2 b k))
    (~~~(Finset.univ.fold IntOp.ori 0#1 fun k => IntOp.andi ((r_v183 V0 : Vec Ideal S64x1 .i1) (ix2 b k)) ((r_v140 V0 : Vec Ideal S64x1 .i1) (ix2 b k)))) := by
    pointwise [r_v189, r_v188, r_v187, r_v186, r_v185, r_v184, r_c_38, r_c_39]
  rw [e]
  simp only [r183]
  rcases bit_cases ((r_v142 V0 : Vec Ideal S64x1 .i1) (ix2 b 0)) with h | h <;>
    rcases bit_cases ((r_v140 V0 : Vec Ideal S64x1 .i1) (ix2 b 0)) with h' | h' <;>
    simp [h, h', IntOp.andi, IntOp.ori]

theorem r194 (b : Fin 64) : (r_v194 V0 : Vec Ideal S64 .f32) (ix1 b) = lg V0 2 b 0 - gx V0 b (gs V0 b 0) := by
  have e : (r_v194 V0 : Vec Ideal S64 .f32) (ix1 b) = (r_v11 V0 : Vec Ideal S64x512 .f32) (ix2 b 0) -
      ∑ k : Fin 1, Scalar.select ((r_v183 V0 : Vec Ideal S64x1 .i1) (ix2 b k)) ((r_values_23 V0 : Vec Ideal S64x1 .f32) (ix2 b k)) 0 := by
    pointwise [r_v194, r_v193, r_v192, r_v191, r_v190, r_call22_v2, r_call22_v1, r_call22_v0, r_cst_40, r_cst_41]
    exact congrArg (fun z : EReal => (r_v11 V0 : Vec Ideal S64x512 .f32) (ix2 b 0) - ∑ k : Fin 1, Scalar.select ((r_v183 V0 : Vec Ideal S64x1 .i1) (ix2 b k)) ((r_values_23 V0 : Vec Ideal S64x1 .f32) (ix2 b k)) z) Ideal.ofBits_zero_f32
  rw [e]
  simp only [r183, select_one, Finset.univ_unique, Finset.sum_singleton]
  rw [r11]
  exact congrArg _ (rvalues23 V0 b 0)

theorem r201 (b : Fin 64) : (r_v201 V0 : Vec Ideal S64 .f32) (ix1 b) =
    Scalar.select (IntOp.cmpi .sgt (sq V0 b 0) 0#32)
      (Scalar.select (IntOp.andi (~~~(r_v142 V0 : Vec Ideal S64x1 .i1) (ix2 b 0)) (~~~(r_v140 V0 : Vec Ideal S64x1 .i1) (ix2 b 0)))
        (lg V0 2 b 0 - gx V0 b (gs V0 b 0)) 0) 0 := by
  rw [← r199, ← r189, ← r194]
  pointwise [r_v201, r_call25_v1, r_call25_v0, r_cst_45, r_v195, r_call23_v1, r_call23_v0, r_cst_42]
  exact congrArg (fun z : EReal => Scalar.select ((r_v199 V0 : Vec Ideal S64 .i1) (ix1 b)) (Scalar.select ((r_v189 V0 : Vec Ideal S64 .i1) (ix1 b)) ((r_v194 V0 : Vec Ideal S64 .f32) (ix1 b)) z) z) Ideal.ofBits_zero_f32

/-! ### The first rows -/

theorem r1 (b : Fin 64) (k : Fin 1024) : (r_v1 V0 : Vec Ideal S64x1024 .f32) (ix2 b k) = bX V0 (ix3 b 0 k) := by
  pointwise [r_v1, r_v0]

end Cert.ReferenceIdeal.Value
-- ==== Proof.Match.lean ====
/-
  The search by sorting and the search by repeated maximum agree: the starts that pass, their validity and their ends.
-/
module

public import proofs.«01_k».proof.Proof.Words

@[expose] public section

set_option maxRecDepth 16384

noncomputable section

namespace Cert.Span

open Idealize.ShloMosaic

theorem ofBool_one (p : Bool) : BitVec.ofBool p = 1#1 ↔ p = true := by cases p <;> decide

theorem andi_one (a b : BitVec 1) : IntOp.andi a b = 1#1 ↔ a = 1#1 ∧ b = 1#1 := by
  rcases bit_cases a with rfl | rfl <;> rcases bit_cases b with rfl | rfl <;> decide

theorem bit_ext {a b : BitVec 1} (h : a = 1#1 ↔ b = 1#1) : a = b := by
  rcases bit_cases a with rfl | rfl <;> rcases bit_cases b with rfl | rfl <;> simp_all

theorem sgt_one (a b : BitVec 32) : IntOp.cmpi .sgt a b = 1#1 ↔ b.toInt < a.toInt := by
  rw [← BitVec.slt_iff_toInt_lt]
  exact ofBool_one _

theorem slt_one (a b : BitVec 32) : IntOp.cmpi .slt a b = 1#1 ↔ a.toInt < b.toInt := by
  rw [← BitVec.slt_iff_toInt_lt]
  exact ofBool_one _

theorem sge_one (a b : BitVec 32) : IntOp.cmpi .sge a b = 1#1 ↔ b.toInt ≤ a.toInt := by
  rw [← BitVec.sle_iff_toInt_le]
  exact ofBool_one _

variable (q : Fin 20 → BitVec 32) (x : Fin 512 → EReal) (th : EReal)

/-- The `k`-th start by sorting passes exactly where the `k`-th by repeated maximum does. -/
theorem ok_src (k : Fin 512) : ok q th (x (src x k)) (BitVec.ofNat 32 (src x k).val) = okAt q x th k.val := by
  obtain ⟨-, hv, hs⟩ := src_rest x k
  unfold okAt start
  rw [← hv]
  by_cases h : th < x (src x k)
  · rw [hs (by rw [← hv]; exact (lt_of_le_of_lt bot_le h).ne')]
  · apply bit_ext
    unfold ok
    rw [andi_one, andi_one, decide_eq_false h]
    simp

theorem start_src (k : Fin 512) (h : okAt q x th k.val = 1#1) : start x k.val = BitVec.ofNat 32 (src x k).val := by
  obtain ⟨-, hv, hs⟩ := src_rest x k
  unfold okAt ok at h
  rw [andi_one, ofBool_one, decide_eq_true_eq] at h
  unfold start
  rw [hs (lt_of_le_of_lt bot_le h.1).ne']

theorem validAt_iff (act : BitVec 1) (k : Nat) :
    validAt act q x th k = 1#1 ↔ act = 1#1 ∧ ∀ k' ≤ k, okAt q x th k' = 1#1 := by
  induction k with
  | zero =>
    unfold validAt
    rw [andi_one]
    simp
  | succ k ih =>
    unfold validAt
    rw [andi_one, ih, and_assoc]
    refine and_congr_right fun _ => ⟨fun h k' hk' => ?_, fun h => ⟨fun k' hk' => h k' (by omega), h _ le_rfl⟩⟩
    rcases Nat.lt_or_ge k k' with h' | h'
    · obtain rfl : k' = k + 1 := by omega
      exact h.2
    · exact h.1 k' h'

variable (e : Fin 512 → EReal)

theorem end_src (he : ∀ i, e i ≠ ⊥) (s : Fin 512) (hok : IntOp.cmpi .sgt (endg q (BitVec.ofNat 32 s.val)) (BitVec.ofNat 32 s.val) = 1#1)
    (w : Fin 10 → EReal) (hw : ∀ i : Fin 10, w i = Scalar.select (IntOp.cmpi .slt (BitVec.ofNat 32 (s.val + i.val)) (cap q (BitVec.ofNat 32 s.val)))
      (e ⟨min (s.val + i.val) 511, by omega⟩) ⊥) :
    endw q e (BitVec.ofNat 32 s.val) = BitVec.ofNat 32 (s.val + (am w).val) := by
  have hsl := s.isLt
  rw [sgt_one, toInt_ofNat_lt _ (by omega)] at hok
  have hadd : IntOp.addi (BitVec.ofNat 32 s.val) 10#32 = BitVec.ofNat 32 (s.val + 10) := (BitVec.ofNat_add _ _).symm
  have hcap : (s.val : ℤ) < (cap q (BitVec.ofNat 32 s.val)).toInt ∧ (cap q (BitVec.ofNat 32 s.val)).toInt ≤ s.val + 10 := by
    unfold cap
    rw [hadd]
    unfold IntOp.minsi
    have h10 := toInt_ofNat_lt (s.val + 10) (by omega)
    split
    · rename_i h
      rw [BitVec.slt_iff_toInt_lt, h10] at h
      push_cast at h
      exact ⟨hok, by omega⟩
    · rw [h10]
      push_cast
      omega
  have hslt : ∀ n : Nat, n < 1024 → (IntOp.cmpi .slt (BitVec.ofNat 32 n) (cap q (BitVec.ofNat 32 s.val)) = 1#1 ↔
      (n : ℤ) < (cap q (BitVec.ofNat 32 s.val)).toInt) := by
    intro n hn
    rw [slt_one, toInt_ofNat_lt _ (by omega)]
  unfold endw
  rw [am_window e he s (cap q (BitVec.ofNat 32 s.val)).toInt hcap.1 hcap.2 _ w ?_ ?_ ?_ ?_]
  · intro i h1 h2
    have := i.isLt
    unfold win
    rw [show IntOp.andi _ _ = 1#1 from (andi_one _ _).mpr ⟨(sge_one _ _).mpr ?_, (hslt _ (by omega)).mpr h2⟩, select_one]
    rw [toInt_ofNat_lt _ (by omega), toInt_ofNat_lt _ (by omega)]
    omega
  · intro i h
    have := i.isLt
    unfold win
    rw [(bit_cases (IntOp.andi _ _)).resolve_right fun hc => h ?_, select_zero]
    rw [andi_one, sge_one, hslt _ (by omega), toInt_ofNat_lt _ (by omega), toInt_ofNat_lt _ (by omega)] at hc
    exact ⟨by omega, hc.2⟩
  · intro k hk i hi
    have := k.isLt
    rw [hw, (hslt _ (by omega)).mpr hk, select_one]
    exact congrArg e (Fin.ext hi.symm)
  · intro k hk
    have := k.isLt
    rw [hw, (bit_cases _).resolve_right fun hc => hk ((hslt _ (by omega)).mp hc), select_zero]

/-- Where padding only follows a first separator that is not positive, the first separator tells whether all are positive. -/
theorem active_eq (h : IntOp.ori (IntOp.cmpi .sle (q 0) 0#32) (IntOp.cmpi .sgt (q 0) 0#32) = 1#1)
    (hq : ∀ k, IntOp.ori (IntOp.cmpi .sle (q 0) 0#32) (IntOp.cmpi .sgt (q k) 0#32) = 1#1) :
    IntOp.cmpi .sgt (q 0) 0#32 = active q := by
  obtain ⟨h1, h2⟩ := fold_minsi_bounds q 2147483647#32 Finset.univ
  have h0 : (0#32).toInt = 0 := rfl
  apply bit_ext
  unfold active
  rw [sgt_one, sgt_one, h0]
  constructor
  · intro hp
    rcases h2 with h2 | ⟨i, -, h2⟩
    · rw [h2]; decide
    · rw [h2]
      have hi := hq i
      have hz : IntOp.cmpi .sle (q 0) 0#32 = 0#1 := by
        refine (bit_cases _).resolve_right fun hc => ?_
        have hc' := (ofBool_one _).mp hc
        rw [BitVec.sle_iff_toInt_le] at hc'
        omega
      rw [hz] at hi
      have hi' : IntOp.cmpi .sgt (q i) 0#32 = 1#1 := by
        rcases bit_cases (IntOp.cmpi .sgt (q i) 0#32) with h' | h'
        · rw [h'] at hi
          exact absurd hi (by decide)
        · exact h'
      rw [sgt_one] at hi'
      omega
  · intro hp
    exact lt_of_lt_of_le hp (h1 0 (Finset.mem_univ _))

/-- One entry of the table, from the sorted starts. -/
theorem table_src (he : ∀ i, e i ≠ ⊥) (act v : BitVec 1) (k : Nat) (hk : k < 512) (r : Nat) (hr : r < 3)
    (hv : v = 1#1 ↔ ∀ k' : Nat, ∀ h : k' ≤ k, ok q th (x (src x ⟨k', by omega⟩)) (BitVec.ofNat 32 (src x ⟨k', by omega⟩).val) = 1#1)
    (w : Fin 10 → EReal) (hw : ∀ i : Fin 10, w i = Scalar.select (IntOp.cmpi .slt (BitVec.ofNat 32 ((src x ⟨k, hk⟩).val + i.val))
      (cap q (BitVec.ofNat 32 (src x ⟨k, hk⟩).val))) (e ⟨min ((src x ⟨k, hk⟩).val + i.val) 511, by omega⟩) ⊥) :
    Scalar.select act (Scalar.select v (if r = 2 then BitVec.ofNat 32 (jidx q (BitVec.ofNat 32 (src x ⟨k, hk⟩).val)).val
      else if r = 1 then BitVec.ofNat 32 ((src x ⟨k, hk⟩).val + (am w).val) else BitVec.ofNat 32 (src x ⟨k, hk⟩).val) 0#32) 0#32 =
      table act q e x th (k * 3 + r) := by
  have hd : (k * 3 + r) / 3 = k := by omega
  have hm : (k * 3 + r) % 3 = r := by omega
  have hv' : v = 1#1 ↔ ∀ k' ≤ k, okAt q x th k' = 1#1 := by
    rw [hv]
    refine forall_congr' fun k' => forall_congr' fun h => ?_
    rw [ok_src q x th ⟨k', by omega⟩]
  unfold table
  rw [hd, hm]
  unfold spanSep spanEnd spanStart
  by_cases hall : validAt act q x th k = 1#1
  · obtain ⟨ha, hoks⟩ := (validAt_iff q x th act k).mp hall
    have hok := hoks k le_rfl
    have hst := start_src q x th ⟨k, hk⟩ hok
    have hen : endw q e (BitVec.ofNat 32 (src x ⟨k, hk⟩).val) = BitVec.ofNat 32 ((src x ⟨k, hk⟩).val + (am w).val) := by
      refine end_src q e he _ ?_ w hw
      have := ok_src q x th ⟨k, hk⟩
      rw [hok] at this
      unfold ok at this
      exact ((andi_one _ _).mp this).2
    rw [hall, hv'.mpr hoks, ha]
    simp only [select_one]
    dsimp only at hst
    rw [hst, hen]
  · have h0 := (bit_cases _).resolve_right hall
    rw [h0]
    have : Scalar.select act (Scalar.select v (if r = 2 then BitVec.ofNat 32 (jidx q (BitVec.ofNat 32 (src x ⟨k, hk⟩).val)).val
      else if r = 1 then BitVec.ofNat 32 ((src x ⟨k, hk⟩).val + (am w).val) else BitVec.ofNat 32 (src x ⟨k, hk⟩).val) 0#32) 0#32 = 0#32 := by
      rcases bit_cases act with ha | ha
      · rw [ha, select_zero]
      · rcases bit_cases v with hb | hb
        · rw [hb, select_zero, ha, select_one]
        · exact absurd ((validAt_iff q x th act k).mpr ⟨ha, hv'.mp hb⟩) hall
    rw [this]
    simp only [select_zero]
    split
    · rfl
    · split <;> rfl

/-- The gap, from the greatest start logit. -/
theorem gap_src (act okb c1 : BitVec 1) (hc : c1 = BitVec.ofBool (decide (th < x (src x 0)))) (hok : okb = 1#1 → c1 = 1#1) :
    Scalar.select act (Scalar.select (IntOp.andi (~~~okb) (~~~c1)) (th - x (src x 0)) 0) 0 = gap act x th := by
  have hv : x (src x 0) = mx x := (src_rest x 0).2.1
  unfold gap
  rw [← hv]
  by_cases h : th < x (src x 0)
  · have h1 : c1 = 1#1 := by rw [hc, decide_eq_true h]; rfl
    rw [h1, decide_eq_false (not_le.mpr h)]
    rcases bit_cases act with rfl | rfl <;> rcases bit_cases okb with rfl | rfl <;> rfl
  · have h1 : c1 = 0#1 := by rw [hc, decide_eq_false h]; rfl
    have h2 : okb = 0#1 := (bit_cases _).resolve_right fun h' => by
      rw [hok h'] at h1
      exact absurd h1 (by decide)
    rw [h1, h2, decide_eq_true (not_lt.mp h)]
    rcases bit_cases act with rfl | rfl <;> rfl

end Cert.Span
-- ==== Proof.Arith.lean ====
/-
  Sums and products of real numbers stay real, and the separators at a coordinate: what the precondition gives.
-/
module

public import proofs.«01_k».proof.Defs
public import proofs.«01_k».proof.Proof.Match
public import Idealize.ShloMosaic.Lib.Pipeline.ValueKit

@[expose] public section

set_option maxRecDepth 16384
set_option maxHeartbeats 1600000

noncomputable section

namespace Cert.Pre_finite_and_padded

instance facts : Facts where
  bcast_S_S64x512x1024 := by decide
  bcast_S_S1024x4 := by decide
  bcast_S_S4 := by decide
  slices_S64x20_S64x1_0_0 := by decide
  bcast_S_S64x1 := by decide
  bcast_S_S64x20 := by decide
  bcast_S64x1_S64x20_0_1 := by decide

open Idealize.ShloMosaic Cert.Span

theorem ofBits_top : Ideal.ofBits .f32 0x7F800000#32 = ⊤ := by simp [Ideal.ofBits, Ideal.ieee]

theorem finite_of (a : EReal) (h : FloatOps.cmpf (F := Ideal) (φ := .f32) .olt (FloatOps.absf (F := Ideal) (φ := .f32) a) (Ideal.ofBits .f32 0x7F800000#32) = 1#1) :
    a ≠ ⊥ ∧ a ≠ ⊤ := by
  rw [ofBits_top] at h
  have h' := of_decide_eq_true ((ofBool_one _).mp h)
  constructor
  · rintro rfl
    simp [FloatOps.absf] at h'
  · rintro rfl
    simp [FloatOps.absf] at h'

variable (X : Vec Ideal S64x512x1024 .f32) (W : Vec Ideal S1024x4 .f32) (B : Vec Ideal S4 .f32) (Q : Vec Ideal S64x20 .i32)
  (T : Vec Ideal S64 .i32) (M5 M6 M7 M8 : Vec Ideal S64x512 .f32)

theorem real_x (h : (fn (F := Ideal) X W B Q T M5 M6 M7 M8).1 = fun _ => 1#1) (b : Fin 64) (i : Fin 512) (k : Fin 1024) :
    X (ix3 b i k) ≠ ⊥ ∧ X (ix3 b i k) ≠ ⊤ := by
  refine finite_of _ ((congrFun h (ix3 b i k)).symm.trans ?_).symm
  pointwise [fn]

theorem real_w (h : (fn (F := Ideal) X W B Q T M5 M6 M7 M8).2.1 = fun _ => 1#1) (k : Fin 1024) (j : Fin 4) :
    W (ix2 k j) ≠ ⊥ ∧ W (ix2 k j) ≠ ⊤ := by
  refine finite_of _ ((congrFun h (ix2 k j)).symm.trans ?_).symm
  pointwise [fn]

theorem real_b (h : (fn (F := Ideal) X W B Q T M5 M6 M7 M8).2.2.1 = fun _ => 1#1) (j : Fin 4) :
    B (ix1 j) ≠ ⊥ ∧ B (ix1 j) ≠ ⊤ := by
  refine finite_of _ ((congrFun h (ix1 j)).symm.trans ?_).symm
  pointwise [fn]

theorem padded (h : (fn (F := Ideal) X W B Q T M5 M6 M7 M8).2.2.2 = fun _ => 1#1) (b : Fin 64) (k : Fin 20) :
    IntOp.ori (IntOp.cmpi .sle (Q (ix2 b 0)) 0#32) (IntOp.cmpi .sgt (Q (ix2 b k)) 0#32) = 1#1 := by
  refine ((congrFun h (ix2 b k)).symm.trans ?_).symm
  pointwise [fn]

theorem mul_real {a b : EReal} (ha : a ≠ ⊥ ∧ a ≠ ⊤) (hb : b ≠ ⊥ ∧ b ≠ ⊤) : a * b ≠ ⊥ ∧ a * b ≠ ⊤ := by
  lift a to ℝ using ⟨ha.2, ha.1⟩
  lift b to ℝ using ⟨hb.2, hb.1⟩
  rw [← EReal.coe_mul]
  exact ⟨EReal.coe_ne_bot _, EReal.coe_ne_top _⟩

theorem add_real {a b : EReal} (ha : a ≠ ⊥ ∧ a ≠ ⊤) (hb : b ≠ ⊥ ∧ b ≠ ⊤) : a + b ≠ ⊥ ∧ a + b ≠ ⊤ := by
  lift a to ℝ using ⟨ha.2, ha.1⟩
  lift b to ℝ using ⟨hb.2, hb.1⟩
  rw [← EReal.coe_add]
  exact ⟨EReal.coe_ne_bot _, EReal.coe_ne_top _⟩

theorem sum_real {ι : Type} (s : Finset ι) (f : ι → EReal) (hf : ∀ i, f i ≠ ⊥ ∧ f i ≠ ⊤) : (∑ i ∈ s, f i) ≠ ⊥ ∧ (∑ i ∈ s, f i) ≠ ⊤ := by
  classical
  induction s using Finset.induction_on with
  | empty => simp
  | insert a s ha ih =>
    rw [Finset.sum_insert ha]
    exact add_real (hf a) ih

end Cert.Pre_finite_and_padded
-- ==== Proof.Bridge.lean ====
/-
  Each result of the reference at a coordinate is the kernel's: the logits are the same sums, and the search the same search.
-/
module

public import proofs.«01_k».proof.Proof.RefRowB
public import proofs.«01_k».proof.Proof.KernelRun
public import proofs.«01_k».proof.Proof.Match
public import proofs.«01_k».proof.Proof.Arith

@[expose] public section

set_option maxRecDepth 16384
set_option maxHeartbeats 1600000

noncomputable section

namespace Cert.ReferenceIdeal.Value

open Cert.ReferenceIdeal Cert.ReferenceIdeal.Gen Idealize.ShloMosaic Idealize.ShloMosaic.TcCoe Idealize.SL.Sem Idealize.ShloMosaic.StableHlo Cert.Span
open Cert.KernelIdeal.Row (logits seps spans gaps)

variable (V0 : Val Ideal)

/-- What the precondition says of the arguments. -/
structure Good : Prop where
  x : ∀ b i k, bX V0 (ix3 b i k) ≠ ⊥ ∧ bX V0 (ix3 b i k) ≠ ⊤
  w : ∀ k j, bW V0 (ix2 k j) ≠ ⊥ ∧ bW V0 (ix2 k j) ≠ ⊤
  b : ∀ j, bB V0 (ix1 j) ≠ ⊥ ∧ bB V0 (ix1 j) ≠ ⊤
  pad : ∀ b k, IntOp.ori (IntOp.cmpi .sle (bQ V0 (ix2 b 0)) 0#32) (IntOp.cmpi .sgt (bQ V0 (ix2 b k)) 0#32) = 1#1

theorem lg_logits (h : Fin 4) (b : Fin 64) : lg V0 h b = logits (bX V0) (bW V0) (bB V0) h b := by
  funext i
  unfold lg logits
  exact congrArg (· + _) (Finset.sum_congr rfl fun k _ => mul_comm _ _)

variable {V0}

theorem lg_real (g : Good V0) (h : Fin 4) (b : Fin 64) (i : Fin 512) : lg V0 h b i ≠ ⊥ := by
  unfold lg
  exact (Cert.Pre_finite_and_padded.add_real (Cert.Pre_finite_and_padded.sum_real _ _ fun k =>
    Cert.Pre_finite_and_padded.mul_real (g.x b i k) (g.w k h)) (g.b h)).1

theorem act (g : Good V0) (b : Fin 64) : IntOp.cmpi .sgt (sq V0 b 0) 0#32 = active (sq V0 b) :=
  active_eq (sq V0 b) (g.pad b 0) (g.pad b)

theorem out0 (g : Good V0) (b : Fin 64) (k r : Fin 3) :
    (r_v108 V0 : Vec Ideal S64x3x3 .i32) (ix3 b k r) = spans (bX V0) (bW V0) (bB V0) (bQ V0) (bT V0) 0 1 b (k.val * 3 + r.val) := by
  rw [r108, r83, act g]
  unfold spans
  rw [← lg_logits, ← lg_logits]
  refine table_src (sq V0 b) (hx V0 b) (lg V0 0 b 0) (lg V0 1 b) (lg_real g 1 b) _ _ k.val (by omega) r.val r.isLt ?_ (hw V0 b k) fun i => rfl
  rw [r53]
  constructor
  · intro h k' hk'
    have := h ⟨k', by omega⟩ hk'
    rwa [r49] at this
  · intro h k' hk'
    rw [r49]
    exact h k'.val hk'

theorem out1 (g : Good V0) (b : Fin 64) (r : Fin 3) :
    (r_v200 V0 : Vec Ideal S64x1x3 .i32) (ix3 b 0 r) = spans (bX V0) (bW V0) (bB V0) (bQ V0) (bT V0) 2 3 b r.val := by
  rw [r200, r176, act g]
  unfold spans
  rw [← lg_logits, ← lg_logits]
  refine (table_src (sq V0 b) (gx V0 b) (lg V0 2 b 0) (lg V0 3 b) (lg_real g 3 b) _ _ 0 (by omega) r.val r.isLt ?_ (gw V0 b 0) fun i => rfl).trans
    (by rw [Nat.zero_mul, Nat.zero_add]; rfl)
  rw [r146]
  constructor
  · intro h k' hk'
    obtain rfl : k' = 0 := by omega
    have := h 0 le_rfl
    rwa [r142] at this
  · intro h k' _
    obtain rfl : k' = 0 := Subsingleton.elim _ _
    rw [r142]
    exact h 0 le_rfl

theorem out3 (g : Good V0) (b : Fin 64) :
    (r_v201 V0 : Vec Ideal S64 .f32) (ix1 b) = gaps (bX V0) (bW V0) (bB V0) (bQ V0) (bT V0) b := by
  rw [r201, act g]
  unfold gaps
  rw [← lg_logits]
  refine gap_src (gx V0 b) (lg V0 2 b 0) _ _ _ (r140 V0 b) fun h => ?_
  rw [r142] at h
  unfold ok at h
  rw [r140]
  exact ((andi_one _ _).mp h).1

end Cert.ReferenceIdeal.Value
-- ==== Proof.lean ====
/-
  The claims: the kernel and its idealization run and leave their arguments, the reference runs, and over the extended
  reals the kernel's four results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelOut
public import proofs.«01_k».proof.Proof.RefRun
public import proofs.«01_k».proof.Proof.Bridge
public import Idealize.ShloMosaic.Adequacy
public import Idealize.ShloMosaic.Lib.Quiescent
public import Idealize.ShloMosaic.Init

@[expose] public section

noncomputable section

namespace Cert.Proof

open Idealize.ShloMosaic Idealize.SL.Sem Idealize.ShloMosaic.StableHlo

/-- The reference's run, its counters included: it declares no semaphore. -/
theorem reference_run : Cert.quiescent_ReferenceIdeal := by
  intro m g _
  exact (θ_run Cert.ReferenceIdeal.defs _ _).mono
    (fun r h => ⟨fun c => (h c).2.2.2.2, sem_eq_zero_of_no_sems (by decide) r.2⟩) (Cert.ReferenceIdeal.Value.run (F := Ideal) m g)

theorem value : Cert.algebraic_KernelIdeal_ReferenceIdeal_pre_finite_and_padded := by
  intro m g m' g' hpre hag
  have good : ∀ c, Cert.ReferenceIdeal.Value.Good (launchContents m' c) := by
    intro c
    obtain ⟨p0, p1, p2, p3⟩ := hpre c
    obtain ⟨a0, a1, a2, a3, -⟩ := hag c
    refine ⟨fun b i k => ?_, fun k j => ?_, fun j => ?_, fun b k => ?_⟩
    · have := Cert.Pre_finite_and_padded.real_x _ _ _ _ _ _ _ _ _ p0 b i k
      rw [← a0] at this
      exact this
    · have := Cert.Pre_finite_and_padded.real_w _ _ _ _ _ _ _ _ _ p1 k j
      rw [← a1] at this
      exact this
    · have := Cert.Pre_finite_and_padded.real_b _ _ _ _ _ _ _ _ _ p2 j
      rw [← a2] at this
      exact this
    · have := Cert.Pre_finite_and_padded.padded _ _ _ _ _ _ _ _ _ p3 b k
      rw [← a3] at this
      exact this
  have same : ∀ c, Cert.ReferenceIdeal.Value.bX (launchContents m' c) = Cert.KernelIdeal.Row.aX m c ∧
      Cert.ReferenceIdeal.Value.bW (launchContents m' c) = Cert.KernelIdeal.Row.aW m c ∧
      Cert.ReferenceIdeal.Value.bB (launchContents m' c) = Cert.KernelIdeal.Row.aB m c ∧
      Cert.ReferenceIdeal.Value.bQ (launchContents m' c) = Cert.KernelIdeal.Row.aQ m c ∧
      Cert.ReferenceIdeal.Value.bT (launchContents m' c) = Cert.KernelIdeal.Row.aT m c :=
    fun c => ⟨(hag c).1, (hag c).2.1, (hag c).2.2.1, (hag c).2.2.2.1, (hag c).2.2.2.2.1⟩
  refine ⟨fun c => Cert.KernelIdeal.Row.fin m c Cert.KernelIdeal.main_v4, fun c => Cert.KernelIdeal.Row.fin m c Cert.KernelIdeal.main_v5,
    fun c => Cert.KernelIdeal.Row.fin m c Cert.KernelIdeal.main_v6, fun c => Cert.KernelIdeal.Row.fin m c Cert.KernelIdeal.main_v7, ?_, ?_⟩
  · exact (θ_run Cert.KernelIdeal.defs _ _).mono (fun r h c => ⟨(h c).1.1, (h c).1.2.1, (h c).1.2.2.1, (h c).1.2.2.2, (h c).2⟩)
      (Cert.KernelIdeal.Row.run m g)
  · refine (θ_run Cert.ReferenceIdeal.defs _ _).mono (fun r h c => ⟨(h c).1.trans ?_, (h c).2.1.trans ?_, (h c).2.2.1.trans ?_,
      (h c).2.2.2.1.trans ?_, (h c).2.2.2.2⟩) (Cert.ReferenceIdeal.Value.run (F := Ideal) m' g')
    all_goals obtain ⟨hX, hW, hB, hQ, hT⟩ := same c
    · funext i
      obtain ⟨b, k, r, rfl⟩ : ∃ b k r, i = ix3 b k r := ⟨i 0, i 1, i 2, by funext a; fin_cases a <;> rfl⟩
      refine (Cert.ReferenceIdeal.Value.out0 (good c) b k r).trans ?_
      rw [hX, hW, hB, hQ, hT]
      exact (Cert.KernelIdeal.Row.fin4 m c b k r).symm
    · funext i
      obtain ⟨b, k, r, rfl⟩ : ∃ b k r, i = ix3 b k r := ⟨i 0, i 1, i 2, by funext a; fin_cases a <;> rfl⟩
      obtain rfl : k = 0 := Subsingleton.elim (α := Fin 1) _ _
      refine (Cert.ReferenceIdeal.Value.out1 (good c) b r).trans ?_
      rw [hX, hW, hB, hQ, hT]
      exact (Cert.KernelIdeal.Row.fin5 m c b r).symm
    · funext i
      obtain ⟨b, k, rfl⟩ : ∃ b k, i = ix2 b k := ⟨i 0, i 1, by funext a; fin_cases a <;> rfl⟩
      refine (Cert.ReferenceIdeal.Value.r1 _ b k).trans ?_
      rw [hX]
      exact (Cert.KernelIdeal.Row.fin6 m c b k).symm
    · funext i
      obtain ⟨b, rfl⟩ : ∃ b, i = ix1 b := ⟨i 0, by funext a; fin_cases a; rfl⟩
      refine (Cert.ReferenceIdeal.Value.out3 (good c) b).trans ?_
      rw [hX, hW, hB, hQ, hT]
      exact (Cert.KernelIdeal.Row.fin7 m c b).symm

theorem claim : Cert.Claim :=
  ⟨Cert.Kernel.Gen.facts, Cert.KernelIdeal.Gen.facts, Cert.ReferenceIdeal.Gen.facts, Cert.Pre_finite_and_padded.facts,
    fun m g _ => Cert.Kernel.Gen.frame m g, fun m g _ => Cert.KernelIdeal.Gen.frame m g, fun m g _ => Cert.KernelIdeal.Gen.frame m g,
    reference_run, fun m g _ => reference_run m g trivial, trivial, value⟩

end Cert.Proof

end
